-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v150_0)) (v1 : (c : Dev Cert.Kernel3Ideal.nD) → Buf (Elt Ideal) ((c.tc : Thread Cert.Kernel3Ideal.nD Cert.Kernel3Ideal.τ).loc Cert.Kernel3Ideal.main_v150_1)) (v2 : (c : Dev Cert.Kernel3Ideal.nD) → Buf (Elt Ideal) ((c.tc : Thread Cert.Kernel3Ideal.nD Cert.Kernel3Ideal.τ).loc Cert.Kernel3Ideal.main_v150_2)) (v3 : (c : Dev Cert.Kernel3Ideal.nD) → Buf (Elt Ideal) ((c.tc : Thread Cert.Kernel3Ideal.nD Cert.Kernel3Ideal.τ).loc Cert.Kernel3Ideal.main_v150_3)) (v4 : (c : Dev Cert.Kernel3Ideal.nD) → Buf (Elt Ideal) ((c.tc : Thread Cert.Kernel3Ideal.nD Cert.Kernel3Ideal.τ).loc Cert.Kernel3Ideal.main_v150_4)) (v5 : (c : Dev Cert.Kernel3Ideal.nD) → Buf (Elt Ideal) ((c.tc : Thread Cert.Kernel3Ideal.nD Cert.Kernel3Ideal.τ).loc Cert.Kernel3Ideal.main_v150_5)) (v6 : (c : Dev Cert.Kernel3Ideal.nD) → Buf (Elt Ideal) ((c.tc : Thread Cert.Kernel3Ideal.nD Cert.Kernel3Ideal.τ).loc Cert.Kernel3Ideal.main_v150_6)) (v7 : (c : Dev Cert.Kernel3Ideal.nD) → Buf (Elt Ideal) ((c.tc : Thread Cert.Kernel3Ideal.nD Cert.Kernel3Ideal.τ).loc Cert.Kernel3Ideal.main_v150_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v150_0) = v0 c
          ∧ r.2.mem ((c.tc : Thread Cert.Kernel3Ideal.nD Cert.Kernel3Ideal.τ).loc Cert.Kernel3Ideal.main_v150_1) = v1 c
          ∧ r.2.mem ((c.tc : Thread Cert.Kernel3Ideal.nD Cert.Kernel3Ideal.τ).loc Cert.Kernel3Ideal.main_v150_2) = v2 c
          ∧ r.2.mem ((c.tc : Thread Cert.Kernel3Ideal.nD Cert.Kernel3Ideal.τ).loc Cert.Kernel3Ideal.main_v150_3) = v3 c
          ∧ r.2.mem ((c.tc : Thread Cert.Kernel3Ideal.nD Cert.Kernel3Ideal.τ).loc Cert.Kernel3Ideal.main_v150_4) = v4 c
          ∧ r.2.mem ((c.tc : Thread Cert.Kernel3Ideal.nD Cert.Kernel3Ideal.τ).loc Cert.Kernel3Ideal.main_v150_5) = v5 c
          ∧ r.2.mem ((c.tc : Thread Cert.Kernel3Ideal.nD Cert.Kernel3Ideal.τ).loc Cert.Kernel3Ideal.main_v150_6) = v6 c
          ∧ r.2.mem ((c.tc : Thread Cert.Kernel3Ideal.nD Cert.Kernel3Ideal.τ).loc Cert.Kernel3Ideal.main_v150_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v167) = v0 c
          ∧ r.2.mem ((c.tc : Thread Cert.Reference3Ideal.nD Cert.Reference3Ideal.τ).loc Cert.Reference3Ideal.main_v168) = v1 c
          ∧ r.2.mem ((c.tc : Thread Cert.Reference3Ideal.nD Cert.Reference3Ideal.τ).loc Cert.Reference3Ideal.main_v169) = v2 c
          ∧ r.2.mem ((c.tc : Thread Cert.Reference3Ideal.nD Cert.Reference3Ideal.τ).loc Cert.Reference3Ideal.main_v170) = v3 c
          ∧ r.2.mem ((c.tc : Thread Cert.Reference3Ideal.nD Cert.Reference3Ideal.τ).loc Cert.Reference3Ideal.main_v171) = v4 c
          ∧ r.2.mem ((c.tc : Thread Cert.Reference3Ideal.nD Cert.Reference3Ideal.τ).loc Cert.Reference3Ideal.main_v172) = v5 c
          ∧ r.2.mem ((c.tc : Thread Cert.Reference3Ideal.nD Cert.Reference3Ideal.τ).loc Cert.Reference3Ideal.main_v173) = v6 c
          ∧ r.2.mem ((c.tc : Thread Cert.Reference3Ideal.nD Cert.Reference3Ideal.τ).loc Cert.Reference3Ideal.main_v164) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S4x8192x4x96 : Shape := ⟨4, ![4, 8192, 4, 96]⟩
abbrev S4x8192x4x64 : Shape := ⟨4, ![4, 8192, 4, 64]⟩
abbrev S4x256x4x96 : Shape := ⟨4, ![4, 256, 4, 96]⟩
abbrev S4x256x4x64 : Shape := ⟨4, ![4, 256, 4, 64]⟩
abbrev S_ : Shape := ⟨0, ![]⟩

class Facts : Prop where
  bcast_S_S4x8192x4x96 : S_.BroadcastsInDim S4x8192x4x96 (![] : Fin 0 → Fin S4x8192x4x96.rank)
  reducesTo_S4x8192x4x96_S_d0_1_2_3 : S4x8192x4x96.ReducesTo [0, 1, 2, 3] S_
  h_S_ : 0 < S_.numel
  bcast_S_S4x256x4x96 : S_.BroadcastsInDim S4x256x4x96 (![] : Fin 0 → Fin S4x256x4x96.rank)
  reducesTo_S4x256x4x96_S_d0_1_2_3 : S4x256x4x96.ReducesTo [0, 1, 2, 3] S_

variable [Facts]

def fn {F : FTy → Type} [FloatOps F] (main_arg0 : FVec F S4x8192x4x96 .f32) (main_arg1 : FVec F S4x8192x4x96 .f32) (main_arg2 : FVec F S4x8192x4x64 .f32) (main_arg3 : FVec F S4x256x4x96 .f32) (main_arg4 : FVec F S4x256x4x64 .f32) : IVec S_ 1 :=
  let main_v0 : FVec F S4x8192x4x96 .f32 := Host.absf main_arg0
  let main_cst : FVec F S_ .f32 := constant S_ .f32 0x7F800000#32
  let main_v1 : FVec F S4x8192x4x96 .f32 := broadcastInDim S4x8192x4x96 ![] bcast_S_S4x8192x4x96 main_cst
  let main_v2 : IVec S4x8192x4x96 1 := cmpf .olt main_v0 main_v1
  let main_c : IVec S_ 1 := constantI S_ 1 1#1
  let main_v3 : IVec S_ 1 := (fun x v => Host.reduce IntOp.andi x v reducesTo_S4x8192x4x96_S_d0_1_2_3 h_S_) main_v2 main_c
  let main_v4 : FVec F S4x8192x4x96 .f32 := Host.absf main_arg1
  let main_cst_0 : FVec F S_ .f32 := constant S_ .f32 0x7F800000#32
  let main_v5 : FVec F S4x8192x4x96 .f32 := broadcastInDim S4x8192x4x96 ![] bcast_S_S4x8192x4x96 main_cst_0
  let main_v6 : IVec S4x8192x4x96 1 := cmpf .olt main_v4 main_v5
  let main_c_1 : IVec S_ 1 := constantI S_ 1 1#1
  let main_v7 : IVec S_ 1 := (fun x v => Host.reduce IntOp.andi x v reducesTo_S4x8192x4x96_S_d0_1_2_3 h_S_) main_v6 main_c_1
  let main_v8 : IVec S_ 1 := andi main_v3 main_v7
  let main_v9 : FVec F S4x256x4x96 .f32 := Host.absf main_arg3
  let main_cst_2 : FVec F S_ .f32 := constant S_ .f32 0x7F800000#32
  let main_v10 : FVec F S4x256x4x96 .f32 := broadcastInDim S4x256x4x96 ![] bcast_S_S4x256x4x96 main_cst_2
  let main_v11 : IVec S4x256x4x96 1 := cmpf .olt main_v9 main_v10
  let main_c_3 : IVec S_ 1 := constantI S_ 1 1#1
  let main_v12 : IVec S_ 1 := (fun x v => Host.reduce IntOp.andi x v reducesTo_S4x256x4x96_S_d0_1_2_3 h_S_) main_v11 main_c_3
  let main_v13 : IVec S_ 1 := andi main_v8 main_v12
  main_v13
-- ==== Kernel.lean ====
abbrev S4x8192x4x96 : Shape := ⟨4, ![4, 8192, 4, 96]⟩
abbrev S4x8192x4x64 : Shape := ⟨4, ![4, 8192, 4, 64]⟩
abbrev S4x256x4x96 : Shape := ⟨4, ![4, 256, 4, 96]⟩
abbrev S4x256x4x64 : Shape := ⟨4, ![4, 256, 4, 64]⟩
abbrev S_ : Shape := ⟨0, ![]⟩
abbrev S4x8192x4x32 : Shape := ⟨4, ![4, 8192, 4, 32]⟩
abbrev S4x8192x4x128 : Shape := ⟨4, ![4, 8192, 4, 128]⟩
abbrev S4x8192x512 : Shape := ⟨3, ![4, 8192, 512]⟩
abbrev S4x512x8192 : Shape := ⟨3, ![4, 512, 8192]⟩
abbrev S4x8192x256 : Shape := ⟨3, ![4, 8192, 256]⟩
abbrev S4x256x8192 : Shape := ⟨3, ![4, 256, 8192]⟩
abbrev S4x256x4x32 : Shape := ⟨4, ![4, 256, 4, 32]⟩
abbrev S4x256x4x128 : Shape := ⟨4, ![4, 256, 4, 128]⟩
abbrev S4x256x512 : Shape := ⟨3, ![4, 256, 512]⟩
abbrev S4x256x256 : Shape := ⟨3, ![4, 256, 256]⟩
abbrev S1x256x2048 : Shape := ⟨3, ![1, 256, 2048]⟩
abbrev S1x8192x256 : Shape := ⟨3, ![1, 8192, 256]⟩
abbrev S1x128x8192 : Shape := ⟨3, ![1, 128, 8192]⟩
abbrev S1x256x256 : Shape := ⟨3, ![1, 256, 256]⟩
abbrev S1x128x256 : Shape := ⟨3, ![1, 128, 256]⟩
abbrev S1x2048x128 : Shape := ⟨3, ![1, 2048, 128]⟩
abbrev S1024x2048 : Shape := ⟨2, ![1024, 2048]⟩
abbrev S256x2048 : Shape := ⟨2, ![256, 2048]⟩
abbrev S1x1024x128 : Shape := ⟨3, ![1, 1024, 128]⟩
abbrev S1024x128 : Shape := ⟨2, ![1024, 128]⟩
abbrev S1x128x2048 : Shape := ⟨3, ![1, 128, 2048]⟩
abbrev S128x2048 : Shape := ⟨2, ![128, 2048]⟩
abbrev S2048 : Shape := ⟨1, ![2048]⟩
abbrev S1x2048 : Shape := ⟨2, ![1, 2048]⟩
abbrev S64x2048 : Shape := ⟨2, ![64, 2048]⟩
abbrev S1x64x1024 : Shape := ⟨3, ![1, 64, 1024]⟩
abbrev S64x1024 : Shape := ⟨2, ![64, 1024]⟩
abbrev S1x256x128 : Shape := ⟨3, ![1, 256, 128]⟩
abbrev S256x128 : Shape := ⟨2, ![256, 128]⟩
abbrev S1x64x256 : Shape := ⟨3, ![1, 64, 256]⟩
abbrev S64x256 : Shape := ⟨2, ![64, 256]⟩
abbrev S2048x128 : Shape := ⟨2, ![2048, 128]⟩

abbrev nBuf : Space → Nat
  | .hbm => 34
  | .vmem => 15
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S4x256x4x96, .f32⟩
  | .hbm, ⟨4, _⟩ => ⟨S4x256x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x4x32, .f32⟩
  | .hbm, ⟨11, _⟩ => ⟨S4x8192x4x128, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S4x512x8192, .f32⟩
  | .hbm, ⟨16, _⟩ => ⟨S4x512x8192, .bf16⟩
  | .hbm, ⟨17, _⟩ => ⟨S_, .f32⟩
  | .hbm, ⟨18, _⟩ => ⟨S4x8192x4x32, .f32⟩
  | .hbm, ⟨19, _⟩ => ⟨S4x8192x4x128, .f32⟩
  | .hbm, ⟨20, _⟩ => ⟨S4x8192x512, .f32⟩
  | .hbm, ⟨21, _⟩ => ⟨S4x8192x512, .bf16⟩
  | .hbm, ⟨22, _⟩ => ⟨S4x8192x256, .f32⟩
  | .hbm, ⟨23, _⟩ => ⟨S4x256x8192, .f32⟩
  | .hbm, ⟨24, _⟩ => ⟨S4x256x8192, .bf16⟩
  | .hbm, ⟨25, _⟩ => ⟨S_, .f32⟩
  | .hbm, ⟨26, _⟩ => ⟨S4x256x4x32, .f32⟩
  | .hbm, ⟨27, _⟩ => ⟨S4x256x4x128, .f32⟩
  | .hbm, ⟨28, _⟩ => ⟨S4x256x512, .f32⟩
  | .hbm, ⟨29, _⟩ => ⟨S4x256x512, .bf16⟩
  | .hbm, ⟨30, _⟩ => ⟨S4x256x256, .f32⟩
  | .hbm, ⟨31, _⟩ => ⟨S4x256x256, .f32⟩
  | .hbm, ⟨32, _⟩ => ⟨S4x256x256, .bf16⟩
  | .hbm, ⟨33, _⟩ => ⟨S4x8192x256, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x256x256, .bf16⟩
  | .local _ .vmem, ⟨7, _⟩ => ⟨S1x256x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x2048x128, .bf16⟩
  | .local _ .vmem, ⟨11, _⟩ => ⟨S1x2048x128, .bf16⟩
  | .local _ .vmem, ⟨12, _⟩ => ⟨S1024x2048, .f32⟩
  | .local _ .vmem, ⟨13, _⟩ => ⟨S1024x2048, .f32⟩
  | .local _ .vmem, ⟨14, _⟩ => ⟨S256x2048, .f32⟩
  | _, _ => ⟨S4x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

@[reducible] def k0_t1_loop : Scf.Loop 32 :=
  let c0_i32 : BitVec 32 := 0#32
  let c3_i32 : BitVec 32 := 3#32
  let v13 : BitVec 32 := Scalar.addi c0_i32 c3_i32
  let c1_i32 : BitVec 32 := 1#32
  ⟨c0_i32, v13, c1_i32⟩
def k0_mult1 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v200 : BitVec 32 := Scalar.muli c2_i32 arg12
  let c1_i32_110 : BitVec 32 := 1#32
  let v201 : BitVec 32 := Scalar.addi v200 c1_i32_110
  let c1024_i32 : BitVec 32 := 1024#32
  let v202 : BitVec 32 := Scalar.muli v201 c1024_i32
  v202
def k0_off1 (k0_t1 : Fin k0_t1_loop.trips) (c1_i32_110 : BitVec 32) : Fin 3 → Nat :=
  let c0_111 : Index := 0#32
  let c2_i32 : BitVec 32 := 2#32
  let c0_i32 : BitVec 32 := 0#32
  let c1_i32 : BitVec 32 := 1#32
  let arg12 : BitVec 32 := Scf.iv c0_i32 c1_i32 k0_t1
  let v200 : BitVec 32 := Scalar.muli c2_i32 arg12
  let v201 : BitVec 32 := Scalar.addi v200 c1_i32_110
  let c1024_i32 : BitVec 32 := 1024#32
  let v202 : BitVec 32 := Scalar.muli v201 c1024_i32
  let v203 : BitVec 32 := v202
  let v204 : Index := Scalar.indexCast v203
  let c0_112 : Index := 0#32
  ![0, v204.toNat, 0]
def k0_mult2 (k0_t1 : Fin k0_t1_loop.trips) : BitVec 32 :=
  let c2_i32_120 : BitVec 32 := 2#32
  let c0_i32 : BitVec 32 := 0#32
  let c1_i32 : BitVec 32 := 1#32
  let arg12 : BitVec 32 := Scf.iv c0_i32 c1_i32 k0_t1
  let v215 : BitVec 32 := Scalar.muli c2_i32_120 arg12
  let c1024_i32_121 : BitVec 32 := 1024#32
  let v216 : BitVec 32 := Scalar.muli v215 c1024_i32_121
  v216
def k0_off2 (k0_t1 : Fin k0_t1_loop.trips) : Fin 3 → Nat :=
  let c0_122 : Index := 0#32
  let c0_123 : Index := 0#32
  let c2_i32_120 : BitVec 32 := 2#32
  let c0_i32 : BitVec 32 := 0#32
  let c1_i32 : BitVec 32 := 1#32
  let arg12 : BitVec 32 := Scf.iv c0_i32 c1_i32 k0_t1
  let v215 : BitVec 32 := Scalar.muli c2_i32_120 arg12
  let c1024_i32_121 : BitVec 32 := 1024#32
  let v216 : BitVec 32 := Scalar.muli v215 c1024_i32_121
  let v217 : BitVec 32 := v216
  let v218 : Index := Scalar.indexCast v217
  ![0, 0, v218.toNat]
def k0_mult3 (k0_t1 : Fin k0_t1_loop.trips) : BitVec 32 :=
  let c2_i32_128 : BitVec 32 := 2#32
  let c0_i32 : BitVec 32 := 0#32
  let c1_i32 : BitVec 32 := 1#32
  let arg12 : BitVec 32 := Scf.iv c0_i32 c1_i32 k0_t1
  let v237 : BitVec 32 := Scalar.muli c2_i32_128 arg12
  let c2_i32_129 : BitVec 32 := 2#32
  let v238 : BitVec 32 := Scalar.addi v237 c2_i32_129
  let c1024_i32_130 : BitVec 32 := 1024#32
  let v239 : BitVec 32 := Scalar.muli v238 c1024_i32_130
  v239
def k0_mult4 (k0_t1 : Fin k0_t1_loop.trips) : BitVec 32 :=
  let c2_i32_140 : BitVec 32 := 2#32
  let c0_i32 : BitVec 32 := 0#32
  let c1_i32 : BitVec 32 := 1#32
  let arg12 : BitVec 32 := Scf.iv c0_i32 c1_i32 k0_t1
  let v252 : BitVec 32 := Scalar.muli c2_i32_140 arg12
  let c1_i32_141 : BitVec 32 := 1#32
  let v253 : BitVec 32 := Scalar.addi v252 c1_i32_141
  let c1024_i32_142 : BitVec 32 := 1024#32
  let v254 : BitVec 32 := Scalar.muli v253 c1024_i32_142
  v254
def k0_off3 (k0_t1 : Fin k0_t1_loop.trips) : Fin 3 → Nat :=
  let c0_143 : Index := 0#32
  let c0_144 : Index := 0#32
  let c2_i32_140 : BitVec 32 := 2#32
  let c0_i32 : BitVec 32 := 0#32
  let c1_i32 : BitVec 32 := 1#32
  let arg12 : BitVec 32 := Scf.iv c0_i32 c1_i32 k0_t1
  let v252 : BitVec 32 := Scalar.muli c2_i32_140 arg12
  let c1_i32_141 : BitVec 32 := 1#32
  let v253 : BitVec 32 := Scalar.addi v252 c1_i32_141
  let c1024_i32_142 : BitVec 32 := 1024#32
  let v254 : BitVec 32 := Scalar.muli v253 c1024_i32_142
  let v255 : BitVec 32 := v254
  let v256 : Index := Scalar.indexCast v255
  ![0, 0, v256.toNat]
def k0_mult5 : BitVec 32 :=
  let c6144_i32 : BitVec 32 := 6144#32
  c6144_i32
def k0_mult6 : BitVec 32 :=
  let c7168_i32 : BitVec 32 := 7168#32
  c7168_i32
def k0_mult7 : BitVec 32 :=
  let c7168_i32_16 : BitVec 32 := 7168#32
  c7168_i32_16
@[reducible] def k0_t2_loop : Scf.Loop 32 :=
  let c0_i32_63 : BitVec 32 := 0#32
  let c3_i32_64 : BitVec 32 := 3#32
  let v110 : BitVec 32 := Scalar.addi c0_i32_63 c3_i32_64
  let c1_i32_65 : BitVec 32 := 1#32
  ⟨c0_i32_63, v110, c1_i32_65⟩
def k0_mult8 (k0_t2 : Fin k0_t2_loop.trips) : BitVec 32 :=
  let c2_i32 : BitVec 32 := 2#32
  let c0_i32_63 : BitVec 32 := 0#32
  let c1_i32_65 : BitVec 32 := 1#32
  let arg12 : BitVec 32 := Scf.iv c0_i32_63 c1_i32_65 k0_t2
  let v200 : BitVec 32 := Scalar.muli c2_i32 arg12
  let c1_i32_110 : BitVec 32 := 1#32
  let v201 : BitVec 32 := Scalar.addi v200 c1_i32_110
  let c1024_i32 : BitVec 32 := 1024#32
  let v202 : BitVec 32 := Scalar.muli v201 c1024_i32
  v202
def k0_off4 (k0_t2 : Fin k0_t2_loop.trips) (c1_i32_110 : BitVec 32) : Fin 3 → Nat :=
  let c0_111 : Index := 0#32
  let c2_i32 : BitVec 32 := 2#32
  let c0_i32_63 : BitVec 32 := 0#32
  let c1_i32_65 : BitVec 32 := 1#32
  let arg12 : BitVec 32 := Scf.iv c0_i32_63 c1_i32_65 k0_t2
  let v200 : BitVec 32 := Scalar.muli c2_i32 arg12
  let v201 : BitVec 32 := Scalar.addi v200 c1_i32_110
  let c1024_i32 : BitVec 32 := 1024#32
  let v202 : BitVec 32 := Scalar.muli v201 c1024_i32
  let v203 : BitVec 32 := v202
  let v204 : Index := Scalar.indexCast v203
  let c128_112 : Index := 128#32
  ![0, v204.toNat, 128]
def k0_mult9 (k0_t2 : Fin k0_t2_loop.trips) : BitVec 32 :=
  let c2_i32_120 : BitVec 32 := 2#32
  let c0_i32_63 : BitVec 32 := 0#32
  let c1_i32_65 : BitVec 32 := 1#32
  let arg12 : BitVec 32 := Scf.iv c0_i32_63 c1_i32_65 k0_t2
  let v215 : BitVec 32 := Scalar.muli c2_i32_120 arg12
  let c1024_i32_121 : BitVec 32 := 1024#32
  let v216 : BitVec 32 := Scalar.muli v215 c1024_i32_121
  v216
def k0_off5 (k0_t2 : Fin k0_t2_loop.trips) : Fin 3 → Nat :=
  let c0_122 : Index := 0#32
  let c64_123 : Index := 64#32
  let c2_i32_120 : BitVec 32 := 2#32
  let c0_i32_63 : BitVec 32 := 0#32
  let c1_i32_65 : BitVec 32 := 1#32
  let arg12 : BitVec 32 := Scf.iv c0_i32_63 c1_i32_65 k0_t2
  let v215 : BitVec 32 := Scalar.muli c2_i32_120 arg12
  let c1024_i32_121 : BitVec 32 := 1024#32
  let v216 : BitVec 32 := Scalar.muli v215 c1024_i32_121
  let v217 : BitVec 32 := v216
  let v218 : Index := Scalar.indexCast v217
  ![0, 64, v218.toNat]
def k0_mult10 (k0_t2 : Fin k0_t2_loop.trips) : BitVec 32 :=
  let c2_i32_128 : BitVec 32 := 2#32
  let c0_i32_63 : BitVec 32 := 0#32
  let c1_i32_65 : BitVec 32 := 1#32
  let arg12 : BitVec 32 := Scf.iv c0_i32_63 c1_i32_65 k0_t2
  let v237 : BitVec 32 := Scalar.muli c2_i32_128 arg12
  let c2_i32_129 : BitVec 32 := 2#32
  let v238 : BitVec 32 := Scalar.addi v237 c2_i32_129
  let c1024_i32_130 : BitVec 32 := 1024#32
  let v239 : BitVec 32 := Scalar.muli v238 c1024_i32_130
  v239
def k0_mult11 (k0_t2 : Fin k0_t2_loop.trips) : BitVec 32 :=
  let c2_i32_140 : BitVec 32 := 2#32
  let c0_i32_63 : BitVec 32 := 0#32
  let c1_i32_65 : BitVec 32 := 1#32
  let arg12 : BitVec 32 := Scf.iv c0_i32_63 c1_i32_65 k0_t2
  let v252 : BitVec 32 := Scalar.muli c2_i32_140 arg12
  let c1_i32_141 : BitVec 32 := 1#32
  let v253 : BitVec 32 := Scalar.addi v252 c1_i32_141
  let c1024_i32_142 : BitVec 32 := 1024#32
  let v254 : BitVec 32 := Scalar.muli v253 c1024_i32_142
  v254
def k0_off6 (k0_t2 : Fin k0_t2_loop.trips) : Fin 3 → Nat :=
  let c0_143 : Index := 0#32
  let c64_144 : Index := 64#32
  let c2_i32_140 : BitVec 32 := 2#32
  let c0_i32_63 : BitVec 32 := 0#32
  let c1_i32_65 : BitVec 32 := 1#32
  let arg12 : BitVec 32 := Scf.iv c0_i32_63 c1_i32_65 k0_t2
  let v252 : BitVec 32 := Scalar.muli c2_i32_140 arg12
  let c1_i32_141 : BitVec 32 := 1#32
  let v253 : BitVec 32 := Scalar.addi v252 c1_i32_141
  let c1024_i32_142 : BitVec 32 := 1024#32
  let v254 : BitVec 32 := Scalar.muli v253 c1024_i32_142
  let v255 : BitVec 32 := v254
  let v256 : Index := Scalar.indexCast v255
  ![0, 64, v256.toNat]
def k0_mult12 : BitVec 32 :=
  let c6144_i32_67 : BitVec 32 := 6144#32
  c6144_i32_67
def k0_mult13 : BitVec 32 :=
  let c7168_i32_69 : BitVec 32 := 7168#32
  c7168_i32_69
def k0_mult14 : BitVec 32 :=
  let c7168_i32_72 : BitVec 32 := 7168#32
  c7168_i32_72
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x4x96 : Shape := ⟨4, ![4, 8192, 4, 96]⟩
abbrev S4x8192x4x64 : Shape := ⟨4, ![4, 8192, 4, 64]⟩
abbrev S4x256x4x96 : Shape := ⟨4, ![4, 256, 4, 96]⟩
abbrev S4x256x4x64 : Shape := ⟨4, ![4, 256, 4, 64]⟩
abbrev S4x8448x4x96 : Shape := ⟨4, ![4, 8448, 4, 96]⟩
abbrev S4x8448x4x64 : Shape := ⟨4, ![4, 8448, 4, 64]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192x256 : Shape := ⟨3, ![4, 8192, 256]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S4x256x4x96, .f32⟩
  | .hbm, ⟨4, _⟩ => ⟨S4x256x4x64, .f32⟩
  | .hbm, ⟨5, _⟩ => ⟨S4x8448x4x96, .f32⟩
  | .hbm, ⟨6, _⟩ => ⟨S4x8448x4x64, .f32⟩
  | .hbm, ⟨7, _⟩ => ⟨S4x4x8192x8448, .f32⟩
  | .hbm, ⟨8, _⟩ => ⟨S_, .f32⟩
  | .hbm, ⟨9, _⟩ => ⟨S4x4x8192x8448, .f32⟩
  | .hbm, ⟨10, _⟩ => ⟨S4x4x8192x8448, .f32⟩
  | .hbm, ⟨11, _⟩ => ⟨S_, .f32⟩
  | .hbm, ⟨12, _⟩ => ⟨S4x4x8192, .f32⟩
  | .hbm, ⟨13, _⟩ => ⟨S_, .f32⟩
  | .hbm, ⟨14, _⟩ => ⟨S4x4x8192, .f32⟩
  | .hbm, ⟨15, _⟩ => ⟨S4x4x8192, .f32⟩
  | .hbm, ⟨16, _⟩ => ⟨S4x4x8192x1, .f32⟩
  | .hbm, ⟨17, _⟩ => ⟨S4x4x8192x8448, .f32⟩
  | .hbm, ⟨18, _⟩ => ⟨S4x4x8192x8448, .f32⟩
  | .hbm, ⟨19, _⟩ => ⟨S4x4x8192x8448, .f32⟩
  | .hbm, ⟨20, _⟩ => ⟨S_, .f32⟩
  | .hbm, ⟨21, _⟩ => ⟨S4x4x8192, .f32⟩
  | .hbm, ⟨22, _⟩ => ⟨S4x4x8192x1, .f32⟩
  | .hbm, ⟨23, _⟩ => ⟨S4x4x8192x8448, .f32⟩
  | .hbm, ⟨24, _⟩ => ⟨S4x4x8192x8448, .f32⟩
  | .hbm, ⟨25, _⟩ => ⟨S4x4x64x8192, .f32⟩
  | .hbm, ⟨26, _⟩ => ⟨S4x8192x4x64, .f32⟩
  | .hbm, ⟨27, _⟩ => ⟨S4x8192x256, .f32⟩
  | .hbm, ⟨28, _⟩ => ⟨S4x8192x256, .bf16⟩
  | _, _ => ⟨S4x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x256 : Shape := ⟨3, ![4, 8192, 256]⟩
abbrev S4x6144 : Shape := ⟨2, ![4, 6144]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S4x1024 : Shape := ⟨2, ![4, 1024]⟩
abbrev S4x1x1024 : Shape := ⟨3, ![4, 1, 1024]⟩
abbrev S1x512x1024 : Shape := ⟨3, ![1, 512, 1024]⟩
abbrev S1x512x256 : Shape := ⟨3, ![1, 512, 256]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S512x256 : Shape := ⟨2, ![512, 256]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .bf16⟩
  | .hbm, ⟨2, _⟩ => ⟨S4x8192x256, .bf16⟩
  | .hbm, ⟨3, _⟩ => ⟨S4x8192x256, .bf16⟩
  | .hbm, ⟨4, _⟩ => ⟨S4x8192x256, .bf16⟩
  | .hbm, ⟨5, _⟩ => ⟨S4x6144, .f32⟩
  | .hbm, ⟨6, _⟩ => ⟨S2x1024x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1024, .f32⟩
  | .hbm, ⟨11, _⟩ => ⟨S1x1024, .f32⟩
  | .hbm, ⟨12, _⟩ => ⟨S2x1024x4096, .bf16⟩
  | .hbm, ⟨13, _⟩ => ⟨S2x4096x1024, .bf16⟩
  | .hbm, ⟨14, _⟩ => ⟨S1x1024x1024, .f32⟩
  | .hbm, ⟨15, _⟩ => ⟨S1024x1024, .f32⟩
  | .hbm, ⟨16, _⟩ => ⟨S1024x1024, .bf16⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S4x1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1x1024x4096, .bf16⟩
  | .local _ .vmem, ⟨21, _⟩ => ⟨S1x4096x1024, .bf16⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S4x8192x1024 : Shape := ⟨3, ![4, 8192, 1024]⟩
abbrev S4x8192x256 : Shape := ⟨3, ![4, 8192, 256]⟩
abbrev S4x6144 : Shape := ⟨2, ![4, 6144]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S4x1024 : Shape := ⟨2, ![4, 1024]⟩
abbrev S1x1024x1024 : Shape := ⟨3, ![1, 1024, 1024]⟩
abbrev S1024x1024 : Shape := ⟨2, ![1024, 1024]⟩
abbrev S4x1x1024 : Shape := ⟨3, ![4, 1, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .bf16⟩
  | .hbm, ⟨2, _⟩ => ⟨S4x8192x256, .bf16⟩
  | .hbm, ⟨3, _⟩ => ⟨S4x8192x256, .bf16⟩
  | .hbm, ⟨4, _⟩ => ⟨S4x8192x256, .bf16⟩
  | .hbm, ⟨5, _⟩ => ⟨S4x6144, .f32⟩
  | .hbm, ⟨6, _⟩ => ⟨S2x1024x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x8192x256, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S4x8192x1024, .f32⟩
  | .hbm, ⟨22, _⟩ => ⟨S1x1024x1024, .f32⟩
  | .hbm, ⟨23, _⟩ => ⟨S1024x1024, .f32⟩
  | .hbm, ⟨24, _⟩ => ⟨S4x8192x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x1x1024, .f32⟩
  | .hbm, ⟨30, _⟩ => ⟨S1x1024, .f32⟩
  | .hbm, ⟨31, _⟩ => ⟨S1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | .hbm, ⟨48, _⟩ => ⟨S4x1x1024, .f32⟩
  | .hbm, ⟨49, _⟩ => ⟨S_, .f32⟩
  | .hbm, ⟨50, _⟩ => ⟨S4x1x1024, .f32⟩
  | .hbm, ⟨51, _⟩ => ⟨S4x1x1024, .f32⟩
  | .hbm, ⟨52, _⟩ => ⟨S4x8192x1024, .f32⟩
  | .hbm, ⟨53, _⟩ => ⟨S4x8192x1024, .f32⟩
  | .hbm, ⟨54, _⟩ => ⟨S4x1x1024, .f32⟩
  | .hbm, ⟨55, _⟩ => ⟨S4x8192x1024, .f32⟩
  | .hbm, ⟨56, _⟩ => ⟨S4x8192x1024, .f32⟩
  | .hbm, ⟨57, _⟩ => ⟨S1x1024x4096, .f32⟩
  | .hbm, ⟨58, _⟩ => ⟨S1024x4096, .f32⟩
  | .hbm, ⟨59, _⟩ => ⟨S1x4096x1024, .f32⟩
  | .hbm, ⟨60, _⟩ => ⟨S4096x1024, .f32⟩
  | .hbm, ⟨61, _⟩ => ⟨S4x8192x4096, .f32⟩
  | .hbm, ⟨62, _⟩ => ⟨S_, .f32⟩
  | .hbm, ⟨63, _⟩ => ⟨S4x8192x4096, .f32⟩
  | .hbm, ⟨64, _⟩ => ⟨S4x8192x4096, .f32⟩
  | .hbm, ⟨65, _⟩ => ⟨S4x8192x4096, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S_, .f32⟩
  | .hbm, ⟨78, _⟩ => ⟨S4x8192x1, .f32⟩
  | .hbm, ⟨79, _⟩ => ⟨S4x8192x1, .f32⟩
  | .hbm, ⟨80, _⟩ => ⟨S4x8192x1, .f32⟩
  | .hbm, ⟨81, _⟩ => ⟨S4x8192x1024, .f32⟩
  | .hbm, ⟨82, _⟩ => ⟨S4x8192x1024, .f32⟩
  | .hbm, ⟨83, _⟩ => ⟨S1x1x1024, .f32⟩
  | .hbm, ⟨84, _⟩ => ⟨S4x8192x1024, .f32⟩
  | .hbm, ⟨85, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_cst : Ref sig .tc := ⟨.hbm, 62, rfl⟩
abbrev main_call0_v0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_3 : Ref sig .tc := ⟨.hbm, 71, rfl⟩
abbrev main_v54 : Ref sig .tc := ⟨.hbm, 72, rfl⟩
abbrev main_v55 : Ref sig .tc := ⟨.hbm, 73, rfl⟩
abbrev main_cst_4 : Ref sig .tc := ⟨.hbm, 74, rfl⟩
abbrev main_v56 : Ref sig .tc := ⟨.hbm, 75, rfl⟩
abbrev main_v57 : Ref sig .tc := ⟨.hbm, 76, rfl⟩
abbrev main_cst_5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x6144 : Shape := ⟨2, ![4, 6144]⟩
abbrev S2x1024 : Shape := ⟨2, ![2, 1024]⟩
abbrev S2x1024x1952 : Shape := ⟨3, ![2, 1024, 1952]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S256x512 : Shape := ⟨2, ![256, 512]⟩
abbrev S_ : Shape := ⟨0, ![]⟩
abbrev S2x1024x96 : Shape := ⟨3, ![2, 1024, 96]⟩
abbrev S2x1024x416 : Shape := ⟨3, ![2, 1024, 416]⟩
abbrev S2x1024x1536 : Shape := ⟨3, ![2, 1024, 1536]⟩
abbrev S2x1024x2048 : Shape := ⟨3, ![2, 1024, 2048]⟩
abbrev S1x256x384 : Shape := ⟨3, ![1, 256, 384]⟩
abbrev S256x384 : Shape := ⟨2, ![256, 384]⟩
abbrev S1x128x512 : Shape := ⟨3, ![1, 128, 512]⟩
abbrev S128x512 : Shape := ⟨2, ![128, 512]⟩
abbrev S256x4x96 : Shape := ⟨3, ![256, 4, 96]⟩
abbrev S256x4x32 : Shape := ⟨3, ![256, 4, 32]⟩
abbrev S256x4x128 : Shape := ⟨3, ![256, 4, 128]⟩
abbrev S256x4x64 : Shape := ⟨3, ![256, 4, 64]⟩
abbrev S256x4x16 : Shape := ⟨3, ![256, 4, 16]⟩
abbrev S256x1024 : Shape := ⟨2, ![256, 1024]⟩
abbrev S1024x256 : Shape := ⟨2, ![1024, 256]⟩
abbrev S128x4x128 : Shape := ⟨3, ![128, 4, 128]⟩
abbrev S32x32 : Shape := ⟨2, ![32, 32]⟩
abbrev S32x4x32 : Shape := ⟨3, ![32, 4, 32]⟩
abbrev S128x4x64 : Shape := ⟨3, ![128, 4, 64]⟩
abbrev S32x4x64 : Shape := ⟨3, ![32, 4, 64]⟩
abbrev S32x1x32 : Shape := ⟨3, ![32, 1, 32]⟩
abbrev S32x4x128 : Shape := ⟨3, ![32, 4, 128]⟩
abbrev S96x4x128 : Shape := ⟨3, ![96, 4, 128]⟩
abbrev S32x16 : Shape := ⟨2, ![32, 16]⟩
abbrev S4x64x128 : Shape := ⟨3, ![4, 64, 128]⟩
abbrev S4x64x256 : Shape := ⟨3, ![4, 64, 256]⟩
abbrev S256x256 : Shape := ⟨2, ![256, 256]⟩
abbrev S4x1024 : Shape := ⟨2, ![4, 1024]⟩
abbrev S4x1x1024 : Shape := ⟨3, ![4, 1, 1024]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S1x128 : Shape := ⟨2, ![1, 128]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S64 : Shape := ⟨1, ![64]⟩
abbrev S64x1 : Shape := ⟨2, ![64, 1]⟩
abbrev S64x8 : Shape := ⟨2, ![64, 8]⟩
abbrev S128x64 : Shape := ⟨2, ![128, 64]⟩
abbrev S128x32 : Shape := ⟨2, ![128, 32]⟩
abbrev S128x128 : Shape := ⟨2, ![128, 128]⟩
abbrev S128x256 : Shape := ⟨2, ![128, 256]⟩
abbrev S64x64 : Shape := ⟨2, ![64, 64]⟩
abbrev S64x32 : Shape := ⟨2, ![64, 32]⟩
abbrev S64x128 : Shape := ⟨2, ![64, 128]⟩
abbrev S64x256 : Shape := ⟨2, ![64, 256]⟩
abbrev S128x1x256 : Shape := ⟨3, ![128, 1, 256]⟩
abbrev S1x64x256 : Shape := ⟨3, ![1, 64, 256]⟩
abbrev S128x64x256 : Shape := ⟨3, ![128, 64, 256]⟩
abbrev S8192x256 : Shape := ⟨2, ![8192, 256]⟩
abbrev S256x8192 : Shape := ⟨2, ![256, 8192]⟩
abbrev S4x512x8192 : Shape := ⟨3, ![4, 512, 8192]⟩
abbrev S4x8192x512 : Shape := ⟨3, ![4, 8192, 512]⟩
abbrev S4x256x8192 : Shape := ⟨3, ![4, 256, 8192]⟩
abbrev S4x8192x256 : Shape := ⟨3, ![4, 8192, 256]⟩
abbrev S1x1024x1024 : Shape := ⟨3, ![1, 1024, 1024]⟩
abbrev S1x1x1024 : Shape := ⟨3, ![1, 1, 1024]⟩
abbrev S1x1024x2048 : Shape := ⟨3, ![1, 1024, 2048]⟩
abbrev S1x512x1024 : Shape := ⟨3, ![1, 512, 1024]⟩
abbrev S1x1024x512 : Shape := ⟨3, ![1, 1024, 512]⟩
abbrev S1x256x1024 : Shape := ⟨3, ![1, 256, 1024]⟩
abbrev S1x1024x256 : Shape := ⟨3, ![1, 1024, 256]⟩
abbrev S1024x1024 : Shape := ⟨2, ![1024, 1024]⟩
abbrev S1024x1 : Shape := ⟨2, ![1024, 1]⟩
abbrev S1024x2048 : Shape := ⟨2, ![1024, 2048]⟩
abbrev S1024x128 : Shape := ⟨2, ![1024, 128]⟩
abbrev S1024x512 : Shape := ⟨2, ![1024, 512]⟩
abbrev S128x1024 : Shape := ⟨2, ![128, 1024]⟩
abbrev S512x1024 : Shape := ⟨2, ![512, 1024]⟩

abbrev nBuf : Space → Nat
  | .hbm => 203
  | .vmem => 34
  | .smem => 0
  | _ => 0

abbrev hbmTy0_0 (i : Nat) : BufTy := match i % 128 with
  | 0 => ⟨S4x8192x1024, .f32⟩
  | 1 => ⟨S4x6144, .f32⟩
  | 2 => ⟨S2x1024, .f32⟩
  | 3 => ⟨S2x1024x1952, .f32⟩
  | 4 => ⟨S2x256, .f32⟩
  | 5 => ⟨S2x256x384, .f32⟩
  | 6 => ⟨S2x128, .f32⟩
  | 7 => ⟨S2x128x512, .f32⟩
  | 8 => ⟨S256x512, .f32⟩
  | 9 => ⟨S256x512, .bf16⟩
  | 10 => ⟨S_, .f32⟩
  | 11 => ⟨S2x1024x96, .f32⟩
  | 12 => ⟨S2x1024x416, .f32⟩
  | 13 => ⟨S2x1024x1536, .f32⟩
  | 14 => ⟨S2x1024x2048, .f32⟩
  | 15 => ⟨S2x1024x2048, .bf16⟩
  | 16 => ⟨S1x256x384, .f32⟩
  | 17 => ⟨S256x384, .f32⟩
  | 18 => ⟨S1x128x512, .f32⟩
  | 19 => ⟨S128x512, .f32⟩
  | 20 => ⟨S256x4x96, .f32⟩
  | 21 => ⟨S_, .f32⟩
  | 22 => ⟨S256x4x32, .f32⟩
  | 23 => ⟨S256x4x128, .f32⟩
  | 24 => ⟨S_, .f32⟩
  | 25 => ⟨S256x4x64, .f32⟩
  | 26 => ⟨S256x4x32, .f32⟩
  | 27 => ⟨S256x4x16, .f32⟩
  | 28 => ⟨S256x4x16, .f32⟩
  | 29 => ⟨S256x4x32, .f32⟩
  | 30 => ⟨S256x4x128, .f32⟩
  | 31 => ⟨S256x512, .f32⟩
  | 32 => ⟨S256x512, .f32⟩
  | 33 => ⟨S256x1024, .f32⟩
  | 34 => ⟨S1024x256, .f32⟩
  | 35 => ⟨S1024x256, .bf16⟩
  | 36 => ⟨S128x4x128, .f32⟩
  | 37 => ⟨S32x32, .i32⟩
  | 38 => ⟨S32x32, .i32⟩
  | 39 => ⟨S_, .i32⟩
  | 40 => ⟨S32x32, .i32⟩
  | 41 => ⟨S32x32, .i32⟩
  | 42 => ⟨S32x32, .i1⟩
  | 43 => ⟨S32x32, .f32⟩
  | 44 => ⟨S_, .f32⟩
  | 45 => ⟨S32x4x32, .f32⟩
  | 46 => ⟨S128x4x64, .f32⟩
  | 47 => ⟨S_, .f32⟩
  | 48 => ⟨S128x4x64, .f32⟩
  | 49 => ⟨S128x4x128, .f32⟩
  | 50 => ⟨S_, .f32⟩
  | 51 => ⟨S32x4x64, .f32⟩
  | 52 => ⟨S32x1x32, .f32⟩
  | 53 => ⟨S32x4x32, .f32⟩
  | 54 => ⟨S32x4x128, .f32⟩
  | 55 => ⟨S_, .f32⟩
  | 56 => ⟨S96x4x128, .f32⟩
  | 57 => ⟨S256x4x128, .f32⟩
  | 58 => ⟨S256x512, .f32⟩
  | 59 => ⟨S_, .f32⟩
  | 60 => ⟨S128x4x64, .f32⟩
  | 61 => ⟨S32x16, .f32⟩
  | 62 => ⟨S32x16, .f32⟩
  | 63 => ⟨S32x32, .f32⟩
  | 64 => ⟨S_, .f32⟩
  | 65 => ⟨S128x4x64, .f32⟩
  | 66 => ⟨S128x4x128, .f32⟩
  | 67 => ⟨S_, .f32⟩
  | 68 => ⟨S32x4x64, .f32⟩
  | 69 => ⟨S32x1x32, .f32⟩
  | 70 => ⟨S32x4x32, .f32⟩
  | 71 => ⟨S32x4x128, .f32⟩
  | 72 => ⟨S_, .f32⟩
  | 73 => ⟨S96x4x128, .f32⟩
  | 74 => ⟨S256x4x128, .f32⟩
  | 75 => ⟨S256x512, .f32⟩
  | 76 => ⟨S256x1024, .f32⟩
  | 77 => ⟨S256x1024, .bf16⟩
  | 78 => ⟨S128x4x64, .f32⟩
  | 79 => ⟨S4x64x128, .f32⟩
  | 80 => ⟨S_, .i32⟩
  | 81 => ⟨S_, .f32⟩
  | 82 => ⟨S4x64x256, .f32⟩
  | 83 => ⟨S256x256, .f32⟩
  | 84 => ⟨S256x256, .bf16⟩
  | 85 => ⟨S4x1024, .f32⟩
  | 86 => ⟨S4x1024, .f32⟩
  | 87 => ⟨S4x1024, .f32⟩
  | 88 => ⟨S4x1024, .f32⟩
  | 89 => ⟨S4x1024, .f32⟩
  | 90 => ⟨S4x1024, .f32⟩
  | 91 => ⟨S4x1x1024, .f32⟩
  | 92 => ⟨S4x1x1024, .f32⟩
  | 93 => ⟨S4x1x1024, .f32⟩
  | 94 => ⟨S4x1x1024, .f32⟩
  | 95 => ⟨S4x1x1024, .f32⟩
  | 96 => ⟨S4x1x1024, .f32⟩
  | 97 => ⟨S1x1024, .f32⟩
  | 98 => ⟨S1024, .f32⟩
  | 99 => ⟨S1x1024, .f32⟩
  | 100 => ⟨S1x256, .f32⟩
  | 101 => ⟨S256, .f32⟩
  | 102 => ⟨S1x256, .f32⟩
  | 103 => ⟨S1x128, .f32⟩
  | 104 => ⟨S128, .f32⟩
  | 105 => ⟨S1x128, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S128, .i32⟩
  | 121 => ⟨S128, .f32⟩
  | 122 => ⟨S128x1, .f32⟩
  | 123 => ⟨S1x8, .f32⟩
  | 124 => ⟨S128x8, .f32⟩
  | 125 => ⟨S128x8, .f32⟩
  | 126 => ⟨S128x8, .f32⟩
  | 127 => ⟨S64, .i32⟩
  | _ => ⟨S4x8192x1024, .f32⟩

abbrev hbmTy0_1 (i : Nat) : BufTy := match i % 128 with
  | 0 => ⟨S64, .f32⟩
  | 1 => ⟨S64x1, .f32⟩
  | 2 => ⟨S1x8, .f32⟩
  | 3 => ⟨S64x8, .f32⟩
  | 4 => ⟨S64x8, .f32⟩
  | 5 => ⟨S64x8, .f32⟩
  | 6 => ⟨S_, .f32⟩
  | 7 => ⟨S128x8, .f32⟩
  | 8 => ⟨S_, .f32⟩
  | 9 => ⟨S64x8, .f32⟩
  | 10 => ⟨S128x8, .f32⟩
  | 11 => ⟨S_, .f32⟩
  | 12 => ⟨S128x64, .f32⟩
  | 13 => ⟨S_, .f32⟩
  | 14 => ⟨S128x8, .f32⟩
  | 15 => ⟨S128x8, .f32⟩
  | 16 => ⟨S_, .f32⟩
  | 17 => ⟨S128x8, .f32⟩
  | 18 => ⟨S128x8, .f32⟩
  | 19 => ⟨S_, .f32⟩
  | 20 => ⟨S128x32, .f32⟩
  | 21 => ⟨S128x128, .f32⟩
  | 22 => ⟨S128x8, .f32⟩
  | 23 => ⟨S_, .f32⟩
  | 24 => ⟨S128x64, .f32⟩
  | 25 => ⟨S_, .f32⟩
  | 26 => ⟨S128x8, .f32⟩
  | 27 => ⟨S128x8, .f32⟩
  | 28 => ⟨S_, .f32⟩
  | 29 => ⟨S128x8, .f32⟩
  | 30 => ⟨S128x8, .f32⟩
  | 31 => ⟨S_, .f32⟩
  | 32 => ⟨S128x32, .f32⟩
  | 33 => ⟨S128x128, .f32⟩
  | 34 => ⟨S128x256, .f32⟩
  | 35 => ⟨S64x8, .f32⟩
  | 36 => ⟨S_, .f32⟩
  | 37 => ⟨S64x64, .f32⟩
  | 38 => ⟨S_, .f32⟩
  | 39 => ⟨S64x8, .f32⟩
  | 40 => ⟨S64x8, .f32⟩
  | 41 => ⟨S_, .f32⟩
  | 42 => ⟨S64x8, .f32⟩
  | 43 => ⟨S64x8, .f32⟩
  | 44 => ⟨S_, .f32⟩
  | 45 => ⟨S64x32, .f32⟩
  | 46 => ⟨S64x128, .f32⟩
  | 47 => ⟨S64x8, .f32⟩
  | 48 => ⟨S_, .f32⟩
  | 49 => ⟨S64x64, .f32⟩
  | 50 => ⟨S_, .f32⟩
  | 51 => ⟨S64x8, .f32⟩
  | 52 => ⟨S64x8, .f32⟩
  | 53 => ⟨S_, .f32⟩
  | 54 => ⟨S64x8, .f32⟩
  | 55 => ⟨S64x8, .f32⟩
  | 56 => ⟨S_, .f32⟩
  | 57 => ⟨S64x32, .f32⟩
  | 58 => ⟨S64x128, .f32⟩
  | 59 => ⟨S64x256, .f32⟩
  | 60 => ⟨S128x1x256, .f32⟩
  | 61 => ⟨S1x64x256, .f32⟩
  | 62 => ⟨S128x64x256, .f32⟩
  | 63 => ⟨S128x64x256, .f32⟩
  | 64 => ⟨S128x64x256, .f32⟩
  | 65 => ⟨S8192x256, .f32⟩
  | 66 => ⟨S256x8192, .f32⟩
  | 67 => ⟨S4x512x8192, .bf16⟩
  | 68 => ⟨S4x8192x512, .bf16⟩
  | 69 => ⟨S4x256x8192, .bf16⟩
  | 70 => ⟨S4x8192x256, .bf16⟩
  | 71 => ⟨S4x8192x256, .bf16⟩
  | 72 => ⟨S4x8192x256, .bf16⟩
  | 73 => ⟨S4x8192x512, .bf16⟩
  | 74 => ⟨S4x8192x256, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x2048, .bf16⟩
  | .local _ .vmem, ⟨8, _⟩ => ⟨S1x256, .f32⟩
  | .local _ .vmem, ⟨9, _⟩ => ⟨S1024x256, .bf16⟩
  | .local _ .vmem, ⟨10, _⟩ => ⟨S1x128, .f32⟩
  | .local _ .vmem, ⟨11, _⟩ => ⟨S256x1024, .bf16⟩
  | .local _ .vmem, ⟨12, _⟩ => ⟨S256x256, .bf16⟩
  | .local _ .vmem, ⟨13, _⟩ => ⟨S256x512, .bf16⟩
  | .local _ .vmem, ⟨14, _⟩ => ⟨S1024x256, .f32⟩
  | .local _ .vmem, ⟨15, _⟩ => ⟨S1024x256, .f32⟩
  | .local _ .vmem, ⟨16, _⟩ => ⟨S256x1024, .f32⟩
  | .local _ .vmem, ⟨17, _⟩ => ⟨S256x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x1024x256, .bf16⟩
  | .local _ .vmem, ⟨29, _⟩ => ⟨S1x1024x256, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x1024x256, .f32⟩
  | .local _ .vmem, ⟨33, _⟩ => ⟨S1x1024x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_call0_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_cst_12 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_15 : Ref sig .tc := ⟨.hbm, 134, rfl⟩
abbrev main_v107 : Ref sig .tc := ⟨.hbm, 135, rfl⟩
abbrev main_cst_16 : Ref sig .tc := ⟨.hbm, 136, rfl⟩
abbrev main_v108 : Ref sig .tc := ⟨.hbm, 137, rfl⟩
abbrev main_v109 : Ref sig .tc := ⟨.hbm, 138, rfl⟩
abbrev main_cst_17 : Ref sig .tc := ⟨.hbm, 139, rfl⟩
abbrev main_v110 : Ref sig .tc := ⟨.hbm, 140, rfl⟩
abbrev main_cst_18 : Ref sig .tc := ⟨.hbm, 141, rfl⟩
abbrev main_v111 : Ref sig .tc := ⟨.hbm, 142, rfl⟩
abbrev main_v112 : Ref sig .tc := ⟨.hbm, 143, rfl⟩
abbrev main_cst_19 : Ref sig .tc := ⟨.hbm, 144, rfl⟩
abbrev main_v113 : Ref sig .tc := ⟨.hbm, 145, rfl⟩
abbrev main_v114 : Ref sig .tc := ⟨.hbm, 146, rfl⟩
abbrev main_cst_20 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_21 : Ref sig .tc := ⟨.hbm, 151, rfl⟩
abbrev main_v118 : Ref sig .tc := ⟨.hbm, 152, rfl⟩
abbrev main_cst_22 : Ref sig .tc := ⟨.hbm, 153, rfl⟩
abbrev main_v119 : Ref sig .tc := ⟨.hbm, 154, rfl⟩
abbrev main_v120 : Ref sig .tc := ⟨.hbm, 155, rfl⟩
abbrev main_cst_23 : Ref sig .tc := ⟨.hbm, 156, rfl⟩
abbrev main_v121 : Ref sig .tc := ⟨.hbm, 157, rfl⟩
abbrev main_v122 : Ref sig .tc := ⟨.hbm, 158, rfl⟩
abbrev main_cst_24 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_25 : Ref sig .tc := ⟨.hbm, 164, rfl⟩
abbrev main_v127 : Ref sig .tc := ⟨.hbm, 165, rfl⟩
abbrev main_cst_26 : Ref sig .tc := ⟨.hbm, 166, rfl⟩
abbrev main_v128 : Ref sig .tc := ⟨.hbm, 167, rfl⟩
abbrev main_v129 : Ref sig .tc := ⟨.hbm, 168, rfl⟩
abbrev main_cst_27 : Ref sig .tc := ⟨.hbm, 169, rfl⟩
abbrev main_v130 : Ref sig .tc := ⟨.hbm, 170, rfl⟩
abbrev main_v131 : Ref sig .tc := ⟨.hbm, 171, rfl⟩
abbrev main_cst_28 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_29 : Ref sig .tc := ⟨.hbm, 176, rfl⟩
abbrev main_v135 : Ref sig .tc := ⟨.hbm, 177, rfl⟩
abbrev main_cst_30 : Ref sig .tc := ⟨.hbm, 178, rfl⟩
abbrev main_v136 : Ref sig .tc := ⟨.hbm, 179, rfl⟩
abbrev main_v137 : Ref sig .tc := ⟨.hbm, 180, rfl⟩
abbrev main_cst_31 : Ref sig .tc := ⟨.hbm, 181, rfl⟩
abbrev main_v138 : Ref sig .tc := ⟨.hbm, 182, rfl⟩
abbrev main_v139 : Ref sig .tc := ⟨.hbm, 183, rfl⟩
abbrev main_cst_32 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150_0 : Ref sig .tc := ⟨.hbm, 195, rfl⟩
abbrev main_v150_1 : Ref sig .tc := ⟨.hbm, 196, rfl⟩
abbrev main_v150_2 : Ref sig .tc := ⟨.hbm, 197, rfl⟩
abbrev main_v150_3 : Ref sig .tc := ⟨.hbm, 198, rfl⟩
abbrev main_v150_4 : Ref sig .tc := ⟨.hbm, 199, rfl⟩
abbrev main_v150_5 : Ref sig .tc := ⟨.hbm, 200, rfl⟩
abbrev main_v150_6 : Ref sig .tc := ⟨.hbm, 201, rfl⟩
abbrev main_v150_7 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S4x8192x1024 : Shape := ⟨3, ![4, 8192, 1024]⟩
abbrev S4x6144 : Shape := ⟨2, ![4, 6144]⟩
abbrev S2x1024 : Shape := ⟨2, ![2, 1024]⟩
abbrev S2x1024x1952 : Shape := ⟨3, ![2, 1024, 1952]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S256x512 : Shape := ⟨2, ![256, 512]⟩
abbrev S4x1024 : Shape := ⟨2, ![4, 1024]⟩
abbrev S8192 : Shape := ⟨1, ![8192]⟩
abbrev S_ : Shape := ⟨0, ![]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1x1024x1952 : Shape := ⟨3, ![1, 1024, 1952]⟩
abbrev S1024x1952 : Shape := ⟨2, ![1024, 1952]⟩
abbrev S4x8192x1952 : Shape := ⟨3, ![4, 8192, 1952]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x512 : Shape := ⟨3, ![4, 8192, 512]⟩
abbrev S1x256 : Shape := ⟨2, ![1, 256]⟩
abbrev S256 : Shape := ⟨1, ![256]⟩
abbrev S1x1x256 : Shape := ⟨3, ![1, 1, 256]⟩
abbrev S1x256x384 : Shape := ⟨3, ![1, 256, 384]⟩
abbrev S256x384 : Shape := ⟨2, ![256, 384]⟩
abbrev S4x8192x384 : Shape := ⟨3, ![4, 8192, 384]⟩
abbrev S4x8192x4x96 : Shape := ⟨4, ![4, 8192, 4, 96]⟩
abbrev S4x8192x4x64 : Shape := ⟨4, ![4, 8192, 4, 64]⟩
abbrev S4x8192x4x32 : Shape := ⟨4, ![4, 8192, 4, 32]⟩
abbrev S8192x1x16 : Shape := ⟨3, ![8192, 1, 16]⟩
abbrev S4x8192x4x16 : Shape := ⟨4, ![4, 8192, 4, 16]⟩
abbrev S1x8192x1x16 : Shape := ⟨4, ![1, 8192, 1, 16]⟩
abbrev S1x128 : Shape := ⟨2, ![1, 128]⟩
abbrev S128 : Shape := ⟨1, ![128]⟩
abbrev S1x1x128 : Shape := ⟨3, ![1, 1, 128]⟩
abbrev S1x128x512 : Shape := ⟨3, ![1, 128, 512]⟩
abbrev S128x512 : Shape := ⟨2, ![128, 512]⟩
abbrev S4x8192x4x128 : Shape := ⟨4, ![4, 8192, 4, 128]⟩
abbrev S4x8192x16 : Shape := ⟨3, ![4, 8192, 16]⟩
abbrev S1x8192x16 : Shape := ⟨3, ![1, 8192, 16]⟩
abbrev S4x8192x1x32 : Shape := ⟨4, ![4, 8192, 1, 32]⟩
abbrev S4x512x8192 : Shape := ⟨3, ![4, 512, 8192]⟩
abbrev S4x256x8192 : Shape := ⟨3, ![4, 256, 8192]⟩

abbrev nBuf : Space → Nat
  | .hbm => 243
  | .vmem => 0
  | .smem => 0
  | _ => 0

abbrev hbmTy0_0 (i : Nat) : BufTy := match i % 128 with
  | 0 => ⟨S4x8192x1024, .f32⟩
  | 1 => ⟨S4x6144, .f32⟩
  | 2 => ⟨S2x1024, .f32⟩
  | 3 => ⟨S2x1024x1952, .f32⟩
  | 4 => ⟨S2x256, .f32⟩
  | 5 => ⟨S2x256x384, .f32⟩
  | 6 => ⟨S2x128, .f32⟩
  | 7 => ⟨S2x128x512, .f32⟩
  | 8 => ⟨S256x512, .f32⟩
  | 9 => ⟨S4x1024, .f32⟩
  | 10 => ⟨S4x1024, .f32⟩
  | 11 => ⟨S8192, .i32⟩
  | 12 => ⟨S_, .i32⟩
  | 13 => ⟨S_, .i32⟩
  | 14 => ⟨S8192, .i32⟩
  | 15 => ⟨S8192, .i32⟩
  | 16 => ⟨S8192, .i32⟩
  | 17 => ⟨S_, .i32⟩
  | 18 => ⟨S8192, .i32⟩
  | 19 => ⟨S8192, .i1⟩
  | 20 => ⟨S8192, .i32⟩
  | 21 => ⟨S8192, .i32⟩
  | 22 => ⟨S_, .i32⟩
  | 23 => ⟨S8192, .i32⟩
  | 24 => ⟨S8192, .i1⟩
  | 25 => ⟨S8192, .i1⟩
  | 26 => ⟨S_, .i32⟩
  | 27 => ⟨S8192, .i32⟩
  | 28 => ⟨S8192, .i32⟩
  | 29 => ⟨S8192, .i32⟩
  | 30 => ⟨S8192, .f32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i1⟩
  | 45 => ⟨S_, .i32⟩
  | 46 => ⟨S_, .i1⟩
  | 47 => ⟨S8192, .i1⟩
  | 48 => ⟨S8192, .i1⟩
  | 49 => ⟨S8192, .i1⟩
  | 50 => ⟨S8192, .i32⟩
  | 51 => ⟨S8192, .i32⟩
  | 52 => ⟨S8192, .i32⟩
  | 53 => ⟨S8192, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8192x1, .f32⟩
  | 69 => ⟨S1x8, .f32⟩
  | 70 => ⟨S8192x8, .f32⟩
  | 71 => ⟨S8192x8, .f32⟩
  | 72 => ⟨S8192x8, .f32⟩
  | 73 => ⟨S8192x1, .f32⟩
  | 74 => ⟨S1x8, .f32⟩
  | 75 => ⟨S8192x8, .f32⟩
  | 76 => ⟨S8192x8, .f32⟩
  | 77 => ⟨S8192x8, .f32⟩
  | 78 => ⟨S8192x16, .f32⟩
  | 79 => ⟨S8192x16, .f32⟩
  | 80 => ⟨S8192x16, .f32⟩
  | 81 => ⟨S1x1024, .f32⟩
  | 82 => ⟨S1024, .f32⟩
  | 83 => ⟨S4x8192x1024, .f32⟩
  | 84 => ⟨S_, .f32⟩
  | 85 => ⟨S4x8192, .f32⟩
  | 86 => ⟨S4x8192x1, .f32⟩
  | 87 => ⟨S_, .f32⟩
  | 88 => ⟨S4x8192x1, .f32⟩
  | 89 => ⟨S4x8192x1, .f32⟩
  | 90 => ⟨S_, .f32⟩
  | 91 => ⟨S4x8192x1, .f32⟩
  | 92 => ⟨S4x8192x1, .f32⟩
  | 93 => ⟨S4x8192x1, .f32⟩
  | 94 => ⟨S4x8192x1024, .f32⟩
  | 95 => ⟨S4x8192x1024, .f32⟩
  | 96 => ⟨S1x1x1024, .f32⟩
  | 97 => ⟨S4x8192x1024, .f32⟩
  | 98 => ⟨S4x8192x1024, .f32⟩
  | 99 => ⟨S4x1x1024, .f32⟩
  | 100 => ⟨S_, .f32⟩
  | 101 => ⟨S4x1x1024, .f32⟩
  | 102 => ⟨S4x1x1024, .f32⟩
  | 103 => ⟨S4x8192x1024, .f32⟩
  | 104 => ⟨S4x8192x1024, .f32⟩
  | 105 => ⟨S4x1x1024, .f32⟩
  | 106 => ⟨S4x8192x1024, .f32⟩
  | 107 => ⟨S4x8192x1024, .f32⟩
  | 108 => ⟨S1x1024x1952, .f32⟩
  | 109 => ⟨S1024x1952, .f32⟩
  | 110 => ⟨S4x8192x1952, .f32⟩
  | 111 => ⟨S4x8192x256, .f32⟩
  | 112 => ⟨S4x8192x128, .f32⟩
  | 113 => ⟨S4x8192x32, .f32⟩
  | 114 => ⟨S4x8192x256, .f32⟩
  | 115 => ⟨S4x8192x256, .f32⟩
  | 116 => ⟨S4x8192x256, .f32⟩
  | 117 => ⟨S4x8192x256, .f32⟩
  | 118 => ⟨S4x8192x512, .f32⟩
  | 119 => ⟨S1x256, .f32⟩
  | 120 => ⟨S256, .f32⟩
  | 121 => ⟨S4x8192x256, .f32⟩
  | 122 => ⟨S_, .f32⟩
  | 123 => ⟨S4x8192, .f32⟩
  | 124 => ⟨S4x8192x1, .f32⟩
  | 125 => ⟨S_, .f32⟩
  | 126 => ⟨S4x8192x1, .f32⟩
  | 127 => ⟨S4x8192x1, .f32⟩
  | _ => ⟨S4x8192x1024, .f32⟩

abbrev hbmTy0_1 (i : Nat) : BufTy := match i % 128 with
  | 0 => ⟨S_, .f32⟩
  | 1 => ⟨S4x8192x1, .f32⟩
  | 2 => ⟨S4x8192x1, .f32⟩
  | 3 => ⟨S4x8192x1, .f32⟩
  | 4 => ⟨S4x8192x256, .f32⟩
  | 5 => ⟨S4x8192x256, .f32⟩
  | 6 => ⟨S1x1x256, .f32⟩
  | 7 => ⟨S4x8192x256, .f32⟩
  | 8 => ⟨S4x8192x256, .f32⟩
  | 9 => ⟨S1x256x384, .f32⟩
  | 10 => ⟨S256x384, .f32⟩
  | 11 => ⟨S4x8192x384, .f32⟩
  | 12 => ⟨S4x8192x4x96, .f32⟩
  | 13 => ⟨S4x8192x4x64, .f32⟩
  | 14 => ⟨S4x8192x4x32, .f32⟩
  | 15 => ⟨S8192x1x16, .f32⟩
  | 16 => ⟨S8192x1x16, .f32⟩
  | 17 => ⟨S4x8192x4x16, .f32⟩
  | 18 => ⟨S4x8192x4x16, .f32⟩
  | 19 => ⟨S1x8192x1x16, .f32⟩
  | 20 => ⟨S4x8192x4x16, .f32⟩
  | 21 => ⟨S4x8192x4x16, .f32⟩
  | 22 => ⟨S1x8192x1x16, .f32⟩
  | 23 => ⟨S4x8192x4x16, .f32⟩
  | 24 => ⟨S4x8192x4x16, .f32⟩
  | 25 => ⟨S4x8192x4x16, .f32⟩
  | 26 => ⟨S1x8192x1x16, .f32⟩
  | 27 => ⟨S4x8192x4x16, .f32⟩
  | 28 => ⟨S4x8192x4x16, .f32⟩
  | 29 => ⟨S1x8192x1x16, .f32⟩
  | 30 => ⟨S4x8192x4x16, .f32⟩
  | 31 => ⟨S4x8192x4x16, .f32⟩
  | 32 => ⟨S4x8192x4x16, .f32⟩
  | 33 => ⟨S4x8192x4x32, .f32⟩
  | 34 => ⟨S4x8192x4x96, .f32⟩
  | 35 => ⟨S1x128, .f32⟩
  | 36 => ⟨S128, .f32⟩
  | 37 => ⟨S4x8192x128, .f32⟩
  | 38 => ⟨S_, .f32⟩
  | 39 => ⟨S4x8192, .f32⟩
  | 40 => ⟨S4x8192x1, .f32⟩
  | 41 => ⟨S_, .f32⟩
  | 42 => ⟨S4x8192x1, .f32⟩
  | 43 => ⟨S4x8192x1, .f32⟩
  | 44 => ⟨S_, .f32⟩
  | 45 => ⟨S4x8192x1, .f32⟩
  | 46 => ⟨S4x8192x1, .f32⟩
  | 47 => ⟨S4x8192x1, .f32⟩
  | 48 => ⟨S4x8192x128, .f32⟩
  | 49 => ⟨S4x8192x128, .f32⟩
  | 50 => ⟨S1x1x128, .f32⟩
  | 51 => ⟨S4x8192x128, .f32⟩
  | 52 => ⟨S4x8192x128, .f32⟩
  | 53 => ⟨S1x128x512, .f32⟩
  | 54 => ⟨S128x512, .f32⟩
  | 55 => ⟨S4x8192x512, .f32⟩
  | 56 => ⟨S4x8192x4x128, .f32⟩
  | 57 => ⟨S4x8192x16, .f32⟩
  | 58 => ⟨S4x8192x16, .f32⟩
  | 59 => ⟨S1x8192x16, .f32⟩
  | 60 => ⟨S4x8192x16, .f32⟩
  | 61 => ⟨S4x8192x16, .f32⟩
  | 62 => ⟨S1x8192x16, .f32⟩
  | 63 => ⟨S4x8192x16, .f32⟩
  | 64 => ⟨S4x8192x16, .f32⟩
  | 65 => ⟨S4x8192x16, .f32⟩
  | 66 => ⟨S1x8192x16, .f32⟩
  | 67 => ⟨S4x8192x16, .f32⟩
  | 68 => ⟨S4x8192x16, .f32⟩
  | 69 => ⟨S1x8192x16, .f32⟩
  | 70 => ⟨S4x8192x16, .f32⟩
  | 71 => ⟨S4x8192x16, .f32⟩
  | 72 => ⟨S4x8192x16, .f32⟩
  | 73 => ⟨S4x8192x32, .f32⟩
  | 74 => ⟨S4x8192x1x32, .f32⟩
  | 75 => ⟨S4x8192x4x32, .f32⟩
  | 76 => ⟨S4x8192x4x64, .f32⟩
  | 77 => ⟨S4x8192x4x96, .f32⟩
  | 78 => ⟨S4x8192x4x64, .f32⟩
  | 79 => ⟨S_, .f32⟩
  | 80 => ⟨S4x8192x4x96, .f32⟩
  | 81 => ⟨S4x8192x4x96, .f32⟩
  | 82 => ⟨S_, .i32⟩
  | 83 => ⟨S_, .f32⟩
  | 84 => ⟨S4x8192x4x128, .f32⟩
  | 85 => ⟨S4x8192x512, .f32⟩
  | 86 => ⟨S4x512x8192, .f32⟩
  | 87 => ⟨S4x8192x256, .f32⟩
  | 88 => ⟨S4x256x8192, .f32⟩
  | 89 => ⟨S_, .f32⟩
  | 90 => ⟨S4x8192x256, .f32⟩
  | 91 => ⟨S4x8192x256, .f32⟩
  | 92 => ⟨S4x8192x512, .f32⟩
  | 93 => ⟨S4x8192x256, .f32⟩
  | 94 => ⟨S4x8192x256, .f32⟩
  | 95 => ⟨S4x8192x256, .f32⟩
  | 96 => ⟨S4x8192x256, .f32⟩
  | 97 => ⟨S_, .f32⟩
  | 98 => ⟨S4x8192x256, .f32⟩
  | 99 => ⟨S4x8192x256, .f32⟩
  | 100 => ⟨S_, .f32⟩
  | 101 => ⟨S4x8192x256, .f32⟩
  | 102 => ⟨S4x8192x256, .f32⟩
  | 103 => ⟨S4x8192x256, .f32⟩
  | 104 => ⟨S_, .i32⟩
  | 105 => ⟨S_, .f32⟩
  | 106 => ⟨S4x8192x4x128, .f32⟩
  | 107 => ⟨S4x8192x512, .f32⟩
  | 108 => ⟨S4x512x8192, .bf16⟩
  | 109 => ⟨S4x8192x512, .bf16⟩
  | 110 => ⟨S4x256x8192, .bf16⟩
  | 111 => ⟨S4x8192x256, .bf16⟩
  | 112 => ⟨S4x8192x256, .bf16⟩
  | 113 => ⟨S4x8192x256, .bf16⟩
  | 114 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst : Ref sig .tc := ⟨.hbm, 55, rfl⟩
abbrev main_v8 : Ref sig .tc := ⟨.hbm, 56, rfl⟩
abbrev main_v9 : Ref sig .tc := ⟨.hbm, 57, rfl⟩
abbrev main_cst_1 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_2 : Ref sig .tc := ⟨.hbm, 62, rfl⟩
abbrev main_v13 : Ref sig .tc := ⟨.hbm, 63, rfl⟩
abbrev main_v14 : Ref sig .tc := ⟨.hbm, 64, rfl⟩
abbrev main_cst_3 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_4 : Ref sig .tc := ⟨.hbm, 84, rfl⟩
abbrev main_v33 : Ref sig .tc := ⟨.hbm, 85, rfl⟩
abbrev main_v34 : Ref sig .tc := ⟨.hbm, 86, rfl⟩
abbrev main_cst_5 : Ref sig .tc := ⟨.hbm, 87, rfl⟩
abbrev main_v35 : Ref sig .tc := ⟨.hbm, 88, rfl⟩
abbrev main_v36 : Ref sig .tc := ⟨.hbm, 89, rfl⟩
abbrev main_cst_6 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_7 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_8 : Ref sig .tc := ⟨.hbm, 122, rfl⟩
abbrev main_v67 : Ref sig .tc := ⟨.hbm, 123, rfl⟩
abbrev main_v68 : Ref sig .tc := ⟨.hbm, 124, rfl⟩
abbrev main_cst_9 : Ref sig .tc := ⟨.hbm, 125, rfl⟩
abbrev main_v69 : Ref sig .tc := ⟨.hbm, 126, rfl⟩
abbrev main_v70 : Ref sig .tc := ⟨.hbm, 127, rfl⟩
abbrev main_cst_10 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_11 : Ref sig .tc := ⟨.hbm, 166, rfl⟩
abbrev main_v108 : Ref sig .tc := ⟨.hbm, 167, rfl⟩
abbrev main_v109 : Ref sig .tc := ⟨.hbm, 168, rfl⟩
abbrev main_cst_12 : Ref sig .tc := ⟨.hbm, 169, rfl⟩
abbrev main_v110 : Ref sig .tc := ⟨.hbm, 170, rfl⟩
abbrev main_v111 : Ref sig .tc := ⟨.hbm, 171, rfl⟩
abbrev main_cst_13 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_14 : Ref sig .tc := ⟨.hbm, 207, rfl⟩
abbrev main_v146 : Ref sig .tc := ⟨.hbm, 208, rfl⟩
abbrev main_v147 : Ref sig .tc := ⟨.hbm, 209, rfl⟩
abbrev main_c_15 : Ref sig .tc := ⟨.hbm, 210, rfl⟩
abbrev main_call2_v0 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_16 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_17 : Ref sig .tc := ⟨.hbm, 225, rfl⟩
abbrev main_v160 : Ref sig .tc := ⟨.hbm, 226, rfl⟩
abbrev main_v161 : Ref sig .tc := ⟨.hbm, 227, rfl⟩
abbrev main_cst_18 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_c_19 : Ref sig .tc := ⟨.hbm, 232, rfl⟩
abbrev main_call3_v0 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩

abbrev nD : Nat := 1
abbrev τ : Topo := Topo.v7x

variable {F : FTy → Type} [FloatOps F]
-- ==== Proof.Flash.Model.lean ====
/-
  What one grid step of the attention kernel computes, as functions of the five blocks it reads: the scores of one
  chunk of keys against one head of the queries, a running triple (the maximum so far, the weighted sum of the
  values, the sum of the weights) that takes one chunk after another, and the block written at the end.
-/
module

public import proofs.«01_k».proof.Proof.Gen.KernelIdeal.Skeleton
public import Idealize.ShloMosaic.Lib.VecWindow

@[expose] public section

noncomputable section

namespace Cert.KernelIdeal.Flash

open Idealize.ShloMosaic Idealize.SL.Sem Cert.KernelIdeal.Gen

variable {F : FTy → Type} [FloatOps F]

/-- The running triple: maximum, weighted sum of the values, sum of the weights. -/
abbrev Acc (F : FTy → Type) : Type := FVec F S1x2048 .f32 × FVec F S64x2048 .f32 × FVec F S1x2048 .f32

/-- The queries of head `h`. -/
def qHead (q : Vec F S1x256x2048 .bf16) (h : Fin 2) : Vec F S1x128x2048 .bf16 :=
  VecWindow.window q ![0, 128 * h.val, 0] S1x128x2048.size (by revert h; decide)

/-- Chunk `n` of the keys of head `h`. -/
def keys (k : Vec F S1x8192x256 .bf16) (h : Fin 2) (n : Fin 8) : Vec F S1x1024x128 .bf16 :=
  VecWindow.window k ![0, 1024 * n.val, 128 * h.val] S1x1024x128.size (by revert h n; decide)

/-- Chunk `n` of the values of head `h`. -/
def vals (v : Vec F S1x128x8192 .bf16) (h : Fin 2) (n : Fin 8) : Vec F S1x64x1024 .bf16 :=
  VecWindow.window v ![0, 64 * h.val, 1024 * n.val] S1x64x1024.size (by revert h n; decide)

/-- The context keys of head `h`. -/
def keysC (kc : Vec F S1x256x256 .bf16) (h : Fin 2) : Vec F S1x256x128 .bf16 :=
  VecWindow.window kc ![0, 0, 128 * h.val] S1x256x128.size (by revert h; decide)

/-- The context values of head `h`. -/
def valsC (vc : Vec F S1x128x256 .bf16) (h : Fin 2) : Vec F S1x64x256 .bf16 :=
  VecWindow.window vc ![0, 64 * h.val, 0] S1x64x256.size (by revert h; decide)

/-- The scores of one chunk of keys. -/
def scores (k : Vec F S1x1024x128 .bf16) (q : Vec F S1x128x2048 .bf16) : FVec F S1024x2048 .f32 := k0_pay3 k q

/-- Their maximum for each query. -/
def rowMax (k : Vec F S1x1024x128 .bf16) (q : Vec F S1x128x2048 .bf16) : FVec F S1x2048 .f32 := k0_pay4 k q

/-- The scores of the context keys. -/
def scoresC (k : Vec F S1x256x128 .bf16) (q : Vec F S1x128x2048 .bf16) : FVec F S256x2048 .f32 := k0_pay52 k q

/-- Their maximum for each query. -/
def rowMaxC (k : Vec F S1x256x128 .bf16) (q : Vec F S1x128x2048 .bf16) : FVec F S1x2048 .f32 := k0_pay53 k q

/-- One chunk taken into the running triple. -/
def absorb (mx : FVec F S1x2048 .f32) (s : FVec F S1024x2048 .f32) (v : Vec F S1x64x1024 .bf16) (a : Acc F) : Acc F :=
  (k0_pay5 mx a.1, k0_pay9 mx a.1 a.2.1 v s, k0_pay8 mx a.1 a.2.2 s)

/-- The triple after the first `n` chunks of head `h`. -/
def after (q : Vec F S1x256x2048 .bf16) (k : Vec F S1x8192x256 .bf16) (v : Vec F S1x128x8192 .bf16) (h : Fin 2) : ℕ → Acc F
  | 0 => (k0_pay37, k0_pay38, k0_pay39)
  | n + 1 => absorb (rowMax (keys k h (Fin.ofNat 8 n)) (qHead q h)) (scores (keys k h (Fin.ofNat 8 n)) (qHead q h))
      (vals v h (Fin.ofNat 8 n)) (after q k v h n)

/-- The context taken in last, and the quotient: one head's output. -/
def close (mx : FVec F S1x2048 .f32) (s : FVec F S256x2048 .f32) (v : Vec F S1x64x256 .bf16) (a : Acc F) : FVec F S64x2048 .f32 :=
  have m : FVec F S1x2048 .f32 := maximumf a.1 mx
  have p : FVec F S256x2048 .f32 := exp2 (subf s (broadcastTo S256x2048 m broadcasts_S1x2048_S256x2048))
  have w : FVec F S1x2048 .f32 := exp2 (subf a.1 m)
  have l : FVec F S1x2048 .f32 := addf (mulf w a.2.2) (shapeCast S1x2048 (multiReduction .add [0] S2048 p 0x00000000#32 reduces_S256x2048_S2048 (.inl rfl) rfl) shapeCasts_S2048_S1x2048)
  have o : FVec F S64x2048 .f32 := addf (mulf (broadcastTo S64x2048 w broadcasts_S1x2048_S64x2048) a.2.1)
    (matmul dot_S64x256_S256x2048_S64x2048_1_0_0_1_n_n none (k0_pay43 v) (truncf .bf16 p bitsLt_bf16_f32) (constant S64x2048 .f32 0x00000000#32))
  divf o (broadcastTo S64x2048 l broadcasts_S1x2048_S64x2048)

/-- One head's output from the blocks. -/
def head (q : Vec F S1x256x2048 .bf16) (k : Vec F S1x8192x256 .bf16) (v : Vec F S1x128x8192 .bf16) (kc : Vec F S1x256x256 .bf16)
    (vc : Vec F S1x128x256 .bf16) (h : Fin 2) : FVec F S64x2048 .f32 :=
  close (rowMaxC (keysC kc h) (qHead q h)) (scoresC (keysC kc h) (qHead q h)) (valsC vc h) (after q k v h 8)

/-- The block written: the two heads under each other, transposed. -/
def join (o0 o1 : FVec F S64x2048 .f32) : FVec F S1x2048x128 .bf16 :=
  shapeCast S1x2048x128 (truncf .bf16 (transpose S2048x128 [1, 0]
    (concatenate S128x2048 0 [⟨S64x2048, o0⟩, ⟨S64x2048, o1⟩] concatenates_S64x2048_S64x2048_S128x2048_d0)
    transposes_S128x2048_p1_0_S2048x128) bitsLt_bf16_f32) shapeCasts_S2048x128_S1x2048x128

/-- The block written, from the blocks read. -/
def blockOut (q : Vec F S1x256x2048 .bf16) (k : Vec F S1x8192x256 .bf16) (v : Vec F S1x128x8192 .bf16) (kc : Vec F S1x256x256 .bf16)
    (vc : Vec F S1x128x256 .bf16) : FVec F S1x2048x128 .bf16 :=
  join (head q k v kc vc 0) (head q k v kc vc 1)

/-- Two chunks taken in by one trip of the first head's loop. -/
theorem trip_two (mx : FVec F S1x2048 .f32) (a : Acc F) (k1 k2 : Vec F S1x1024x128 .bf16) (q : Vec F S1x128x2048 .bf16)
    (s1 : FVec F S1024x2048 .f32) (v1 v2 : Vec F S1x64x1024 .bf16) :
    (k0_pay13 (k0_pay4 k1 q) (k0_pay5 mx a.1), k0_pay17 (k0_pay4 k1 q) (k0_pay5 mx a.1) (k0_pay9 mx a.1 a.2.1 v1 s1) v2 (k0_pay3 k1 q),
      k0_pay16 (k0_pay4 k1 q) (k0_pay5 mx a.1) (k0_pay8 mx a.1 a.2.2 s1) (k0_pay3 k1 q))
      = absorb (rowMax k1 q) (scores k1 q) v2 (absorb mx s1 v1 a) := rfl

/-- The first head's tail: the last chunk, the context and the quotient. -/
theorem tail0 (mx : FVec F S1x2048 .f32) (a : Acc F) (s6 : FVec F S1024x2048 .f32) (v6 v7 : Vec F S1x64x1024 .bf16) (k7 : Vec F S1x1024x128 .bf16)
    (q : Vec F S1x128x2048 .bf16) (kx : Vec F S1x256x128 .bf16) (vx : Vec F S1x64x256 .bf16) :
    k0_pay65
      (k0_pay63 (k0_pay46 mx a.1) (k0_pay49 mx a.1 a.2.2 s6) (k0_pay53 kx q) (k0_pay54 mx a.1 (k0_pay41 k7) q) (k0_pay45 (k0_pay41 k7) q) (k0_pay52 kx q))
      (k0_pay64 (k0_pay42 v7) (k0_pay43 vx) (k0_pay46 mx a.1) (k0_pay50 mx a.1 a.2.1 (k0_pay40 v6) s6) (k0_pay53 kx q) (k0_pay54 mx a.1 (k0_pay41 k7) q)
        (k0_pay45 (k0_pay41 k7) q) (k0_pay52 kx q))
      = close (rowMaxC kx q) (scoresC kx q) vx (absorb (rowMax k7 q) (scores k7 q) v7 (absorb mx s6 v6 a)) := rfl

/-- The second head's tail, beside the first head's output. -/
theorem tail1 (o : FVec F S64x2048 .f32) (mx : FVec F S1x2048 .f32) (a : Acc F) (s6 : FVec F S1024x2048 .f32) (v6 v7 : Vec F S1x64x1024 .bf16)
    (k7 : Vec F S1x1024x128 .bf16) (q : Vec F S1x128x2048 .bf16) (kx : Vec F S1x256x128 .bf16) (vx : Vec F S1x64x256 .bf16) :
    k0_pay1 o (k0_pay72 vx) (k0_pay81 mx a.1 (k0_pay75 k7 q)) (k0_pay84 mx a.1 a.2.2 (k0_pay75 k7 q) s6 (k0_pay74 k7 q))
      (k0_pay85 mx a.1 a.2.1 (k0_pay69 v6) (k0_pay70 v7) (k0_pay75 k7 q) s6 (k0_pay74 k7 q)) (k0_pay86 mx a.1 (k0_pay71 kx) (k0_pay75 k7 q) q)
      (k0_pay80 (k0_pay71 kx) q)
      = join o (close (rowMaxC kx q) (scoresC kx q) vx (absorb (rowMax k7 q) (scores k7 q) v7 (absorb mx s6 v6 a))) := rfl

end Cert.KernelIdeal.Flash

end
-- ==== Proof.Flash.Trip.lean ====
/-
  The two counted loops of the attention kernel: one trip takes two chunks into the running triple, and leaves the
  scores of the chunk after them in the first score buffer.
-/
module

public import proofs.«01_k».proof.Proof.Flash.Model
public import Idealize.ShloMosaic.Lib.Exec
public import Idealize.ShloMosaic.Lib.Tactic
public import Idealize.ShloMosaic.Lib.Pipeline.Kit

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (E : Set ℕ) (i : grid0.Coords)
  (arg3 : Memref sig .tc .vmem S1x256x2048 .bf16) (harg3 : arg3.IsWhole) (arg4 : Memref sig .tc .vmem S1x8192x256 .bf16) (harg4 : arg4.IsWhole)
  (arg5 : Memref sig .tc .vmem S1x128x8192 .bf16) (harg5 : arg5.IsWhole) (arg6 : Memref sig .tc .vmem S1x256x256 .bf16) (harg6 : arg6.IsWhole)
  (arg7 : Memref sig .tc .vmem S1x128x256 .bf16) (harg7 : arg7.IsWhole) (arg8 : Memref sig .tc .vmem S1x2048x128 .bf16) (harg8 : arg8.IsWhole)
  (arg9 : Memref sig .tc .vmem S1024x2048 .f32) (harg9 : arg9.IsWhole) (arg10 : Memref sig .tc .vmem S1024x2048 .f32) (harg10 : arg10.IsWhole)
  (arg11 : Memref sig .tc .vmem S256x2048 .f32) (harg11 : arg11.IsWhole)
  (q : Vec F S1x256x2048 .bf16) (k : Vec F S1x8192x256 .bf16) (v : Vec F S1x128x8192 .bf16)

/-- What the loop of head `h` carries before trip `n`: the maximum of chunk `2 n`, and the triple after the chunks before it. -/
def carried (h : Fin 2) (n : ℕ) : FVec F S1x2048 .f32 × FVec F S1x2048 .f32 × FVec F S64x2048 .f32 × FVec F S1x2048 .f32 :=
  (rowMax (keys k h (Fin.ofNat 8 (2 * n))) (qHead q h), (after q k v h (2 * n)).1, (after q k v h (2 * n)).2.1, (after q k v h (2 * n)).2.2)

/-- The resources of the loop of head `h` before trip `n`. -/
def loopRes (h : Fin 2) (n : ℕ) : sProp 𝕄 :=
  iprop(owns (c : Thread nD τ) arg3 fullShare q ∗ owns (c : Thread nD τ) arg4 fullShare k ∗ owns (c : Thread nD τ) arg5 fullShare v
    ∗ owns (c : Thread nD τ) arg9 fullShare (scores (keys k h (Fin.ofNat 8 (2 * n))) (qHead q h)) ∗ (∃ d, owns (c : Thread nD τ) arg10 fullShare d))

/-- A load of a window, by what the view reads. -/
theorem ld_window {s : Shape} {e : EltTy} {sp : Space} (w : View sig .tc sp s e) (f : w.ty.Contents (Elt F)) (x : s.Idx → Elt F e) (hf : w.read (Elt F) f = x)
    {off off' size : Fin s.rank → ℕ} (inb : ∀ a, off a + size a ≤ s.size a) (ho : off = off') (inb' : ∀ a, off' a + size a ≤ s.size a) :
    w.readAt (Elt F) (Rect.unit off size inb).toLoadRect f = VecWindow.window x off' size inb' := by
  subst hf; exact View.readAt_unit w f inb ho inb'

/-- The loops' offsets, as chunk numbers. -/
theorem off1a : ∀ n : Fin k0_t1_loop.trips, k0_off1 n 1#32 = ![0, 1024 * (Fin.ofNat 8 (2 * n.val + 1)).val, 128 * (0 : Fin 2).val] := by decide +kernel
theorem off1b : ∀ n : Fin k0_t1_loop.trips, k0_off1 n 2#32 = ![0, 1024 * (Fin.ofNat 8 (2 * n.val + 2)).val, 128 * (0 : Fin 2).val] := by decide +kernel
theorem off2 : ∀ n : Fin k0_t1_loop.trips, k0_off2 n = ![0, 64 * (0 : Fin 2).val, 1024 * (Fin.ofNat 8 (2 * n.val)).val] := by decide +kernel
theorem off3 : ∀ n : Fin k0_t1_loop.trips, k0_off3 n = ![0, 64 * (0 : Fin 2).val, 1024 * (Fin.ofNat 8 (2 * n.val + 1)).val] := by decide +kernel
theorem off4a : ∀ n : Fin k0_t2_loop.trips, k0_off4 n 1#32 = ![0, 1024 * (Fin.ofNat 8 (2 * n.val + 1)).val, 128 * (1 : Fin 2).val] := by decide +kernel
theorem off4b : ∀ n : Fin k0_t2_loop.trips, k0_off4 n 2#32 = ![0, 1024 * (Fin.ofNat 8 (2 * n.val + 2)).val, 128 * (1 : Fin 2).val] := by decide +kernel
theorem off5 : ∀ n : Fin k0_t2_loop.trips, k0_off5 n = ![0, 64 * (1 : Fin 2).val, 1024 * (Fin.ofNat 8 (2 * n.val)).val] := by decide +kernel
theorem off6 : ∀ n : Fin k0_t2_loop.trips, k0_off6 n = ![0, 64 * (1 : Fin 2).val, 1024 * (Fin.ofNat 8 (2 * n.val + 1)).val] := by decide +kernel

set_option maxHeartbeats 1000000 in
/-- One trip of the first head's loop. -/
theorem trip0 (n : Fin k0_t1_loop.trips) :
    loopRes (F := F) c arg3 arg4 arg5 arg9 arg10 q k v 0 n.val
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 n (carried q k v 0 n.val))
          (fun r => iprop(⌜r = carried q k v 0 (n.val + 1)⌝ ∗ loopRes (F := F) c arg3 arg4 arg5 arg9 arg10 q k v 0 (n.val + 1))) := by
  have hn : n.val < 3 := Nat.lt_of_lt_of_le n.isLt k0_t1_abs.2.1
  unfold k0_t1_body loopRes owns carried
  iintro ⟨⟨%f3, %h3, H3⟩, ⟨%f4, %h4, H4⟩, ⟨%f5, %h5, H5⟩, ⟨%f9, %h9, H9⟩, ⟨%d, %f10, -, H10⟩⟩
  sl_exec
  sl_step
  have eq : View.readAt (Elt F) arg3.view (Rect.unit (s := S1x256x2048) ![0, 0, 0] S1x128x2048.size inb_S1x256x2048_S1x128x2048_0_0_0).toLoadRect f3 = qHead q 0 :=
    ld_window _ _ _ h3 _ rfl _
  have e1 : View.readAt (Elt F) arg4.view (Rect.unit (s := S1x8192x256) (k0_off1 n 1#32) S1x1024x128.size (k0_off1_inb n 0)).toLoadRect f4 = keys k 0 (Fin.ofNat 8 (2 * n.val + 1)) :=
    ld_window _ _ _ h4 _ (off1a n) _
  have e2 : View.readAt (Elt F) arg4.view (Rect.unit (s := S1x8192x256) (k0_off1 n 2#32) S1x1024x128.size (k0_off1_inb n 1)).toLoadRect f4 = keys k 0 (Fin.ofNat 8 (2 * n.val + 2)) :=
    ld_window _ _ _ h4 _ (off1b n) _
  have e3 : View.readAt (Elt F) arg5.view (Rect.unit (s := S1x128x8192) (k0_off2 n) S1x64x1024.size (k0_off2_inb n)).toLoadRect f5 = vals v 0 (Fin.ofNat 8 (2 * n.val)) :=
    ld_window _ _ _ h5 _ (off2 n) _
  have e4 : View.readAt (Elt F) arg5.view (Rect.unit (s := S1x128x8192) (k0_off3 n) S1x64x1024.size (k0_off3_inb n)).toLoadRect f5 = vals v 0 (Fin.ofNat 8 (2 * n.val + 1)) :=
    ld_window _ _ _ h5 _ (off3 n) _
  have e5 : View.readAt (Elt F) arg9.view (Rect.unit (s := S1024x2048) ![0, 0] S1024x2048.size inb_S1024x2048_S1024x2048_0_0).toLoadRect f9
      = scores (keys k 0 (Fin.ofNat 8 (2 * n.val))) (qHead q 0) := (View.readAt_full _ _ _).trans h9
  have e6 (w : FVec F S1024x2048 .f32) : arg10.view.readCov (Val := Elt F)
      [⟨Rect.unit (s := S1024x2048) ![0, 0] S1024x2048.size inb_S1024x2048_S1024x2048_0_0, w⟩]
      (Rect.unit (s := S1024x2048) ![0, 0] S1024x2048.size inb_S1024x2048_S1024x2048_0_0).toLoadRect = w := View.readCov_full _ _ _ _ _
  delta trip0.sl.r_7 trip0.sl.r_6 trip0.sl.r_5 trip0.sl.r_4 trip0.sl.r_3 trip0.sl.r_2 trip0.sl.r_1 trip0.sl.r trip0.sl.v260 trip0.sl.H10_1
  simp only [eq, e1, e2, e3, e4, e5, e6]
  isplitr
  · ipureintro; rfl
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H9]
  · iexists _; isplitr; swap; · iexact H9
    ipureintro; exact View.read_writes_full _ _ _ _ _
  iexists _, _; isplitr; swap; · iexact H10
  ipureintro; rfl

set_option maxHeartbeats 1000000 in
/-- One trip of the second head's loop. -/
theorem trip1 (v88 v99 : FVec F S1x2048 .f32) (v104 : FVec F S64x2048 .f32) (n : Fin k0_t2_loop.trips) :
    loopRes (F := F) c arg3 arg4 arg5 arg9 arg10 q k v 1 n.val
      ⊢ wp frame (wpE (defs₀ (F := F)) Variants.none (c : Thread nD τ) none) E
          (k0_t2_body (F := F) i arg3 harg3 arg4 harg4 arg5 harg5 arg6 harg6 arg7 harg7 arg8 harg8 arg9 harg9 arg10 harg10 arg11 harg11 v88 v99 v104 n (carried q k v 1 n.val))
          (fun r => iprop(⌜r = carried q k v 1 (n.val + 1)⌝ ∗ loopRes (F := F) c arg3 arg4 arg5 arg9 arg10 q k v 1 (n.val + 1))) := by
  have hn : n.val < 3 := Nat.lt_of_lt_of_le n.isLt k0_t2_abs.2.1
  unfold k0_t2_body loopRes owns carried
  iintro ⟨⟨%f3, %h3, H3⟩, ⟨%f4, %h4, H4⟩, ⟨%f5, %h5, H5⟩, ⟨%f9, %h9, H9⟩, ⟨%d, %f10, -, H10⟩⟩
  sl_exec
  sl_step
  have eq : View.readAt (Elt F) arg3.view (Rect.unit (s := S1x256x2048) ![0, 128, 0] S1x128x2048.size inb_S1x256x2048_S1x128x2048_0_128_0).toLoadRect f3 = qHead q 1 :=
    ld_window _ _ _ h3 _ rfl _
  have e1 : View.readAt (Elt F) arg4.view (Rect.unit (s := S1x8192x256) (k0_off4 n 1#32) S1x1024x128.size (k0_off4_inb n 0)).toLoadRect f4 = keys k 1 (Fin.ofNat 8 (2 * n.val + 1)) :=
    ld_window _ _ _ h4 _ (off4a n) _
  have e2 : View.readAt (Elt F) arg4.view (Rect.unit (s := S1x8192x256) (k0_off4 n 2#32) S1x1024x128.size (k0_off4_inb n 1)).toLoadRect f4 = keys k 1 (Fin.ofNat 8 (2 * n.val + 2)) :=
    ld_window _ _ _ h4 _ (off4b n) _
  have e3 : View.readAt (Elt F) arg5.view (Rect.unit (s := S1x128x8192) (k0_off5 n) S1x64x1024.size (k0_off5_inb n)).toLoadRect f5 = vals v 1 (Fin.ofNat 8 (2 * n.val)) :=
    ld_window _ _ _ h5 _ (off5 n) _
  have e4 : View.readAt (Elt F) arg5.view (Rect.unit (s := S1x128x8192) (k0_off6 n) S1x64x1024.size (k0_off6_inb n)).toLoadRect f5 = vals v 1 (Fin.ofNat 8 (2 * n.val + 1)) :=
    ld_window _ _ _ h5 _ (off6 n) _
  have e5 : View.readAt (Elt F) arg9.view (Rect.unit (s := S1024x2048) ![0, 0] S1024x2048.size inb_S1024x2048_S1024x2048_0_0).toLoadRect f9
      = scores (keys k 1 (Fin.ofNat 8 (2 * n.val))) (qHead q 1) := (View.readAt_full _ _ _).trans h9
  have e6 (w : FVec F S1024x2048 .f32) : arg10.view.readCov (Val := Elt F)
      [⟨Rect.unit (s := S1024x2048) ![0, 0] S1024x2048.size inb_S1024x2048_S1024x2048_0_0, w⟩]
      (Rect.unit (s := S1024x2048) ![0, 0] S1024x2048.size inb_S1024x2048_S1024x2048_0_0).toLoadRect = w := View.readCov_full _ _ _ _ _
  delta trip1.sl.r_7 trip1.sl.r_6 trip1.sl.r_5 trip1.sl.r_4 trip1.sl.r_3 trip1.sl.r_2 trip1.sl.r_1 trip1.sl.r trip1.sl.v260 trip1.sl.H10_1
  simp only [eq, e1, e2, e3, e4, e5, e6]
  isplitr
  · ipureintro; rfl
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H9]
  · iexists _; isplitr; swap; · iexact H9
    ipureintro; exact View.read_writes_full _ _ _ _ _
  iexists _, _; isplitr; swap; · iexact H10
  ipureintro; rfl

/-- The first head's loop, kept by its invariant. -/
theorem step0 (n : Fin k0_t1_loop.trips) (a : FVec F S1x2048 .f32 × FVec F S1x2048 .f32 × FVec F S64x2048 .f32 × FVec F S1x2048 .f32) :
    iprop(⌜a = carried q k v 0 n.val⌝ ∗ loopRes (F := F) c arg3 arg4 arg5 arg9 arg10 q k v 0 n.val)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 n a)
          (fun r => iprop(⌜r = carried q k v 0 (n.val + 1)⌝ ∗ loopRes (F := F) c arg3 arg4 arg5 arg9 arg10 q k v 0 (n.val + 1))) := by
  iintro ⟨%ha, H⟩
  subst ha
  iapply (trip0 (F := F) c E i arg3 harg3 arg4 harg4 arg5 harg5 arg6 harg6 arg7 harg7 arg8 harg8 arg9 harg9 arg10 harg10 arg11 harg11 q k v n)
  iexact H

/-- The second head's loop, kept by its invariant. -/
theorem step1 (v88 v99 : FVec F S1x2048 .f32) (v104 : FVec F S64x2048 .f32) (n : Fin k0_t2_loop.trips) (a : FVec F S1x2048 .f32 × FVec F S1x2048 .f32 × FVec F S64x2048 .f32 × FVec F S1x2048 .f32) :
    iprop(⌜a = carried q k v 1 n.val⌝ ∗ loopRes (F := F) c arg3 arg4 arg5 arg9 arg10 q k v 1 n.val)
      ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 v88 v99 v104 n a)
          (fun r => iprop(⌜r = carried q k v 1 (n.val + 1)⌝ ∗ loopRes (F := F) c arg3 arg4 arg5 arg9 arg10 q k v 1 (n.val + 1))) := by
  iintro ⟨%ha, H⟩
  subst ha
  iapply (trip1 (F := F) c E i arg3 harg3 arg4 harg4 arg5 harg5 arg6 harg6 arg7 harg7 arg8 harg8 arg9 harg9 arg10 harg10 arg11 harg11 q k v v88 v99 v104 n)
  iexact H

end Cert.KernelIdeal.Flash

end
-- ==== Proof.Flash.Body.lean ====
/-
  One grid step of the attention kernel: on whole staging memrefs the body leaves in its output block the function
  `blockOut` of the five blocks it reads.
-/
module

public import proofs.«01_k».proof.Proof.Flash.Trip

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (E : Set ℕ) (i : grid0.Coords)
  (arg3 : Memref sig .tc .vmem S1x256x2048 .bf16) (harg3 : arg3.IsWhole) (arg4 : Memref sig .tc .vmem S1x8192x256 .bf16) (harg4 : arg4.IsWhole)
  (arg5 : Memref sig .tc .vmem S1x128x8192 .bf16) (harg5 : arg5.IsWhole) (arg6 : Memref sig .tc .vmem S1x256x256 .bf16) (harg6 : arg6.IsWhole)
  (arg7 : Memref sig .tc .vmem S1x128x256 .bf16) (harg7 : arg7.IsWhole) (arg8 : Memref sig .tc .vmem S1x2048x128 .bf16) (harg8 : arg8.IsWhole)
  (arg9 : Memref sig .tc .vmem S1024x2048 .f32) (harg9 : arg9.IsWhole) (arg10 : Memref sig .tc .vmem S1024x2048 .f32) (harg10 : arg10.IsWhole)
  (arg11 : Memref sig .tc .vmem S256x2048 .f32) (harg11 : arg11.IsWhole)
  (q : Vec F S1x256x2048 .bf16) (k : Vec F S1x8192x256 .bf16) (v : Vec F S1x128x8192 .bf16)
  (kc : Vec F S1x256x256 .bf16) (vc : Vec F S1x128x256 .bf16)

theorem trips1 : k0_t1_loop.trips = 3 := by decide +kernel
theorem trips2 : k0_t2_loop.trips = 3 := by decide +kernel

set_option maxHeartbeats 4000000 in
/-- The body's triple: the inputs' blocks come back, the output block holds `blockOut` of them. -/
theorem body_run (K : PUnit → sProp 𝕄) :
    iprop(owns (c : Thread nD τ) arg3 fullShare q ∗ owns (c : Thread nD τ) arg4 fullShare k ∗ owns (c : Thread nD τ) arg5 fullShare v ∗ owns (c : Thread nD τ) arg6 fullShare kc ∗ owns (c : Thread nD τ) arg7 fullShare vc ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare q ∗ owns (c : Thread nD τ) arg4 fullShare k ∗ owns (c : Thread nD τ) arg5 fullShare v ∗ owns (c : Thread nD τ) arg6 fullShare kc ∗ owns (c : Thread nD τ) arg7 fullShare vc ∗ owns (c : Thread nD τ) arg8 fullShare (blockOut q k v kc vc) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none (c : Thread nD τ) none) E (cc0_mla_attn i arg3 harg3 arg4 harg4 arg5 harg5 arg6 harg6 arg7 harg7 arg8 harg8 arg9 harg9 arg10 harg10 arg11 harg11) K := by
  simp only [cc0_mla_attn_eq_skeleton]; unfold cc0_mla_attn_skel
  simp only [k0_part5_eq_skeleton, k0_part6_eq_skeleton, k0_part7_eq_skeleton, k0_part8_eq_skeleton, k0_part9_eq_skeleton]
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, Hk⟩
  sl_exec
  have eq0 : View.readAt (Elt F) arg3.view (Rect.unit (s := S1x256x2048) ![0, 0, 0] S1x128x2048.size inb_S1x256x2048_S1x128x2048_0_0_0).toLoadRect f3 = qHead q 0 :=
    ld_window _ _ _ h3 _ rfl _
  have ek0 : View.readAt (Elt F) arg4.view (Rect.unit (s := S1x8192x256) ![0, 0, 0] S1x1024x128.size inb_S1x8192x256_S1x1024x128_0_0_0).toLoadRect f4 = keys k 0 0 :=
    ld_window _ _ _ h4 _ rfl _
  delta body_run.sl.H9_1
  simp only [eq0, ek0]
  iapply (Scf.wp_for_bind Idealize.ShloMosaic.frame (wpE (defs₀ (F := F)) Variants.none (c : Thread nD τ) none) E k0_t1_loop.lb k0_t1_loop.ub k0_t1_loop.st k0_t1_ok _
    (k0_t1_body (F := F) i arg3 harg3 arg4 harg4 arg5 harg5 arg6 harg6 arg7 harg7 arg8 harg8 arg9 harg9 arg10 harg10 arg11 harg11) (fun n a => iprop(⌜a = carried q k v 0 n⌝ ∗ loopRes (F := F) c arg3 arg4 arg5 arg9 arg10 q k v 0 n))
    (step0 (F := F) c E i arg3 harg3 arg4 harg4 arg5 harg5 arg6 harg6 arg7 harg7 arg8 harg8 arg9 harg9 arg10 harg10 arg11 harg11 q k v)) $$ [H3 H4 H5 H9 H10]
  · unfold loopRes owns
    isplitr
    · ipureintro; rfl
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H9]
    · iexists _; isplitr; swap; · iexact H9
      ipureintro; exact View.read_writes_full _ _ _ _ _
    iexists _, _; isplitr; swap; · iexact H10
    ipureintro; rfl
  iintro %a0 ⟨%ha0, H⟩
  have ht0 : Scf.trips k0_t1_loop.lb k0_t1_loop.ub k0_t1_loop.st = 3 := trips1
  rw [ht0] at ha0 ⊢
  subst ha0
  unfold carried loopRes owns
  clear h3 h4 h5 eq0 ek0
  clear f3 f4 f5
  icases H with ⟨⟨%f3, %h3, H3⟩, ⟨%f4, %h4, H4⟩, ⟨%f5, %h5, H5⟩, ⟨%f9, %h9, H9⟩, ⟨%d10, %f10, -, H10⟩⟩
  sl_exec
  have eq0 : View.readAt (Elt F) arg3.view (Rect.unit (s := S1x256x2048) ![0, 0, 0] S1x128x2048.size inb_S1x256x2048_S1x128x2048_0_0_0).toLoadRect f3 = qHead q 0 :=
    ld_window _ _ _ h3 _ rfl _
  have el0 : View.readAt (Elt F) arg4.view (Rect.unit (s := S1x8192x256) ![0, 7168, 0] S1x1024x128.size inb_S1x8192x256_S1x1024x128_0_7168_0).toLoadRect f4 = keys k 0 7 :=
    ld_window _ _ _ h4 _ rfl _
  have ev0 : View.readAt (Elt F) arg5.view (Rect.unit (s := S1x128x8192) ![0, 0, 6144] S1x64x1024.size inb_S1x128x8192_S1x64x1024_0_0_6144).toLoadRect f5 = vals v 0 6 :=
    ld_window _ _ _ h5 _ rfl _
  have ew0 : View.readAt (Elt F) arg5.view (Rect.unit (s := S1x128x8192) ![0, 0, 7168] S1x64x1024.size inb_S1x128x8192_S1x64x1024_0_0_7168).toLoadRect f5 = vals v 0 7 :=
    ld_window _ _ _ h5 _ rfl _
  have ec0 : View.readAt (Elt F) arg6.view (Rect.unit (s := S1x256x256) ![0, 0, 0] S1x256x128.size inb_S1x256x256_S1x256x128_0_0_0).toLoadRect f6 = keysC kc 0 :=
    ld_window _ _ _ h6 _ rfl _
  have ed0 : View.readAt (Elt F) arg7.view (Rect.unit (s := S1x128x256) ![0, 0, 0] S1x64x256.size inb_S1x128x256_S1x64x256_0_0_0).toLoadRect f7 = valsC vc 0 :=
    ld_window _ _ _ h7 _ rfl _
  have eq1 : View.readAt (Elt F) arg3.view (Rect.unit (s := S1x256x2048) ![0, 128, 0] S1x128x2048.size inb_S1x256x2048_S1x128x2048_0_128_0).toLoadRect f3 = qHead q 1 :=
    ld_window _ _ _ h3 _ rfl _
  have ek1 : View.readAt (Elt F) arg4.view (Rect.unit (s := S1x8192x256) ![0, 0, 128] S1x1024x128.size inb_S1x8192x256_S1x1024x128_0_0_128).toLoadRect f4 = keys k 1 0 :=
    ld_window _ _ _ h4 _ rfl _
  have e10 (w : FVec F S1024x2048 .f32) (L : List (View.Piece (Elt F) S1024x2048 .f32)) : arg10.view.readCov (Val := Elt F) (⟨Rect.unit (s := S1024x2048) ![0, 0] S1024x2048.size inb_S1024x2048_S1024x2048_0_0, w⟩ :: L)
      (Rect.unit (s := S1024x2048) ![0, 0] S1024x2048.size inb_S1024x2048_S1024x2048_0_0).toLoadRect = w := View.readCov_full _ _ _ _ _
  have e11 (w : FVec F S256x2048 .f32) (L : List (View.Piece (Elt F) S256x2048 .f32)) : arg11.view.readCov (Val := Elt F) (⟨Rect.unit (s := S256x2048) ![0, 0] S256x2048.size inb_S256x2048_S256x2048_0_0, w⟩ :: L)
      (Rect.unit (s := S256x2048) ![0, 0] S256x2048.size inb_S256x2048_S256x2048_0_0).toLoadRect = w := View.readCov_full _ _ _ _ _
  have e9 : View.readAt (Elt F) arg9.view (Rect.unit (s := S1024x2048) ![0, 0] S1024x2048.size inb_S1024x2048_S1024x2048_0_0).toLoadRect f9
      = scores (keys k 0 6) (qHead q 0) := (View.readAt_full _ _ _).trans h9
  delta body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.v64 body_run.sl.v90 body_run.sl.H9_1_1 body_run.sl.H10_1 body_run.sl.H11_1
  simp only [eq0, el0, ev0, ew0, ec0, ed0, eq1, ek1, e9, e10, e11]
  simp only [tail0]
  iapply (Scf.wp_for_bind Idealize.ShloMosaic.frame (wpE (defs₀ (F := F)) Variants.none (c : Thread nD τ) none) E k0_t2_loop.lb k0_t2_loop.ub k0_t2_loop.st k0_t2_ok _
    (k0_t2_body (F := F) i arg3 harg3 arg4 harg4 arg5 harg5 arg6 harg6 arg7 harg7 arg8 harg8 arg9 harg9 arg10 harg10 arg11 harg11 _ _ _) (fun n a => iprop(⌜a = carried q k v 1 n⌝ ∗ loopRes (F := F) c arg3 arg4 arg5 arg9 arg10 q k v 1 n))
    (step1 (F := F) c E i arg3 harg3 arg4 harg4 arg5 harg5 arg6 harg6 arg7 harg7 arg8 harg8 arg9 harg9 arg10 harg10 arg11 harg11 q k v _ _ _)) $$ [H3 H4 H5 H9 H10]
  · unfold loopRes owns
    isplitr
    · ipureintro; rfl
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H9]
    · iexists _; isplitr; swap; · iexact H9
      ipureintro; exact View.read_writes_full _ _ _ _ _
    iexists _, _; isplitr; swap; · iexact H10
    ipureintro; rfl
  iintro %a1 ⟨%ha1, H⟩
  have ht1 : Scf.trips k0_t2_loop.lb k0_t2_loop.ub k0_t2_loop.st = 3 := trips2
  rw [ht1] at ha1 ⊢
  subst ha1
  unfold carried loopRes owns
  clear h3 h4 h5 eq0 el0 ev0 ew0 ec0 ed0 eq1 ek1 e9 e10 e11
  clear h9 f9 f3 f4 f5
  icases H with ⟨⟨%f3, %h3, H3⟩, ⟨%f4, %h4, H4⟩, ⟨%f5, %h5, H5⟩, ⟨%f9, %h9, H9⟩, ⟨%d10, %f10, -, H10⟩⟩
  sl_exec
  have eq1 : View.readAt (Elt F) arg3.view (Rect.unit (s := S1x256x2048) ![0, 128, 0] S1x128x2048.size inb_S1x256x2048_S1x128x2048_0_128_0).toLoadRect f3 = qHead q 1 :=
    ld_window _ _ _ h3 _ rfl _
  have el1 : View.readAt (Elt F) arg4.view (Rect.unit (s := S1x8192x256) ![0, 7168, 128] S1x1024x128.size inb_S1x8192x256_S1x1024x128_0_7168_128).toLoadRect f4 = keys k 1 7 :=
    ld_window _ _ _ h4 _ rfl _
  have ev1 : View.readAt (Elt F) arg5.view (Rect.unit (s := S1x128x8192) ![0, 64, 6144] S1x64x1024.size inb_S1x128x8192_S1x64x1024_0_64_6144).toLoadRect f5 = vals v 1 6 :=
    ld_window _ _ _ h5 _ rfl _
  have ew1 : View.readAt (Elt F) arg5.view (Rect.unit (s := S1x128x8192) ![0, 64, 7168] S1x64x1024.size inb_S1x128x8192_S1x64x1024_0_64_7168).toLoadRect f5 = vals v 1 7 :=
    ld_window _ _ _ h5 _ rfl _
  have ec1 : View.readAt (Elt F) arg6.view (Rect.unit (s := S1x256x256) ![0, 0, 128] S1x256x128.size inb_S1x256x256_S1x256x128_0_0_128).toLoadRect f6 = keysC kc 1 :=
    ld_window _ _ _ h6 _ rfl _
  have ed1 : View.readAt (Elt F) arg7.view (Rect.unit (s := S1x128x256) ![0, 64, 0] S1x64x256.size inb_S1x128x256_S1x64x256_0_64_0).toLoadRect f7 = valsC vc 1 :=
    ld_window _ _ _ h7 _ rfl _
  have e10 (w : FVec F S1024x2048 .f32) (L : List (View.Piece (Elt F) S1024x2048 .f32)) : arg10.view.readCov (Val := Elt F) (⟨Rect.unit (s := S1024x2048) ![0, 0] S1024x2048.size inb_S1024x2048_S1024x2048_0_0, w⟩ :: L)
      (Rect.unit (s := S1024x2048) ![0, 0] S1024x2048.size inb_S1024x2048_S1024x2048_0_0).toLoadRect = w := View.readCov_full _ _ _ _ _
  have e11 (w : FVec F S256x2048 .f32) (L : List (View.Piece (Elt F) S256x2048 .f32)) : arg11.view.readCov (Val := Elt F) (⟨Rect.unit (s := S256x2048) ![0, 0] S256x2048.size inb_S256x2048_S256x2048_0_0, w⟩ :: L)
      (Rect.unit (s := S256x2048) ![0, 0] S256x2048.size inb_S256x2048_S256x2048_0_0).toLoadRect = w := View.readCov_full _ _ _ _ _
  have e9 : View.readAt (Elt F) arg9.view (Rect.unit (s := S1024x2048) ![0, 0] S1024x2048.size inb_S1024x2048_S1024x2048_0_0).toLoadRect f9
      = scores (keys k 1 6) (qHead q 1) := (View.readAt_full _ _ _).trans h9
  sl_step
  delta body_run.sl.r_29 body_run.sl.r_28 body_run.sl.r_27 body_run.sl.r_26 body_run.sl.r_25 body_run.sl.r_24 body_run.sl.r_23 body_run.sl.r_22 body_run.sl.r_21 body_run.sl.r_20 body_run.sl.r_19 body_run.sl.r_18 body_run.sl.r_17 body_run.sl.r_16 body_run.sl.v161 body_run.sl.v177 body_run.sl.H11_2 body_run.sl.H10_1_1
  simp only [eq1, el1, ev1, ew1, ec1, ed1, e9, e10, e11, tail1]
  iapply Hk
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact View.read_writes_full _ _ _ _ _
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.KernelIdeal.Flash

end
-- ==== Proof.Flash.Run.lean ====
/-
  The launch of the attention kernel: at every grid step the body leaves `blockOut` of the step's five input blocks in
  the output block, so that the whole run terminates, changes no argument, and leaves the output array assembled of
  those blocks.
-/
module

public import proofs.«01_k».proof.Proof.Gen.KernelIdeal.Frame.Runs
public import proofs.«01_k».proof.Proof.Flash.Body
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid step `t`. -/
def outAt (c : Dev nD) (t : Fin cfg0.N) : Vec F S1x2048x128 .bf16 :=
  blockOut (iblk m c 0 t) (iblk m c 1 t) (iblk m c 2 t) (iblk m c 3 t) (iblk m c 4 t)

/-- What each window's buffer holds after a step: an input its block, the output `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem dats_A (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_kc (c : Dev nD) (t : Fin cfg0.N) : (dats m 0 c).after 3 t = iblk m c 3 t := by dsimp only [dats]
theorem after_vc (c : Dev nD) (t : Fin cfg0.N) : (dats m 0 c).after 4 t = iblk m c 4 t := by dsimp only [dats]
theorem after_o (c : Dev nD) (t : Fin cfg0.N) : (dats m 0 c).after 5 t = outAt m c t := by dsimp only [dats]

theorem before_q (c : Dev nD) (t : Fin cfg0.N) (d) : (dats m 0 c).before 0 t d = iblk m c 0 t := before0_0_of m _ (dats_A m c 0) (after_q m c) t d
theorem before_k (c : Dev nD) (t : Fin cfg0.N) (d) : (dats m 0 c).before 1 t d = iblk m c 1 t := before0_1_of m _ (dats_A m c 1) (after_k m c) t d
theorem before_v (c : Dev nD) (t : Fin cfg0.N) (d) : (dats m 0 c).before 2 t d = iblk m c 2 t := before0_2_of m _ (dats_A m c 2) (after_v m c) t d
theorem before_kc (c : Dev nD) (t : Fin cfg0.N) (d) : (dats m 0 c).before 3 t d = iblk m c 3 t := before0_3_of m _ (dats_A m c 3) (after_kc m c) t d
theorem before_vc (c : Dev nD) (t : Fin cfg0.N) (d) : (dats m 0 c).before 4 t d = iblk m c 4 t := before0_4_of m _ (dats_A m c 4) (after_vc m c) t d

/-- The state the body of step `t` starts from. -/
def stepPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- The state it ends in. -/
def stepPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any step takes the one to the other. -/
theorem step_run (c : Dev nD) (t : Fin cfg0.N) :
    stepPre m c t ⊢ wp frame (wpE (defs₀ (F := F)) Variants.none c none) Set.univ (bodyAt0 t) (fun _ => stepPost m c t) := by
  unfold stepPre stepPost bodyAt0
  simp only [before_q, before_k, before_v, before_kc, before_vc]
  rw [show (dats m 0 c).Φ t.succ = (dats m 0 c).Φ t.castSucc from rfl,
    show (dats m 0 c).owesAt () t.succ = (dats m 0 c).owesAt () t.castSucc from rfl,
    after_q, after_k, after_v, after_kc, after_vc, after_o]
  rw [show (dats m 0 c).Φ t.castSucc = Pipeline.ΦA spec0 c from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (body_run (F := F) c Set.univ (grid0.coords t) _ _ _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at step `t`. -/
theorem body_row (t : Fin cfg0.N) : defs₀ (F := F) .tc cfg0.body (cfg0.bodyArgs t (cfg0.slots t)) = bodyAt0 t := by
  unfold defs₀; rw [Defs.onTc_tc]

/-- The pipeline's obligation on the body, at every step. -/
theorem obligation (c : Dev nD) : BodyObligation (dats (F := F) m 0 c) (defs₀ (F := F)) Variants.none () Set.univ := fun t => by
  rw [bigSep_W0, bigSep_W0, body_row]
  exact triple_restated (step_run m c t) rfl .rfl fun _ => .rfl

set_option backward.isDefEq.respectTransparency.types false in
/-- The launch ends, with the arrays as the proof data say and every semaphore at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The same, without the semaphores. -/
theorem run : θ_run defs (onTc (τ := τ) (main (F := F))) (s₀ m ρ) (Pipeline.FramePost cfgs (dats m) 0 (V m)) :=
  (θ_run defs _ _).mono (fun _ h => h.1) (launch m ρ)

/-- The frame: no argument array changes, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) (run m ρ)) ((θ_run defs _ _).mono (fun _ h => h.2) (launch m ρ))

end Cert.KernelIdeal.Flash

end
-- ==== Proof.Flash.Words.lean ====
/-
  The attention call read at words and read at the extended reals is one program: no operation of it was replaced. So
  the frame proved of the one is that of the other.
-/
module

public import proofs.«01_k».proof.Defs
public import proofs.«01_k».proof.Proof.Gen.Kernel
public import proofs.«01_k».proof.Proof.Flash.Run

@[expose] public section

set_option maxRecDepth 16384

noncomputable section

namespace Cert.KernelIdeal.Flash

open Idealize.ShloMosaic Idealize.ShloMosaic.TcCoe Idealize.SL.Sem

/-- The kernel's body is the same in both. -/
theorem body_same : @Cert.Kernel.cc0_mla_attn Bits _ _ = @Cert.KernelIdeal.cc0_mla_attn Bits _ _ := by with_unfolding_all rfl

/-- So is the table of bodies. -/
theorem table_same : @Cert.Kernel.defs₀ Bits _ _ = @Cert.KernelIdeal.defs₀ Bits _ _ := by
  unfold Cert.Kernel.defs₀ Cert.KernelIdeal.defs₀
  refine congrArg (@Defs.onTc _ _ _ _ _) ?_
  funext ℓ a
  obtain rfl : ℓ = 0 := Subsingleton.elim _ _
  obtain ⟨t, s⟩ := a
  dsimp only
  rw [body_same]
  with_unfolding_all rfl

/-- So is the table with the regions. -/
theorem defs_same : @Cert.Kernel.defs Bits _ _ = @Cert.KernelIdeal.defs Bits _ _ := by
  unfold Cert.Kernel.defs Cert.KernelIdeal.defs
  exact congrArg _ table_same

/-- The frame of the call at words. -/
theorem frame_words : Cert.quiescent_Kernel := fun m g _ => by
  have h := frame (F := Bits) m g
  rw [← defs_same] at h
  exact h

end Cert.KernelIdeal.Flash

end
-- ==== Proof.Flash.Host.lean ====
/-
  The arrays that the attention call reads, as the host prepares them from the arguments, element by element.
-/
module

public import proofs.«01_k».proof.Proof.Gen.KernelIdeal
public import Idealize.ShloMosaic.Lib.Pointwise

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal.Gen

/-! ## The rearrangements -/

/-- A head's 128 lanes: its 96 channels, then zeros. -/
def padded (x : Fin 96 → EReal) (u : Fin 128) : EReal := if h : u.val < 96 then x ⟨u.val, h⟩ else 0

theorem pad_at (x : FVec Ideal S4x8192x4x96 .f32) (b : Fin 4) (s : Fin 8192) (h : Fin 4) (u : Fin 128) :
    concatenate S4x8192x4x128 3 [⟨S4x8192x4x96, x⟩, ⟨S4x8192x4x32, broadcastInDim S4x8192x4x32 ![] bcast_S_S4x8192x4x32 (constant S_ .f32 0x00000000#32)⟩]
      concatenates_S4x8192x4x96_S4x8192x4x32_S4x8192x4x128_d3 (ix4 b s h u) = padded (fun w => x (ix4 b s h w)) u := by
  unfold padded
  pointwise

theorem padC_at (x : FVec Ideal S4x256x4x96 .f32) (b : Fin 4) (s : Fin 256) (h : Fin 4) (u : Fin 128) :
    concatenate S4x256x4x128 3 [⟨S4x256x4x96, x⟩, ⟨S4x256x4x32, broadcastInDim S4x256x4x32 ![] bcast_S_S4x256x4x32 (constant S_ .f32 0x00000000#32)⟩]
      concatenates_S4x256x4x96_S4x256x4x32_S4x256x4x128_d3 (ix4 b s h u) = padded (fun w => x (ix4 b s h w)) u := by
  unfold padded
  pointwise

theorem flat_at (x : FVec Ideal S4x8192x4x128 .f32) (b : Fin 4) (s : Fin 8192) (h : Fin 4) (u : Fin 128) :
    shapeCast S4x8192x512 x shapeCasts_S4x8192x4x128_S4x8192x512 (ix3 b s ⟨128 * h.val + u.val, by omega⟩) = x (ix4 b s h u) := by
  pointwise

theorem flatC_at (x : FVec Ideal S4x256x4x128 .f32) (b : Fin 4) (s : Fin 256) (h : Fin 4) (u : Fin 128) :
    shapeCast S4x256x512 x shapeCasts_S4x256x4x128_S4x256x512 (ix3 b s ⟨128 * h.val + u.val, by omega⟩) = x (ix4 b s h u) := by
  pointwise

theorem flatV_at (x : FVec Ideal S4x8192x4x64 .f32) (b : Fin 4) (s : Fin 8192) (h : Fin 4) (d : Fin 64) :
    shapeCast S4x8192x256 x shapeCasts_S4x8192x4x64_S4x8192x256 (ix3 b s ⟨64 * h.val + d.val, by omega⟩) = x (ix4 b s h d) := by
  pointwise

theorem flatVC_at (x : FVec Ideal S4x256x4x64 .f32) (b : Fin 4) (s : Fin 256) (h : Fin 4) (d : Fin 64) :
    shapeCast S4x256x256 x shapeCasts_S4x256x4x64_S4x256x256 (ix3 b s ⟨64 * h.val + d.val, by omega⟩) = x (ix4 b s h d) := by
  pointwise

theorem turn_at (x : FVec Ideal S4x8192x512 .f32) (b : Fin 4) (w : Fin 512) (s : Fin 8192) :
    (truncf .bf16 (transpose S4x512x8192 [0, 2, 1] x transposes_S4x8192x512_S4x512x8192_0_2_1) bitsLt_bf16_f32 : FVec Ideal S4x512x8192 .bf16)
      (ix3 b w s) = x (ix3 b s w) := by
  pointwise

theorem turnV_at (x : FVec Ideal S4x8192x256 .f32) (b : Fin 4) (w : Fin 256) (s : Fin 8192) :
    (truncf .bf16 (transpose S4x256x8192 [0, 2, 1] x transposes_S4x8192x256_S4x256x8192_0_2_1) bitsLt_bf16_f32 : FVec Ideal S4x256x8192 .bf16)
      (ix3 b w s) = x (ix3 b s w) := by
  pointwise

theorem turnVC_at (x : FVec Ideal S4x256x256 .f32) (b : Fin 4) (w : Fin 256) (s : Fin 256) :
    (truncf .bf16 (transpose S4x256x256 [0, 2, 1] x transposes_S4x256x256_S4x256x256_0_2_1) bitsLt_bf16_f32 : FVec Ideal S4x256x256 .bf16)
      (ix3 b w s) = x (ix3 b s w) := by
  pointwise

/-- Rounding to the shorter format keeps the value. -/
theorem short_at {S : Shape} (x : FVec Ideal S .f32) (i : S.Idx) :
    (truncf .bf16 x bitsLt_bf16_f32 : FVec Ideal S .bf16) i = x i := rfl

/-- The factor of the queries: the softmax's scale over the logarithm of two. -/
def factor : EReal := Ideal.div (Ideal.ofBits .f32 0x3DD105EC#32) (Ideal.log (Ideal.ofBits .f32 0x40000000#32))

theorem scaled_at (x : FVec Ideal S4x8192x512 .f32) (b : Fin 4) (s : Fin 8192) (w : Fin 512) :
    mulf x (broadcastInDim S4x8192x512 ![] bcast_S_S4x8192x512 (Host.divf (constant S_ .f32 0x3DD105EC#32) (Host.log (constant S_ .f32 0x40000000#32)))) (ix3 b s w)
      = x (ix3 b s w) * factor := by
  unfold factor
  pointwise

/-! ## What the launch finds -/

/-- The queries, scaled and transposed. -/
def hostQ (q : FVec Ideal S4x8192x4x96 .f32) : FVec Ideal S4x512x8192 .bf16 :=
  truncf .bf16 (transpose S4x512x8192 [0, 2, 1] (mulf
    (shapeCast S4x8192x512 (concatenate S4x8192x4x128 3 [⟨S4x8192x4x96, q⟩, ⟨S4x8192x4x32, broadcastInDim S4x8192x4x32 ![] bcast_S_S4x8192x4x32 (constant S_ .f32 0x00000000#32)⟩]
      concatenates_S4x8192x4x96_S4x8192x4x32_S4x8192x4x128_d3) shapeCasts_S4x8192x4x128_S4x8192x512)
    (broadcastInDim S4x8192x512 ![] bcast_S_S4x8192x512 (Host.divf (constant S_ .f32 0x3DD105EC#32) (Host.log (constant S_ .f32 0x40000000#32)))))
    transposes_S4x8192x512_S4x512x8192_0_2_1) bitsLt_bf16_f32

/-- The keys. -/
def hostK (k : FVec Ideal S4x8192x4x96 .f32) : FVec Ideal S4x8192x512 .bf16 :=
  truncf .bf16 (shapeCast S4x8192x512 (concatenate S4x8192x4x128 3 [⟨S4x8192x4x96, k⟩, ⟨S4x8192x4x32, broadcastInDim S4x8192x4x32 ![] bcast_S_S4x8192x4x32 (constant S_ .f32 0x00000000#32)⟩]
      concatenates_S4x8192x4x96_S4x8192x4x32_S4x8192x4x128_d3) shapeCasts_S4x8192x4x128_S4x8192x512) bitsLt_bf16_f32

/-- The values, transposed. -/
def hostV (v : FVec Ideal S4x8192x4x64 .f32) : FVec Ideal S4x256x8192 .bf16 :=
  truncf .bf16 (transpose S4x256x8192 [0, 2, 1] (shapeCast S4x8192x256 v shapeCasts_S4x8192x4x64_S4x8192x256) transposes_S4x8192x256_S4x256x8192_0_2_1) bitsLt_bf16_f32

/-- The context's keys. -/
def hostKC (k : FVec Ideal S4x256x4x96 .f32) : FVec Ideal S4x256x512 .bf16 :=
  truncf .bf16 (shapeCast S4x256x512 (concatenate S4x256x4x128 3 [⟨S4x256x4x96, k⟩, ⟨S4x256x4x32, broadcastInDim S4x256x4x32 ![] bcast_S_S4x256x4x32 (constant S_ .f32 0x00000000#32)⟩]
      concatenates_S4x256x4x96_S4x256x4x32_S4x256x4x128_d3) shapeCasts_S4x256x4x128_S4x256x512) bitsLt_bf16_f32

/-- The context's values, transposed. -/
def hostVC (v : FVec Ideal S4x256x4x64 .f32) : FVec Ideal S4x256x256 .bf16 :=
  truncf .bf16 (transpose S4x256x256 [0, 2, 1] (shapeCast S4x256x256 v shapeCasts_S4x256x4x64_S4x256x256) transposes_S4x256x256_S4x256x256_0_2_1) bitsLt_bf16_f32

theorem hostQ_at (q : FVec Ideal S4x8192x4x96 .f32) (b : Fin 4) (h : Fin 4) (u : Fin 128) (s : Fin 8192) :
    hostQ q (ix3 b ⟨128 * h.val + u.val, by omega⟩ s) = padded (fun w => q (ix4 b s h w)) u * factor := by
  rw [hostQ, turn_at, scaled_at, flat_at, pad_at]

theorem hostK_at (k : FVec Ideal S4x8192x4x96 .f32) (b : Fin 4) (s : Fin 8192) (h : Fin 4) (u : Fin 128) :
    hostK k (ix3 b s ⟨128 * h.val + u.val, by omega⟩) = padded (fun w => k (ix4 b s h w)) u := by
  rw [hostK, short_at, flat_at, pad_at]

theorem hostKC_at (k : FVec Ideal S4x256x4x96 .f32) (b : Fin 4) (s : Fin 256) (h : Fin 4) (u : Fin 128) :
    hostKC k (ix3 b s ⟨128 * h.val + u.val, by omega⟩) = padded (fun w => k (ix4 b s h w)) u := by
  rw [hostKC, short_at, flatC_at, padC_at]

theorem hostV_at (v : FVec Ideal S4x8192x4x64 .f32) (b : Fin 4) (h : Fin 4) (d : Fin 64) (s : Fin 8192) :
    hostV v (ix3 b ⟨64 * h.val + d.val, by omega⟩ s) = v (ix4 b s h d) := by
  rw [hostV, turnV_at, flatV_at]

theorem hostVC_at (v : FVec Ideal S4x256x4x64 .f32) (b : Fin 4) (h : Fin 4) (d : Fin 64) (s : Fin 256) :
    hostVC v (ix3 b ⟨64 * h.val + d.val, by omega⟩ s) = v (ix4 b s h d) := by
  rw [hostVC, turnVC_at, flatVC_at]

end Cert.KernelIdeal.Flash

end
-- ==== Proof.Flash.Read.lean ====
/-
  The kernel's steps read over the extended reals, one query and one channel at a time.
-/
module

public import proofs.«01_k».proof.Proof.Flash.Model
public import Idealize.ShloMosaic.Lib.Pointwise

@[expose] public section

set_option maxRecDepth 16384

noncomputable section

namespace Cert.KernelIdeal.Flash

open Idealize.ShloMosaic Idealize.SL.Sem Cert.KernelIdeal.Gen

/-- The word of minus infinity. -/
theorem word_neg_inf : Ideal.ofBits .f32 0xFF800000#32 = ⊥ := by
  simp [Ideal.ofBits, Ideal.ieee]

/-- A score of a chunk is the product of a key with a query. -/
theorem scores_at (k : FVec Ideal S1x1024x128 .bf16) (q : FVec Ideal S1x128x2048 .bf16) (n : Fin 1024) (r : Fin 2048) :
    scores (F := Ideal) k q (ix2 n r) = ∑ u : Fin 128, k (ix3 0 n u) * q (ix3 0 u r) := by
  pointwise [scores, k0_pay3, k0_pay2]

/-- So is a score of the context. -/
theorem scoresC_at (k : FVec Ideal S1x256x128 .bf16) (q : FVec Ideal S1x128x2048 .bf16) (n : Fin 256) (r : Fin 2048) :
    scoresC (F := Ideal) k q (ix2 n r) = ∑ u : Fin 128, k (ix3 0 n u) * q (ix3 0 u r) := by
  pointwise [scoresC, k0_pay52, k0_pay51]

/-- A chunk's maximum is that of its scores. -/
theorem rowMax_at (k : FVec Ideal S1x1024x128 .bf16) (q : FVec Ideal S1x128x2048 .bf16) (r : Fin 2048) :
    rowMax (F := Ideal) k q (ix2 0 r) = Finset.univ.fold max ⊥ fun n : Fin 1024 => scores (F := Ideal) k q (ix2 n r) := by
  pointwise [rowMax, k0_pay4, scores, k0_pay3, k0_pay2]
  rw [word_neg_inf]

/-- So is the context's. -/
theorem rowMaxC_at (k : FVec Ideal S1x256x128 .bf16) (q : FVec Ideal S1x128x2048 .bf16) (r : Fin 2048) :
    rowMaxC (F := Ideal) k q (ix2 0 r) = Finset.univ.fold max ⊥ fun n : Fin 256 => scoresC (F := Ideal) k q (ix2 n r) := by
  pointwise [rowMaxC, k0_pay53, scoresC, k0_pay52, k0_pay51]
  rw [word_neg_inf]

/-- The triple that a head starts from. -/
theorem start_max (r : Fin 2048) : (k0_pay37 : FVec Ideal S1x2048 .f32) (ix2 0 r) = ⊥ := by
  pointwise [k0_pay37]
  exact word_neg_inf
theorem start_sum (d : Fin 64) (r : Fin 2048) : (k0_pay38 : FVec Ideal S64x2048 .f32) (ix2 d r) = 0 := by
  pointwise [k0_pay38]
theorem start_weight (r : Fin 2048) : (k0_pay39 : FVec Ideal S1x2048 .f32) (ix2 0 r) = 0 := by
  pointwise [k0_pay39]

/-- The maximum after a chunk. -/
theorem absorb_max (mx : FVec Ideal S1x2048 .f32) (s : FVec Ideal S1024x2048 .f32) (v : FVec Ideal S1x64x1024 .bf16) (a : Acc Ideal) (r : Fin 2048) :
    (absorb (F := Ideal) mx s v a).1 (ix2 0 r) = max (a.1 (ix2 0 r)) (mx (ix2 0 r)) := by
  pointwise [absorb, k0_pay5]

/-- The weighted sum after a chunk. -/
theorem absorb_sum (mx : FVec Ideal S1x2048 .f32) (s : FVec Ideal S1024x2048 .f32) (v : FVec Ideal S1x64x1024 .bf16) (a : Acc Ideal)
    (d : Fin 64) (r : Fin 2048) : (absorb (F := Ideal) mx s v a).2.1 (ix2 d r)
      = Ideal.exp2 (a.1 (ix2 0 r) - max (a.1 (ix2 0 r)) (mx (ix2 0 r))) * a.2.1 (ix2 d r)
        + ∑ x : Fin 1024, v (ix3 0 d x) * Ideal.exp2 (s (ix2 x r) - max (a.1 (ix2 0 r)) (mx (ix2 0 r))) := by
  pointwise [absorb, k0_pay9, k0_pay7, k0_pay6, k0_pay5]
  rfl

/-- The sum of the weights after a chunk. -/
theorem absorb_weight (mx : FVec Ideal S1x2048 .f32) (s : FVec Ideal S1024x2048 .f32) (v : FVec Ideal S1x64x1024 .bf16) (a : Acc Ideal)
    (r : Fin 2048) : (absorb (F := Ideal) mx s v a).2.2 (ix2 0 r)
      = Ideal.exp2 (a.1 (ix2 0 r) - max (a.1 (ix2 0 r)) (mx (ix2 0 r))) * a.2.2 (ix2 0 r)
        + ∑ x : Fin 1024, Ideal.exp2 (s (ix2 x r) - max (a.1 (ix2 0 r)) (mx (ix2 0 r))) := by
  pointwise [absorb, k0_pay8, k0_pay7, k0_pay6, k0_pay5]
  rfl

/-- The quotient after the context. -/
theorem close_at (mx : FVec Ideal S1x2048 .f32) (s : FVec Ideal S256x2048 .f32) (v : FVec Ideal S1x64x256 .bf16) (a : Acc Ideal)
    (d : Fin 64) (r : Fin 2048) : (close (F := Ideal) mx s v a) (ix2 d r)
      = Ideal.div (Ideal.exp2 (a.1 (ix2 0 r) - max (a.1 (ix2 0 r)) (mx (ix2 0 r))) * a.2.1 (ix2 d r)
          + ∑ x : Fin 256, v (ix3 0 d x) * Ideal.exp2 (s (ix2 x r) - max (a.1 (ix2 0 r)) (mx (ix2 0 r))))
        (Ideal.exp2 (a.1 (ix2 0 r) - max (a.1 (ix2 0 r)) (mx (ix2 0 r))) * a.2.2 (ix2 0 r)
          + ∑ x : Fin 256, Ideal.exp2 (s (ix2 x r) - max (a.1 (ix2 0 r)) (mx (ix2 0 r)))) := by
  pointwise [close, k0_pay43]
  rfl

/-- Where the two heads' channels lie in the block written. -/
theorem join_at (o : Fin 2 → FVec Ideal S64x2048 .f32) (r : Fin 2048) (h : Fin 2) (d : Fin 64) :
    (join (F := Ideal) (o 0) (o 1)) (ix3 0 r ⟨64 * h.val + d.val, by omega⟩) = o h (ix2 d r) := by
  pointwise [join]
  match h with
  | 0 => rw [dif_pos (show 64 * (0 : Fin 2).val + d.val < 64 from by simp)]; congr 2; exact Fin.ext (by simp)
  | 1 => rw [dif_neg (show ¬ 64 * (1 : Fin 2).val + d.val < 64 from by simp)]; congr 2; exact Fin.ext (by simp)

/-- The blocks' windows. -/
theorem qHead_at (q : FVec Ideal S1x256x2048 .bf16) (h : Fin 2) (u : Fin 128) (r : Fin 2048) :
    qHead (F := Ideal) q h (ix3 0 u r) = q (ix3 0 ⟨128 * h.val + u.val, by omega⟩ r) := by
  unfold qHead VecWindow.window
  congr 1
  ext i; fin_cases i <;> simp
theorem keys_at (k : FVec Ideal S1x8192x256 .bf16) (h : Fin 2) (n : Fin 8) (j : Fin 1024) (u : Fin 128) :
    keys (F := Ideal) k h n (ix3 0 j u) = k (ix3 0 ⟨1024 * n.val + j.val, by omega⟩ ⟨128 * h.val + u.val, by omega⟩) := by
  unfold keys VecWindow.window
  congr 1
  ext i; fin_cases i <;> simp
theorem vals_at (v : FVec Ideal S1x128x8192 .bf16) (h : Fin 2) (n : Fin 8) (d : Fin 64) (j : Fin 1024) :
    vals (F := Ideal) v h n (ix3 0 d j) = v (ix3 0 ⟨64 * h.val + d.val, by omega⟩ ⟨1024 * n.val + j.val, by omega⟩) := by
  unfold vals VecWindow.window
  congr 1
  ext i; fin_cases i <;> simp
theorem keysC_at (k : FVec Ideal S1x256x256 .bf16) (h : Fin 2) (j : Fin 256) (u : Fin 128) :
    keysC (F := Ideal) k h (ix3 0 j u) = k (ix3 0 j ⟨128 * h.val + u.val, by omega⟩) := by
  unfold keysC VecWindow.window
  congr 1
  ext i; fin_cases i <;> simp
theorem valsC_at (v : FVec Ideal S1x128x256 .bf16) (h : Fin 2) (d : Fin 64) (j : Fin 256) :
    valsC (F := Ideal) v h (ix3 0 d j) = v (ix3 0 ⟨64 * h.val + d.val, by omega⟩ j) := by
  unfold valsC VecWindow.window
  congr 1
  ext i; fin_cases i <;> simp

end Cert.KernelIdeal.Flash

end
-- ==== Proof.Flash.Softmax.lean ====
/-
  The algebra of a softmax taken in pieces, over the extended reals: the scores are real, the values are anything. A
  running maximum only rescales what has been summed so far, and the quotient at the end does not depend on which
  number the exponents were reduced by.
-/
module

public import Idealize.ShloMosaic.PureOps.Ideal

@[expose] public section

noncomputable section

namespace Cert.Softmax

open Idealize.ShloMosaic

/-- The power of two of a real, as an extended real. -/
def two (x : ℝ) : EReal := ((2 : ℝ) ^ x : ℝ)

theorem exp2_real (x : ℝ) : Ideal.exp2 (x : EReal) = two x := rfl

theorem two_add (x y : ℝ) : two (x + y) = two x * two y := by
  unfold two; rw [Real.rpow_add (by norm_num), EReal.coe_mul]

theorem exp2_sub (x y : ℝ) : Ideal.exp2 ((x : EReal) - (y : EReal)) = two (x - y) := by
  rw [← EReal.coe_sub, exp2_real]

/-- A nonnegative real factor goes into a sum of any extended reals. -/
theorem mul_sum_real {ι : Type*} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- The maximum of finitely many reals, started from minus infinity, is a real as soon as there is one of them. -/
theorem fold_max_real {N : ℕ} [NeZero N] (s : Fin N → ℝ) :
    ∃ μ : ℝ, (Finset.univ : Finset (Fin N)).fold max (⊥ : EReal) (fun n => (s n : EReal)) = (μ : EReal) := by
  have h1 : (Finset.univ : Finset (Fin N)).fold max (⊥ : EReal) (fun n => (s n : EReal)) < ⊤ :=
    (Finset.fold_max_lt _).mpr ⟨bot_lt_top, fun x _ => EReal.coe_lt_top _⟩
  have h2 : ⊥ < (Finset.univ : Finset (Fin N)).fold max (⊥ : EReal) (fun n => (s n : EReal)) :=
    (Finset.lt_fold_max _).mpr (.inr ⟨0, Finset.mem_univ _, EReal.bot_lt_coe _⟩)
  exact ⟨_, (EReal.coe_toReal h1.ne h2.ne').symm⟩

/-- A sum of weighted values reduced by `μ`, rescaled, is the sum reduced by `μ'`. -/
theorem rescale {ι : Type*} (S : Finset ι) (s : ι → ℝ) (v : ι → EReal) (μ μ' : ℝ) :
    two (μ - μ') * ∑ i ∈ S, v i * two (s i - μ) = ∑ i ∈ S, v i * two (s i - μ') := by
  have h : two (μ - μ') = (((2 : ℝ) ^ (μ - μ') : ℝ) : EReal) := rfl
  rw [h, mul_sum_real S _ (by positivity), ← h]
  refine Finset.sum_congr rfl fun i _ => ?_
  rw [mul_left_comm, ← two_add]
  congr 2
  abel

/-- The same for the weights alone. -/
theorem rescale_one {ι : Type*} (S : Finset ι) (s : ι → ℝ) (μ μ' : ℝ) :
    two (μ - μ') * ∑ i ∈ S, two (s i - μ) = ∑ i ∈ S, two (s i - μ') := by
  have h := rescale S s (fun _ => 1) μ μ'
  simpa only [one_mul] using h

/-- Sums of reals, read in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The quotient of the two sums, whatever real `μ` the exponents were reduced by, is the sum of the values under
    the softmax weights of the scores `t`, `t` being `log 2` times `s`, reduced by any real `T`. -/
theorem quotient {ι : Type*} (S : Finset ι) (hS : S.Nonempty) (s t : ι → ℝ) (ht : ∀ i, t i = s i * Real.log 2)
    (v : ι → EReal) (μ T : ℝ) :
    Ideal.div (∑ i ∈ S, v i * two (s i - μ)) (∑ i ∈ S, two (s i - μ))
      = ∑ i ∈ S, v i * Ideal.div (Ideal.exp ((t i : EReal) - (T : EReal))) (∑ j ∈ S, Ideal.exp ((t j : EReal) - (T : EReal))) := by
  have hexp : ∀ i, Ideal.exp ((t i : EReal) - (T : EReal)) = ((Real.exp (t i - T) : ℝ) : EReal) := fun i => by
    rw [← EReal.coe_sub, Ideal.exp_coe]
  have hE : ∀ i, two (s i - μ) = ((Real.exp (t i - T) * Real.exp (T - μ * Real.log 2) : ℝ) : EReal) := fun i => by
    unfold two
    rw [Real.rpow_def_of_pos (by norm_num), ← Real.exp_add, ht]
    congr 2; ring
  have hZ : 0 < ∑ i ∈ S, Real.exp (t i - T) := Finset.sum_pos (fun _ _ => Real.exp_pos _) hS
  have hC : 0 < Real.exp (T - μ * Real.log 2) := Real.exp_pos _
  simp only [hexp, hE]
  rw [← coe_sum, ← coe_sum, ← Finset.sum_mul, Ideal.div_coe (mul_pos hZ hC).ne', mul_comm, mul_sum_real _ _ (by positivity)]
  refine Finset.sum_congr rfl fun i _ => ?_
  rw [Ideal.div_coe hZ.ne', mul_left_comm, ← EReal.coe_mul, ← EReal.coe_mul]
  congr 2
  field_simp

end Cert.Softmax

end
-- ==== Proof.Flash.Online.lean ====
/-
  One head's output for one query and one channel: the quotient of the weighted values and the weights over all the
  keys, the chunks' and the context's, every exponent reduced by one and the same real.
-/
module

public import proofs.«01_k».proof.Proof.Flash.Read
public import proofs.«01_k».proof.Proof.Flash.Softmax

@[expose] public section

set_option maxRecDepth 16384

noncomputable section

namespace Cert.KernelIdeal.Flash

open Idealize.ShloMosaic Idealize.SL.Sem Cert.KernelIdeal.Gen Cert.Softmax

/-- Where chunk `n`'s key `j` lies among all the keys. -/
def chunkKey (n : Fin 8) (j : Fin 1024) : Fin 8448 := ⟨1024 * n.val + j.val, by omega⟩

/-- Where the context's key `j` lies among all the keys, behind the others. -/
def ctxKey (j : Fin 256) : Fin 8448 := ⟨8192 + j.val, by omega⟩

/-- A sum over all the keys, chunk after chunk and the context last. -/
theorem sum_keys (f : Fin 8448 → EReal) :
    ∑ i, f i = (∑ p ∈ Finset.range 8 ×ˢ (Finset.univ : Finset (Fin 1024)), f (chunkKey (Fin.ofNat 8 p.1) p.2)) + ∑ j, f (ctxKey j) := by
  refine (Fin.sum_univ_add (a := 8192) (b := 256) f).trans (congrArg₂ (· + ·) ?_ (Finset.sum_congr rfl fun j _ => congrArg f (Fin.ext rfl)))
  rw [Finset.sum_product, Finset.sum_range, Fin.sum_univ_tiles 8 1024 rfl]
  refine Finset.sum_congr rfl fun n _ => Finset.sum_congr rfl fun j _ => congrArg f (Fin.ext ?_)
  have h : n.val % 8 = n.val := Nat.mod_eq_of_lt n.isLt
  simp [chunkKey, h]
  try omega

section

variable (q : FVec Ideal S1x256x2048 .bf16) (k : FVec Ideal S1x8192x256 .bf16) (v : FVec Ideal S1x128x8192 .bf16)
  (kc : FVec Ideal S1x256x256 .bf16) (vc : FVec Ideal S1x128x256 .bf16) (h : Fin 2) (r : Fin 2048) (d : Fin 64)
  (s : Fin 8448 → ℝ) (w : Fin 8448 → EReal)

/-- Before any chunk the triple is empty; after `n` of them the maximum is a real and the two sums are those over the
    keys so far, reduced by it. -/
def Holds (n : ℕ) (a : Acc Ideal) : Prop :=
  (n = 0 ∧ a.1 (ix2 0 r) = ⊥ ∧ a.2.1 (ix2 d r) = 0 ∧ a.2.2 (ix2 0 r) = 0) ∨
  ∃ μ : ℝ, a.1 (ix2 0 r) = μ
    ∧ a.2.1 (ix2 d r) = ∑ p ∈ Finset.range n ×ˢ (Finset.univ : Finset (Fin 1024)), w (chunkKey (Fin.ofNat 8 p.1) p.2) * two (s (chunkKey (Fin.ofNat 8 p.1) p.2) - μ)
    ∧ a.2.2 (ix2 0 r) = ∑ p ∈ Finset.range n ×ˢ (Finset.univ : Finset (Fin 1024)), two (s (chunkKey (Fin.ofNat 8 p.1) p.2) - μ)

/-- One more chunk keeps it so. -/
theorem holds_succ (n : ℕ) (a : Acc Ideal) (K : FVec Ideal S1x1024x128 .bf16) (Q : FVec Ideal S1x128x2048 .bf16) (V : FVec Ideal S1x64x1024 .bf16)
    (hs : ∀ j, scores (F := Ideal) K Q (ix2 j r) = s (chunkKey (Fin.ofNat 8 n) j)) (hw : ∀ j, V (ix3 0 d j) = w (chunkKey (Fin.ofNat 8 n) j))
    (ha : Holds r d s w n a) : Holds r d s w (n + 1) (absorb (F := Ideal) (rowMax (F := Ideal) K Q) (scores (F := Ideal) K Q) V a) := by
  obtain ⟨ν, hν⟩ := fold_max_real fun j => s (chunkKey (Fin.ofNat 8 n) j)
  have hmx : rowMax (F := Ideal) K Q (ix2 0 r) = (ν : EReal) := by
    rw [rowMax_at, ← hν]; exact Finset.fold_congr fun j _ => hs j
  refine .inr ?_
  rcases ha with ⟨rfl, h1, h2, h3⟩ | ⟨μ, h1, h2, h3⟩
  · refine ⟨ν, ?_, ?_, ?_⟩
    · rw [absorb_max, h1, hmx]; exact max_eq_right bot_le
    · rw [absorb_sum, h1, h2, hmx, max_eq_right bot_le, mul_zero, zero_add, Finset.sum_product, Finset.sum_range_one]
      exact Finset.sum_congr rfl fun j _ => by rw [hw, hs, exp2_sub]
    · rw [absorb_weight, h1, h3, hmx, max_eq_right bot_le, mul_zero, zero_add, Finset.sum_product, Finset.sum_range_one]
      exact Finset.sum_congr rfl fun j _ => by rw [hs, exp2_sub]
  · have hM : max ((μ : ℝ) : EReal) (ν : EReal) = ((max μ ν : ℝ) : EReal) := (EReal.coe_strictMono.monotone.map_max).symm
    refine ⟨max μ ν, ?_, ?_, ?_⟩
    · rw [absorb_max, h1, hmx, hM]
    · rw [absorb_sum, h1, h2, hmx, hM, exp2_sub, rescale, Finset.sum_product, Finset.sum_product, Finset.sum_range_succ]
      exact congrArg _ (Finset.sum_congr rfl fun j _ => by rw [hw, hs, exp2_sub])
    · rw [absorb_weight, h1, h3, hmx, hM, exp2_sub, rescale_one, Finset.sum_product, Finset.sum_product, Finset.sum_range_succ]
      exact congrArg _ (Finset.sum_congr rfl fun j _ => by rw [hs, exp2_sub])

variable (hs : ∀ n j, scores (F := Ideal) (keys (F := Ideal) k h n) (qHead (F := Ideal) q h) (ix2 j r) = s (chunkKey n j))
  (hw : ∀ n j, vals (F := Ideal) v h n (ix3 0 d j) = w (chunkKey n j))

include hs hw in
/-- So it holds after any number of chunks. -/
theorem holds_after (n : ℕ) : Holds r d s w n (after (F := Ideal) q k v h n) := by
  induction n with
  | zero => exact .inl ⟨rfl, start_max r, start_sum d r, start_weight r⟩
  | succ n ih => exact holds_succ r d s w n _ _ _ _ (hs _) (hw _) ih

variable (hsC : ∀ j, scoresC (F := Ideal) (keysC (F := Ideal) kc h) (qHead (F := Ideal) q h) (ix2 j r) = s (ctxKey j))
  (hwC : ∀ j, valsC (F := Ideal) vc h (ix3 0 d j) = w (ctxKey j))

include hs hw hsC hwC in
/-- A head's output: the quotient of the two sums over all the keys. -/
theorem head_at : ∃ μ : ℝ, head (F := Ideal) q k v kc vc h (ix2 d r)
    = Ideal.div (∑ i, w i * two (s i - μ)) (∑ i, two (s i - μ)) := by
  obtain ⟨ν, hν⟩ := fold_max_real fun j => s (ctxKey j)
  have hmx : rowMaxC (F := Ideal) (keysC (F := Ideal) kc h) (qHead (F := Ideal) q h) (ix2 0 r) = (ν : EReal) := by
    rw [rowMaxC_at, ← hν]; exact Finset.fold_congr fun j _ => hsC j
  rcases holds_after q k v h r d s w hs hw 8 with ⟨h0, -⟩ | ⟨μ, h1, h2, h3⟩
  · exact absurd h0 (by decide)
  · have hM : max ((μ : ℝ) : EReal) (ν : EReal) = ((max μ ν : ℝ) : EReal) := (EReal.coe_strictMono.monotone.map_max).symm
    refine ⟨max μ ν, ?_⟩
    unfold head
    rw [close_at, h1, h2, h3, hmx, hM, exp2_sub, rescale, rescale_one, sum_keys, sum_keys]
    refine congrArg₂ _ (congrArg _ (Finset.sum_congr rfl fun j _ => ?_)) (congrArg _ (Finset.sum_congr rfl fun j _ => ?_))
    · rw [hwC, hsC, exp2_sub]
    · rw [hsC, exp2_sub]

end

end Cert.KernelIdeal.Flash

end
-- ==== Proof.Flash.Array.lean ====
/-
  The output block of a grid step, element by element, in terms of the arguments: each of the step's five input blocks
  is a window of an array of the host, and each element of the output block is one quotient of softmax sums.
-/
module

public import proofs.«01_k».proof.Proof.Flash.Host
public import proofs.«01_k».proof.Proof.Flash.Run
public import proofs.«01_k».proof.Proof.Flash.Online
public import Idealize.ShloMosaic.Lib.Pipeline.ValueKit
public import Idealize.ShloMosaic.Lib.Pointwise

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal.Gen

variable (m : (ℓ : Loc nD τ sig) → Buf (Elt Ideal) ℓ)

/-! ## The arrays at the launch -/

theorem V_q (c : Dev nD) : V m c (Pipeline.arrRef spec0 0) = hostQ (m ((c.tc : Thread nD τ).loc main_arg0)) := by
  dsimp only [V]; after_results <;> rfl
theorem V_k (c : Dev nD) : V m c (Pipeline.arrRef spec0 1) = hostK (m ((c.tc : Thread nD τ).loc main_arg1)) := by
  dsimp only [V]; after_results <;> rfl
theorem V_v (c : Dev nD) : V m c (Pipeline.arrRef spec0 2) = hostV (m ((c.tc : Thread nD τ).loc main_arg2)) := by
  dsimp only [V]; after_results <;> rfl
theorem V_kc (c : Dev nD) : V m c (Pipeline.arrRef spec0 3) = hostKC (m ((c.tc : Thread nD τ).loc main_arg3)) := by
  dsimp only [V]; after_results <;> rfl
theorem V_vc (c : Dev nD) : V m c (Pipeline.arrRef spec0 4) = hostVC (m ((c.tc : Thread nD τ).loc main_arg4)) := by
  dsimp only [V]; after_results <;> rfl

/-! ## The blocks as windows of these arrays -/

theorem block_q (c : Dev nD) (t : Fin cfg0.N) (y) (X : FVec Ideal S4x512x8192 .bf16) (h : V m c (Pipeline.arrRef spec0 0) = X) :
    iblk m c 0 t y = X ((win0_0.blk t).view.emb y) := by
  unfold iblk; rw [h]; rfl
theorem block_k (c : Dev nD) (t : Fin cfg0.N) (y) (X : FVec Ideal S4x8192x512 .bf16) (h : V m c (Pipeline.arrRef spec0 1) = X) :
    iblk m c 1 t y = X ((win0_1.blk t).view.emb y) := by
  unfold iblk; rw [h]; rfl
theorem block_v (c : Dev nD) (t : Fin cfg0.N) (y) (X : FVec Ideal S4x256x8192 .bf16) (h : V m c (Pipeline.arrRef spec0 2) = X) :
    iblk m c 2 t y = X ((win0_2.blk t).view.emb y) := by
  unfold iblk; rw [h]; rfl
theorem block_kc (c : Dev nD) (t : Fin cfg0.N) (y) (X : FVec Ideal S4x256x512 .bf16) (h : V m c (Pipeline.arrRef spec0 3) = X) :
    iblk m c 3 t y = X ((win0_3.blk t).view.emb y) := by
  unfold iblk; rw [h]; rfl
theorem block_vc (c : Dev nD) (t : Fin cfg0.N) (y) (X : FVec Ideal S4x256x256 .bf16) (h : V m c (Pipeline.arrRef spec0 4) = X) :
    iblk m c 4 t y = X ((win0_4.blk t).view.emb y) := by
  unfold iblk; rw [h]; rfl

theorem idx_q : ∀ t : Fin grid0.N, win0_0.index t = ![t.val / 8, t.val / 4 % 2, t.val % 4] := by decide +kernel
theorem idx_k : ∀ t : Fin grid0.N, win0_1.index t = ![t.val / 8, 0, t.val / 4 % 2] := by decide +kernel
theorem idx_v : ∀ t : Fin grid0.N, win0_2.index t = ![t.val / 8, t.val / 4 % 2, 0] := by decide +kernel
theorem idx_kc : ∀ t : Fin grid0.N, win0_3.index t = ![t.val / 8, 0, t.val / 4 % 2] := by decide +kernel
theorem idx_vc : ∀ t : Fin grid0.N, win0_4.index t = ![t.val / 8, t.val / 4 % 2, 0] := by decide +kernel
theorem idx_o : ∀ t : Fin grid0.N, win0_5.index t = ![t.val / 8, t.val % 4, t.val / 4 % 2] := by decide +kernel

variable (t : Fin cfg0.N) (ht : t.val < 32)

theorem emb_q (u : Fin 256) (s : Fin 2048) : (win0_0.blk t).view.emb (ix3 0 u s)
    = (ix3 ⟨t.val / 8, by omega⟩ ⟨256 * (t.val / 4 % 2) + u.val, by omega⟩ ⟨2048 * (t.val % 4) + s.val, by omega⟩ : S4x512x8192.Idx) := by
  blk_ext [idx_q t]
theorem emb_k (i : Fin 8192) (u : Fin 256) : (win0_1.blk t).view.emb (ix3 0 i u)
    = (ix3 ⟨t.val / 8, by omega⟩ i ⟨256 * (t.val / 4 % 2) + u.val, by omega⟩ : S4x8192x512.Idx) := by
  blk_ext [idx_k t]
theorem emb_v (d : Fin 128) (i : Fin 8192) : (win0_2.blk t).view.emb (ix3 0 d i)
    = (ix3 ⟨t.val / 8, by omega⟩ ⟨128 * (t.val / 4 % 2) + d.val, by omega⟩ i : S4x256x8192.Idx) := by
  blk_ext [idx_v t]
theorem emb_kc (i : Fin 256) (u : Fin 256) : (win0_3.blk t).view.emb (ix3 0 i u)
    = (ix3 ⟨t.val / 8, by omega⟩ i ⟨256 * (t.val / 4 % 2) + u.val, by omega⟩ : S4x256x512.Idx) := by
  blk_ext [idx_kc t]
theorem emb_vc (d : Fin 128) (i : Fin 256) : (win0_4.blk t).view.emb (ix3 0 d i)
    = (ix3 ⟨t.val / 8, by omega⟩ ⟨128 * (t.val / 4 % 2) + d.val, by omega⟩ i : S4x256x256.Idx) := by
  blk_ext [idx_vc t]
theorem emb_o (s : Fin 2048) (d : Fin 128) : (win0_5.blk t).view.emb (ix3 0 s d)
    = (ix3 ⟨t.val / 8, by omega⟩ ⟨2048 * (t.val % 4) + s.val, by omega⟩ ⟨128 * (t.val / 4 % 2) + d.val, by omega⟩ : S4x8192x256.Idx) := by
  blk_ext [idx_o t]

/-- The batch entry of a step. -/
abbrev batch : Fin 4 := ⟨t.val / 8, by omega⟩
/-- The head that a step's head `h` is among all four. -/
abbrev headOf (h : Fin 2) : Fin 4 := ⟨2 * (t.val / 4 % 2) + h.val, by omega⟩
/-- The query that a step's query `r` is among all. -/
abbrev rowOf (r : Fin 2048) : Fin 8192 := ⟨2048 * (t.val % 4) + r.val, by omega⟩

theorem read_q (c : Dev nD) (h : Fin 2) (u : Fin 128) (r : Fin 2048) :
    qHead (F := Ideal) (iblk m c 0 t) h (ix3 0 u r)
      = padded (fun w => m ((c.tc : Thread nD τ).loc main_arg0) (ix4 (batch t ht) (rowOf t r) (headOf t h) w)) u * factor := by
  rw [qHead_at, block_q m c t _ _ (V_q m c), emb_q t ht, ← hostQ_at]
  congr 2; exact Fin.ext (by simp; omega)
theorem read_k (c : Dev nD) (h : Fin 2) (n : Fin 8) (j : Fin 1024) (u : Fin 128) :
    keys (F := Ideal) (iblk m c 1 t) h n (ix3 0 j u)
      = padded (fun w => m ((c.tc : Thread nD τ).loc main_arg1) (ix4 (batch t ht) ⟨1024 * n.val + j.val, by omega⟩ (headOf t h) w)) u := by
  rw [keys_at, block_k m c t _ _ (V_k m c), emb_k t ht, ← hostK_at]
  congr 2; exact Fin.ext (by simp; omega)
theorem read_v (c : Dev nD) (h : Fin 2) (n : Fin 8) (d : Fin 64) (j : Fin 1024) :
    vals (F := Ideal) (iblk m c 2 t) h n (ix3 0 d j)
      = m ((c.tc : Thread nD τ).loc main_arg2) (ix4 (batch t ht) ⟨1024 * n.val + j.val, by omega⟩ (headOf t h) d) := by
  rw [vals_at, block_v m c t _ _ (V_v m c), emb_v t ht]
  refine Eq.trans ?_ (hostV_at _ _ _ _ _)
  congr 2; exact Fin.ext (by simp; omega)
theorem read_kc (c : Dev nD) (h : Fin 2) (j : Fin 256) (u : Fin 128) :
    keysC (F := Ideal) (iblk m c 3 t) h (ix3 0 j u)
      = padded (fun w => m ((c.tc : Thread nD τ).loc main_arg3) (ix4 (batch t ht) j (headOf t h) w)) u := by
  rw [keysC_at, block_kc m c t _ _ (V_kc m c), emb_kc t ht, ← hostKC_at]
  congr 2; exact Fin.ext (by simp; omega)
theorem read_vc (c : Dev nD) (h : Fin 2) (d : Fin 64) (j : Fin 256) :
    valsC (F := Ideal) (iblk m c 4 t) h (ix3 0 d j)
      = m ((c.tc : Thread nD τ).loc main_arg4) (ix4 (batch t ht) j (headOf t h) d) := by
  rw [valsC_at, block_vc m c t _ _ (V_vc m c), emb_vc t ht]
  refine Eq.trans ?_ (hostVC_at _ _ _ _ _)
  congr 2; exact Fin.ext (by simp; omega)

end Cert.KernelIdeal.Flash

end
-- ==== Proof.Flash.Reference.lean ====
/-
  The attention reference, element by element: the softmax over the keys of the row's scores, times the values.
-/
module

public import proofs.«01_k».proof.Proof.Gen.ReferenceIdeal
public import Idealize.ShloMosaic.Lib.Pointwise

@[expose] public section

set_option maxRecDepth 16384

noncomputable section

namespace Cert.ReferenceIdeal.Attention

open Idealize.ShloMosaic Idealize.ShloMosaic.TcCoe
open Cert.ReferenceIdeal.Gen

/-- The keys followed by those of the context. -/
def catK (k : FVec Ideal S4x8192x4x96 .f32) (kc : FVec Ideal S4x256x4x96 .f32) : FVec Ideal S4x8448x4x96 .f32 :=
  concatenate S4x8448x4x96 1 [⟨S4x8192x4x96, k⟩, ⟨S4x256x4x96, kc⟩] concatenates_S4x8192x4x96_S4x256x4x96_S4x8448x4x96_d1

/-- The values followed by those of the context. -/
def catV (v : FVec Ideal S4x8192x4x64 .f32) (vc : FVec Ideal S4x256x4x64 .f32) : FVec Ideal S4x8448x4x64 .f32 :=
  concatenate S4x8448x4x64 1 [⟨S4x8192x4x64, v⟩, ⟨S4x256x4x64, vc⟩] concatenates_S4x8192x4x64_S4x256x4x64_S4x8448x4x64_d1

/-- The scaled scores. -/
def score (q : FVec Ideal S4x8192x4x96 .f32) (K : FVec Ideal S4x8448x4x96 .f32) : FVec Ideal S4x4x8192x8448 .f32 :=
  mulf (Host.dotGeneral dot_S4x8192x4x96_S4x8448x4x96_S4x4x8192x8448_3_3_1_1_02_02 none q K)
    (broadcastInDim S4x4x8192x8448 ![] bcast_S_S4x4x8192x8448 (constant S_ .f32 0x3DD105EC#32))

/-- The largest score of every row. -/
def top (s : FVec Ideal S4x4x8192x8448 .f32) : FVec Ideal S4x4x8192 .f32 :=
  maximumf (broadcastInDim S4x4x8192 ![] bcast_S_S4x4x8192 (constant S_ .f32 0xFF800000#32))
    (Host.reduce FloatOps.maximumf s (constant S_ .f32 0xFF800000#32) reducesTo_S4x4x8192x8448_S4x4x8192_d3 h_S_)

/-- A number of each row, repeated along it. -/
def spread (x : FVec Ideal S4x4x8192 .f32) : FVec Ideal S4x4x8192x8448 .f32 :=
  broadcastInDim S4x4x8192x8448 ![0, 1, 2, 3] bcast_S4x4x8192x1_S4x4x8192x8448_0_1_2_3 (broadcastInDim S4x4x8192x1 ![0, 1, 2] bcast_S4x4x8192_S4x4x8192x1_0_1_2 x)

/-- The exponentials. -/
def expo (s : FVec Ideal S4x4x8192x8448 .f32) : FVec Ideal S4x4x8192x8448 .f32 := Host.exp (subf s (spread (top s)))

/-- The softmax. -/
def weight (e : FVec Ideal S4x4x8192x8448 .f32) : FVec Ideal S4x4x8192x8448 .f32 :=
  Host.divf e (spread (Host.reduceAdd e (constant S_ .f32 0x00000000#32) reducesTo_S4x4x8192x8448_S4x4x8192_d3 h_S_))

/-- The weighted values, the heads next to each other. -/
def combine (V : FVec Ideal S4x8448x4x64 .f32) (p : FVec Ideal S4x4x8192x8448 .f32) : FVec Ideal S4x8192x256 .bf16 :=
  truncf .bf16 (shapeCast _ (transpose S4x8192x4x64 [0, 3, 1, 2] (Host.dotGeneral dot_S4x8448x4x64_S4x4x8192x8448_S4x4x64x8192_1_3_3_2_02_01 none V p)
    transposes_S4x4x64x8192_S4x8192x4x64_0_3_1_2) shapeCasts_S4x8192x4x64_S4x8192x256) bitsLt_bf16_f32

/-- The reference's result, as a function of its arguments. -/
def out (q k : FVec Ideal S4x8192x4x96 .f32) (v : FVec Ideal S4x8192x4x64 .f32) (kc : FVec Ideal S4x256x4x96 .f32) (vc : FVec Ideal S4x256x4x64 .f32) :
    FVec Ideal S4x8192x256 .bf16 :=
  combine (catV v vc) (weight (expo (score q (catK k kc))))

variable (b h : Fin 4) (r : Fin 8192) (i : Fin 8448)

theorem catK_at (k : FVec Ideal S4x8192x4x96 .f32) (kc : FVec Ideal S4x256x4x96 .f32) (w : Fin 96) :
    catK k kc (ix4 b i h w) = if p : i.val < 8192 then k (ix4 b ⟨i.val, p⟩ h w) else kc (ix4 b ⟨i.val - 8192, by omega⟩ h w) := by
  pointwise [catK]

theorem catV_at (v : FVec Ideal S4x8192x4x64 .f32) (vc : FVec Ideal S4x256x4x64 .f32) (d : Fin 64) :
    catV v vc (ix4 b i h d) = if p : i.val < 8192 then v (ix4 b ⟨i.val, p⟩ h d) else vc (ix4 b ⟨i.val - 8192, by omega⟩ h d) := by
  pointwise [catV]

theorem score_at (q : FVec Ideal S4x8192x4x96 .f32) (K : FVec Ideal S4x8448x4x96 .f32) :
    score q K (ix4 b h r i) = (∑ w, q (ix4 b r h w) * K (ix4 b i h w)) * Ideal.ofBits .f32 0x3DD105EC#32 := by
  pointwise [score]

theorem word_at (w : BitVec 32) (j : S_.Idx) : (constant S_ .f32 w : FVec Ideal S_ .f32) j = Ideal.ofBits .f32 w := rfl

theorem word_neg_inf : Ideal.ofBits .f32 0xFF800000#32 = ⊥ := by
  simp [Ideal.ofBits, Ideal.ieee]

theorem peak_at (s : FVec Ideal S4x4x8192x8448 .f32) (z : FVec Ideal S_ .f32) :
    Host.reduce FloatOps.maximumf s z reducesTo_S4x4x8192x8448_S4x4x8192_d3 h_S_ (ix3 b h r)
      = Finset.univ.fold max (z (Shape.Idx.first h_S_)) fun i => s (ix4 b h r i) := by
  pointwise

theorem above_at (x : FVec Ideal S4x4x8192 .f32) (z : FVec Ideal S_ .f32) :
    maximumf (broadcastInDim S4x4x8192 ![] bcast_S_S4x4x8192 z) x (ix3 b h r) = max (z ix0) (x (ix3 b h r)) := by
  pointwise

theorem top_at (s : FVec Ideal S4x4x8192x8448 .f32) :
    top s (ix3 b h r) = Finset.univ.fold max (⊥ : EReal) fun i => s (ix4 b h r i) := by
  rw [top, above_at, peak_at, word_at, word_at, word_neg_inf, bot_sup_eq]

theorem spread_at (x : FVec Ideal S4x4x8192 .f32) : spread x (ix4 b h r i) = x (ix3 b h r) := by
  pointwise [spread]

theorem expo_at (s : FVec Ideal S4x4x8192x8448 .f32) : expo s (ix4 b h r i) = Ideal.exp (s (ix4 b h r i) - top s (ix3 b h r)) := by
  rw [← spread_at b h r i (top s)]; pointwise [expo]

theorem weight_at (e : FVec Ideal S4x4x8192x8448 .f32) :
    weight e (ix4 b h r i) = Ideal.div (e (ix4 b h r i)) (∑ j, e (ix4 b h r j)) := by
  pointwise [weight, spread]

theorem combine_at (V : FVec Ideal S4x8448x4x64 .f32) (p : FVec Ideal S4x4x8192x8448 .f32) (d : Fin 64) :
    combine V p (ix3 b r ⟨64 * h.val + d.val, by omega⟩) = ∑ i, V (ix4 b i h d) * p (ix4 b h r i) := by
  pointwise [combine]

end Cert.ReferenceIdeal.Attention

end
-- ==== Proof.Flash.Compare.lean ====
/-
  Each output block against the reference: under the precondition the block's elements are the reference's, the two
  softmaxes differing only in the base of their exponentials.
-/
module

public import proofs.«01_k».proof.Proof.Flash.Array
public import proofs.«01_k».proof.Proof.Flash.Reference
public import Idealize.ShloMosaic.Lib.Pipeline.ValueKit
public import Idealize.ShloMosaic.Lib.Pointwise

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal.Gen Cert.Softmax
open Cert.ReferenceIdeal.Attention (catK catV score top expo weight combine out)

theorem word_two : Ideal.ofBits .f32 0x40000000#32 = ((2 : ℝ) : EReal) := by
  simp [Ideal.ofBits, Ideal.ieee]
  norm_cast
  norm_num

/-- The softmax's scale is real. -/
theorem scale_real : ∃ D : ℝ, Ideal.ofBits .f32 0x3DD105EC#32 = (D : EReal) := by
  simp only [Ideal.ofBits, Ideal.ieee]
  simp
  exact ⟨_, rfl⟩

/-- The factor of the queries is the scale over `log 2`. -/
theorem factor_real (D : ℝ) (hD : Ideal.ofBits .f32 0x3DD105EC#32 = (D : EReal)) : factor = ((D / Real.log 2 : ℝ) : EReal) := by
  have h2 : Real.log 2 ≠ 0 := (Real.log_pos (by norm_num)).ne'
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  unfold factor
  rw [hD, word_two, hlog, Ideal.div_coe h2, ← EReal.coe_mul, mul_one_div]

/-- A score over the padded lanes is the product over the channels, scaled. -/
theorem padded_dot (K Q : Fin 96 → ℝ) (kE qE : Fin 96 → EReal) (hK : ∀ w, kE w = K w) (hQ : ∀ w, qE w = Q w) (f : ℝ) :
    ∑ u : Fin 128, padded kE u * (padded qE u * (f : EReal)) = (((∑ w, Q w * K w) * f : ℝ) : EReal) := by
  have h1 := Fin.sum_univ_add (a := 96) (b := 32) fun u : Fin (96 + 32) => padded kE u * (padded qE u * (f : EReal))
  refine h1.trans ?_
  have hr : ∀ i : Fin 32, padded kE (Fin.natAdd 96 i : Fin (96 + 32)) = 0 := fun i => dif_neg (by simp)
  have hl : ∀ (x : Fin 96 → EReal) (i : Fin 96), padded x (Fin.castAdd 32 i : Fin (96 + 32)) = x i := fun x i => dif_pos i.isLt
  simp only [hr, hl, zero_mul, Finset.sum_const_zero, add_zero, hK, hQ]
  rw [Finset.sum_mul, coe_sum]
  refine Finset.sum_congr rfl fun w _ => ?_
  rw [← EReal.coe_mul, ← EReal.coe_mul]
  congr 1; ring

variable (m : (ℓ : Loc nD τ sig) → Buf (Elt Ideal) ℓ) (c : Dev nD)

/-- The reference's result on the arguments in memory. -/
def result : FVec Ideal S4x8192x256 .bf16 :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's softmax of a row with real scores. -/
theorem out_at (q k : FVec Ideal S4x8192x4x96 .f32) (v : FVec Ideal S4x8192x4x64 .f32) (kc : FVec Ideal S4x256x4x96 .f32) (vc : FVec Ideal S4x256x4x64 .f32)
    (b h : Fin 4) (r : Fin 8192) (d : Fin 64) (t : Fin 8448 → ℝ) (ht : ∀ i, score q (catK k kc) (ix4 b h r i) = t i) :
    ∃ T : ℝ, out q k v kc vc (ix3 b r ⟨64 * h.val + d.val, by omega⟩)
      = ∑ i, catV v vc (ix4 b i h d) * Ideal.div (Ideal.exp ((t i : EReal) - (T : EReal))) (∑ j, Ideal.exp ((t j : EReal) - (T : EReal))) := by
  obtain ⟨T, hT⟩ := fold_max_real t
  have htop : top (score q (catK k kc)) (ix3 b h r) = (T : EReal) := by
    rw [Cert.ReferenceIdeal.Attention.top_at, ← hT]; exact Finset.fold_congr fun i _ => ht i
  refine ⟨T, ?_⟩
  rw [out, Cert.ReferenceIdeal.Attention.combine_at]
  refine Finset.sum_congr rfl fun i _ => ?_
  rw [Cert.ReferenceIdeal.Attention.weight_at]
  simp only [Cert.ReferenceIdeal.Attention.expo_at, htop, ht]

/-- The key of the context behind its place among all the keys. -/
theorem ctx_sub (j : Fin 256) : j = ⟨(ctxKey j).val - 8192, by simp [ctxKey]⟩ := Fin.ext (by simp [ctxKey])

variable (t : Fin cfg0.N) (ht : t.val < 32)

/-- An element of a step's output block is the reference's. -/
theorem outAt_eq (hq : ∀ i, ∃ a : ℝ, (m ((c.tc : Thread nD τ).loc main_arg0) : FVec Ideal S4x8192x4x96 .f32) i = (a : EReal)) (hk : ∀ i, ∃ a : ℝ, (m ((c.tc : Thread nD τ).loc main_arg1) : FVec Ideal S4x8192x4x96 .f32) i = (a : EReal))
    (hkc : ∀ i, ∃ a : ℝ, (m ((c.tc : Thread nD τ).loc main_arg3) : FVec Ideal S4x256x4x96 .f32) i = (a : EReal)) (h : Fin 2) (d : Fin 64) (r : Fin 2048) :
    outAt (F := Ideal) m c t (ix3 0 r ⟨64 * h.val + d.val, by omega⟩)
      = result m c (ix3 (batch t ht) (rowOf t r) ⟨64 * (headOf t h).val + d.val, by omega⟩) := by
  choose Q hQ using hq
  choose K hK using hk
  choose C hC using hkc
  obtain ⟨D, hD⟩ := scale_real
  have hf := factor_real D hD
  have hlog : Real.log 2 ≠ 0 := (Real.log_pos (by norm_num)).ne'
  let key : Fin 8448 → Fin 96 → ℝ := fun i w =>
    if p : i.val < 8192 then K (ix4 (batch t ht) ⟨i.val, p⟩ (headOf t h) w) else C (ix4 (batch t ht) ⟨i.val - 8192, by omega⟩ (headOf t h) w)
  let qry : Fin 96 → ℝ := fun w => Q (ix4 (batch t ht) (rowOf t r) (headOf t h) w)
  have key_chunk : ∀ n j w, K (ix4 (batch t ht) ⟨1024 * n.val + j.val, by omega⟩ (headOf t h) w) = key (chunkKey n j) w := fun n j w => by
    simp only [key]; rw [dif_pos (show (chunkKey n j).val < 8192 from by simp [chunkKey]; omega)]; rfl
  have key_ctx : ∀ j w, C (ix4 (batch t ht) j (headOf t h) w) = key (ctxKey j) w := fun j w => by
    simp only [key]; rw [dif_neg (show ¬ (ctxKey j).val < 8192 from by simp [ctxKey])]
    exact congrArg (fun z => C (ix4 (batch t ht) z (headOf t h) w)) (ctx_sub j)
  let v := m ((c.tc : Thread nD τ).loc main_arg2)
  let vc := m ((c.tc : Thread nD τ).loc main_arg4)
  obtain ⟨T, hT⟩ := out_at (m ((c.tc : Thread nD τ).loc main_arg0)) (m ((c.tc : Thread nD τ).loc main_arg1)) v (m ((c.tc : Thread nD τ).loc main_arg3)) vc
    (batch t ht) (headOf t h) (rowOf t r) d (fun i => (∑ w, qry w * key i w) * D) fun i => by
      rw [Cert.ReferenceIdeal.Attention.score_at, hD, EReal.coe_mul, coe_sum]
      congr 1
      refine Finset.sum_congr rfl fun w _ => ?_
      rw [EReal.coe_mul, Cert.ReferenceIdeal.Attention.catK_at, hQ]
      congr 1
      by_cases p : i.val < 8192
      · rw [dif_pos p, hK]; simp only [key, dif_pos p]
      · rw [dif_neg p, hC]; simp only [key, dif_neg p]
  obtain ⟨μ, hμ⟩ := head_at (iblk m c 0 t) (iblk m c 1 t) (iblk m c 2 t) (iblk m c 3 t) (iblk m c 4 t) h r d
    (fun i => (∑ w, qry w * key i w) * (D / Real.log 2)) (fun i => catV v vc (ix4 (batch t ht) i (headOf t h) d))
    (fun n j => by
      rw [scores_at]
      simp only [read_q m t ht, read_k m t ht, hf]
      exact padded_dot _ _ _ _ (fun w => (hK _).trans (congrArg _ (key_chunk n j w))) (fun w => hQ _) _)
    (fun n j => by
      rw [read_v m t ht, Cert.ReferenceIdeal.Attention.catV_at, dif_pos (show (chunkKey n j).val < 8192 from by simp [chunkKey]; omega)]
      rfl)
    (fun j => by
      rw [scoresC_at]
      simp only [read_q m t ht, read_kc m t ht, hf]
      exact padded_dot _ _ _ _ (fun w => (hC _).trans (congrArg _ (key_ctx j w))) (fun w => hQ _) _)
    (fun j => by
      rw [read_vc m t ht, Cert.ReferenceIdeal.Attention.catV_at, dif_neg (show ¬ (ctxKey j).val < 8192 from by simp [ctxKey])]
      exact congrArg (fun z => (m ((c.tc : Thread nD τ).loc main_arg4) : FVec Ideal S4x256x4x64 .f32) (ix4 (batch t ht) z (headOf t h) d)) (ctx_sub j))
  rw [outAt, blockOut, join_at (fun h => head (F := Ideal) (iblk m c 0 t) (iblk m c 1 t) (iblk m c 2 t) (iblk m c 3 t) (iblk m c 4 t) h) r h d, hμ, result, hT]
  exact quotient Finset.univ ⟨0, Finset.mem_univ _⟩ _ _ (fun i => by field_simp) _ μ T

end Cert.KernelIdeal.Flash

end
-- ==== Proof.Flash.Finite.lean ====
/-
  The precondition, read: with every query and key, the context's too, of finite size, each is a real number.
-/
module

public import proofs.«01_k».proof.Proof.Gen.Pre_finite_scores
public import Idealize.ShloMosaic.Lib.Pointwise

@[expose] public section

noncomputable section

namespace Cert.Pre_finite_scores.Read

open Idealize.ShloMosaic
open Cert.Pre_finite_scores.Gen

/-- A conjunction of bits is one exactly when both are. -/
theorem and_one (a b : BitVec 1) : IntOp.andi a b = 1#1 ↔ a = 1#1 ∧ b = 1#1 := by revert a b; decide

/-- A conjunction along a list that comes out one has only ones in it. -/
theorem all_one {α : Type*} (f : α → BitVec 1) (l : List α) (a : BitVec 1) (h : l.foldl (fun r n => IntOp.andi r (f n)) a = 1#1) :
    a = 1#1 ∧ ∀ n ∈ l, f n = 1#1 := by
  induction l generalizing a with
  | nil => exact ⟨h, fun n hn => absurd hn (List.not_mem_nil)⟩
  | cons b l ih =>
    obtain ⟨h1, h2⟩ := ih _ h
    obtain ⟨h3, h4⟩ := (and_one _ _).mp h1
    refine ⟨h3, fun n hn => ?_⟩
    rcases List.mem_cons.mp hn with rfl | hn
    · exact h4
    · exact h2 n hn

/-- An array of bits whose conjunction over all elements is one holds only ones. -/
theorem reduced {s t u : Shape} {axes : List (Fin s.rank)} (h : s.ReducesTo axes t) (hu : 0 < u.numel) (x : s.Idx → BitVec 1) (z : u.Idx → BitVec 1)
    (j : t.Idx) (h1 : Host.reduce IntOp.andi x z h hu j = 1#1) (i : s.Idx) (hi : h.drop i = j) : x i = 1#1 := by
  have h2 := (all_one (fun n => x (s.rowMajor.symm n)) _ _ h1).2 (s.rowMajor i)
    (List.mem_filter.mpr ⟨List.mem_finRange _, by simpa using hi⟩)
  simpa using h2

theorem word_inf : Ideal.ofBits .f32 0x7F800000#32 = ⊤ := by
  simp [Ideal.ofBits, Ideal.ieee]

/-- A number whose size is below infinity is real. -/
theorem real_of_bit (x : EReal) (h : Ideal.cmp .olt (max x (-x)) (Ideal.ofBits .f32 0x7F800000#32) = 1#1) : ∃ a : ℝ, x = a := by
  rw [word_inf] at h
  have h' : max x (-x) < ⊤ := by
    by_contra hn
    simp [Ideal.cmp, hn] at h
  induction x with
  | bot => simp at h'
  | top => simp at h'
  | coe a => exact ⟨a, rfl⟩

/-- What the predicate says of an array: all its elements are real. -/
theorem reals {s : Shape} {axes : List (Fin s.rank)} (h : s.ReducesTo axes S_) (x : FVec Ideal s .f32) (dims : Fin 0 → Fin s.rank) (hb : S_.BroadcastsInDim s dims)
    (h1 : Host.reduce IntOp.andi (cmpf .olt (Host.absf x) (broadcastInDim s dims hb (constant S_ .f32 0x7F800000#32))) (constantI S_ 1 1#1) h h_S_
      = fun _ => 1#1) (i : s.Idx) : ∃ a : ℝ, x i = a :=
  real_of_bit _ (reduced h h_S_ _ _ (h.drop i) (congrFun h1 _) i rfl)

/-- The precondition says that the queries, the keys and the keys of the context are real. -/
theorem read (q k : FVec Ideal S4x8192x4x96 .f32) (v : FVec Ideal S4x8192x4x64 .f32) (kc : FVec Ideal S4x256x4x96 .f32) (vc : FVec Ideal S4x256x4x64 .f32)
    (h : Cert.Pre_finite_scores.fn (F := Ideal) q k v kc vc = fun _ => 1#1) :
    (∀ i, ∃ a : ℝ, q i = a) ∧ (∀ i, ∃ a : ℝ, k i = a) ∧ ∀ i, ∃ a : ℝ, kc i = a := by
  have h0 := fun j => congrFun h j
  simp only [Cert.Pre_finite_scores.fn, andi, and_one] at h0
  exact ⟨reals _ q _ _ (funext fun j => (h0 j).1.1), reals _ k _ _ (funext fun j => (h0 j).1.2), reals _ kc _ _ (funext fun j => (h0 j).2)⟩

end Cert.Pre_finite_scores.Read

end
-- ==== Proof.Flash.Value.lean ====
/-
  The attention claim: the kernel leaves the reference's result in its output array, every block of which is written
  once, and the reference leaves it too.
-/
module

public import proofs.«01_k».proof.Defs
public import proofs.«01_k».proof.Proof.Flash.Compare
public import proofs.«01_k».proof.Proof.Flash.Finite
public import proofs.«01_k».proof.Proof.Gen.ReferenceIdeal.Run

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg) (c : Dev nD)

/-- Every number below twice `n` is in the first or in the second half. -/
theorem halves (d : Fin 128) : ∃ (h : Fin 2) (e : Fin 64), d = ⟨64 * h.val + e.val, by omega⟩ :=
  ⟨⟨d.val / 64, by omega⟩, ⟨d.val % 64, by omega⟩, Fin.ext (by simp; omega)⟩

/-- The block of a step is the reference's result at the block's place. -/
theorem block_eq (hq : ∀ i, ∃ a : ℝ, (m ((c.tc : Thread nD τ).loc main_arg0) : FVec Ideal S4x8192x4x96 .f32) i = (a : EReal))
    (hk : ∀ i, ∃ a : ℝ, (m ((c.tc : Thread nD τ).loc main_arg1) : FVec Ideal S4x8192x4x96 .f32) i = (a : EReal))
    (hkc : ∀ i, ∃ a : ℝ, (m ((c.tc : Thread nD τ).loc main_arg3) : FVec Ideal S4x256x4x96 .f32) i = (a : EReal)) (t : Fin cfg0.N) (y : S1x2048x128.Idx) :
    outAt (F := Ideal) m c t y = result m c ((win0_5.blk t).view.emb y) := by
  have ht : t.val < 32 := t.isLt
  obtain ⟨z, r, d, rfl⟩ : ∃ (z : Fin 1) (r : Fin 2048) (d : Fin 128), y = ix3 z r d := ⟨y 0, y 1, y 2, by ext i; fin_cases i <;> rfl⟩
  obtain rfl : z = 0 := Subsingleton.elim _ _
  obtain ⟨h, e, rfl⟩ := halves d
  rw [emb_o t ht, outAt_eq m c t ht hq hk hkc h e r]
  exact congrArg (fun w => result m c (ix3 (batch t ht) (rowOf t r) w)) (Fin.ext (by simp; omega))

/-- The output array at the end is the reference's result. -/
theorem array_eq (hq : ∀ i, ∃ a : ℝ, (m ((c.tc : Thread nD τ).loc main_arg0) : FVec Ideal S4x8192x4x96 .f32) i = (a : EReal))
    (hk : ∀ i, ∃ a : ℝ, (m ((c.tc : Thread nD τ).loc main_arg1) : FVec Ideal S4x8192x4x96 .f32) i = (a : EReal))
    (hkc : ∀ i, ∃ a : ℝ, (m ((c.tc : Thread nD τ).loc main_arg3) : FVec Ideal S4x256x4x96 .f32) i = (a : EReal)) :
    (dats m 0 c).arrAt 5 cfg0.N = result m c := by
  refine (dats m 0 c).arrAt_eq_of_covers 5 (result m c) (by decide +kernel) fun t _ y => ?_
  blk_simp
  rw [after_o]
  exact block_eq m c hq hk hkc t y

/-- The attention claim. -/
theorem claim : Cert.algebraic_KernelIdeal_ReferenceIdeal_pre_finite_scores := by
  intro m g m' g' hpre hagree
  refine ⟨fun c => result m c, ?_, ?_⟩
  · refine (θ_run defs _ _).mono (fun r h c => ?_) (θ_run_and (run m g) (frame m g))
    obtain ⟨hq, hk, hkc⟩ := Cert.Pre_finite_scores.Read.read _ _ _ _ _ (hpre c)
    exact ⟨(Pipeline.FramePost.out_eq h.1 c 5).trans (array_eq m c hq hk hkc), h.2.1 c⟩
  · refine (θ_run Cert.ReferenceIdeal.defs _ _).mono (fun r h c => ?_) (Cert.ReferenceIdeal.Value.run (F := Ideal) m' g')
    obtain ⟨h0, h1, h2, h3, h4⟩ := hagree c
    refine ⟨(h c).1.trans ?_, (h c).2⟩
    rw [h0, h1, h2, h3, h4]
    rfl

end Cert.KernelIdeal.Flash

end
-- ==== Proof.Mlp.Row.lean ====
/-
  The output projection and the feed-forward part of one token, as functions of its numbers over the extended reals:
  what the call and the reference are both compared with.
-/
module

public import Idealize.ShloMosaic.PureOps.Ideal
public import Idealize.ShloMosaic.Lib.Pointwise

@[expose] public section

noncomputable section

namespace Cert.Token

open Idealize.ShloMosaic

/-- The mean square of a token's channels, and the small number added to it. -/
def spreadOf (v : Fin 1024 → EReal) : EReal :=
  Ideal.div (∑ k, v k * v k) (Ideal.ofBits .f32 0x44800000#32) + Ideal.ofBits .f32 0x358637BD#32

/-- The channels over the root of their mean square, times the gains. -/
def norm (v g : Fin 1024 → EReal) (j : Fin 1024) : EReal := v j * Ideal.rsqrt (spreadOf v) * g j

/-- The four mixers' channels next to each other. -/
def side (o0 o1 o2 o3 : Fin 256 → EReal) (k : Fin 1024) : EReal :=
  if h : k.val < 256 then o0 ⟨k.val, h⟩ else if h : k.val - 256 < 256 then o1 ⟨k.val - 256, h⟩
  else if h : k.val - 256 - 256 < 256 then o2 ⟨k.val - 256 - 256, h⟩ else o3 ⟨k.val - 256 - 256 - 256, by omega⟩

/-- A channel of a matrix product. -/
def lin {n p : ℕ} (v : Fin n → EReal) (w : Fin n → Fin p → EReal) (j : Fin p) : EReal := ∑ k, v k * w k j

/-- A gated residual. -/
def addGated (x gate y : Fin 1024 → EReal) (j : Fin 1024) : EReal := x j + gate j * y j

/-- The norm, then the modulation's scale and shift. -/
def modulated (v g scale shift : Fin 1024 → EReal) (j : Fin 1024) : EReal :=
  norm v g j * (Ideal.ofBits .f32 0x3F800000#32 + scale j) + shift j

/-- The squared positive part. -/
def square {n : ℕ} (u : Fin n → EReal) (f : Fin n) : EReal := max (u f) 0 * max (u f) 0

/-- The stream after the output projection. -/
def middle (x gate1 : Fin 1024 → EReal) (o0 o1 o2 o3 : Fin 256 → EReal) (wo : Fin 1024 → Fin 1024 → EReal) : Fin 1024 → EReal :=
  addGated x gate1 (lin (side o0 o1 o2 o3) wo)

/-- The stream after the feed-forward part. -/
def final (x1 g scale shift gate2 : Fin 1024 → EReal) (w1 : Fin 1024 → Fin 4096 → EReal) (w2 : Fin 4096 → Fin 1024 → EReal) : Fin 1024 → EReal :=
  addGated x1 gate2 (lin (square (lin (modulated x1 g scale shift) w1)) w2)

/-- The sum over 1024 channels is that over the four quarters. -/
theorem lin_quarters (o0 o1 o2 o3 : Fin 256 → EReal) (w : Fin 1024 → Fin 1024 → EReal) (j : Fin 1024) :
    lin (side o0 o1 o2 o3) w j = (∑ k : Fin 256, o0 k * w ⟨k.val, by omega⟩ j) + (∑ k : Fin 256, o1 k * w ⟨256 + k.val, by omega⟩ j)
      + (∑ k : Fin 256, o2 k * w ⟨512 + k.val, by omega⟩ j) + ∑ k : Fin 256, o3 k * w ⟨768 + k.val, by omega⟩ j := by
  rw [lin, Fin.sum_univ_tiles 4 256 rfl, Fin.sum_univ_four]
  refine congrArg₂ (· + ·) (congrArg₂ (· + ·) (congrArg₂ (· + ·) ?_ ?_) ?_) ?_
  · refine Finset.sum_congr rfl fun k _ => ?_
    have e : (⟨(0 : Fin 4).val * 256 + k.val, by simp; omega⟩ : Fin 1024) = ⟨k.val, by omega⟩ := Fin.ext (by simp)
    rw [e, side, dif_pos (show k.val < 256 from k.isLt)]
  · refine Finset.sum_congr rfl fun k _ => ?_
    have e : (⟨(1 : Fin 4).val * 256 + k.val, by simp; omega⟩ : Fin 1024) = ⟨256 + k.val, by omega⟩ := Fin.ext (by simp)
    rw [e, side, dif_neg (show ¬ 256 + k.val < 256 by omega), dif_pos (show 256 + k.val - 256 < 256 by omega)]
    exact congrArg (fun z => o1 z * _) (Fin.ext (by dsimp only; omega))
  · refine Finset.sum_congr rfl fun k _ => ?_
    have e : (⟨(2 : Fin 4).val * 256 + k.val, by simp; omega⟩ : Fin 1024) = ⟨512 + k.val, by omega⟩ := Fin.ext (by simp)
    rw [e, side, dif_neg (show ¬ 512 + k.val < 256 by omega), dif_neg (show ¬ 512 + k.val - 256 < 256 by omega), dif_pos (show 512 + k.val - 256 - 256 < 256 by omega)]
    exact congrArg (fun z => o2 z * _) (Fin.ext (by dsimp only; omega))
  · refine Finset.sum_congr rfl fun k _ => ?_
    have e : (⟨(3 : Fin 4).val * 256 + k.val, by simp; omega⟩ : Fin 1024) = ⟨768 + k.val, by omega⟩ := Fin.ext (by simp)
    rw [e, side, dif_neg (show ¬ 768 + k.val < 256 by omega), dif_neg (show ¬ 768 + k.val - 256 < 256 by omega), dif_neg (show ¬ 768 + k.val - 256 - 256 < 256 by omega)]
    exact congrArg (fun z => o3 z * _) (Fin.ext (by dsimp only; omega))

/-- The sum over 4096 hidden channels is that over the four chunks. -/
theorem lin_chunks (v : Fin 4096 → EReal) (w : Fin 4096 → Fin 1024 → EReal) (j : Fin 1024) :
    lin v w j = (∑ f : Fin 1024, v ⟨f.val, by omega⟩ * w ⟨f.val, by omega⟩ j) + (∑ f : Fin 1024, v ⟨1024 + f.val, by omega⟩ * w ⟨1024 + f.val, by omega⟩ j)
      + (∑ f : Fin 1024, v ⟨2048 + f.val, by omega⟩ * w ⟨2048 + f.val, by omega⟩ j) + ∑ f : Fin 1024, v ⟨3072 + f.val, by omega⟩ * w ⟨3072 + f.val, by omega⟩ j := by
  rw [lin, Fin.sum_univ_tiles 4 1024 rfl, Fin.sum_univ_four]
  simp

end Cert.Token

end
-- ==== Proof.Mlp.Block.lean ====
/-
  What one grid step of the call writes, element by element: the token's channels of `Row`.
-/
module

public import proofs.«01_k».proof.Proof.Gen.Kernel2Ideal.Frame
public import proofs.«01_k».proof.Proof.Mlp.Row
public import Idealize.ShloMosaic.Lib.Pipeline.ValueKit

@[expose] public section

set_option maxRecDepth 16384

noncomputable section

namespace Cert.Kernel2Ideal.Mlp

open Idealize.ShloMosaic Idealize.ShloMosaic.TcCoe Idealize.SL.Sem
open Cert.Kernel2Ideal.Gen Cert.Token

/-! ## The operations -/

/-- The norm of a block of tokens. -/
def normed (v : FVec Ideal S512x1024 .f32) (g : FVec Ideal S1x1024 .f32) : FVec Ideal S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- A row of the modulation, repeated along the tokens. -/
def along (p : FVec Ideal S1x1x1024 .f32) : FVec Ideal S512x1024 .f32 :=
  broadcastTo S512x1024 (shapeCast S1x1024 p shapeCasts_S1x1x1024_S1x1024) broadcasts_S1x1024_S512x1024
/-- One more than it. -/
def alongOne (p : FVec Ideal S1x1x1024 .f32) : FVec Ideal S512x1024 .f32 :=
  broadcastTo S512x1024 (addf (broadcast S1x1024 (Scalar.ofBits .f32 0x3F800000#32)) (shapeCast S1x1024 p shapeCasts_S1x1x1024_S1x1024)) broadcasts_S1x1024_S512x1024

/-- A mixer's part of the output projection. -/
def headDot (o : FVec Ideal S1x512x256 .bf16) (w : FVec Ideal S256x1024 .bf16) : FVec Ideal S512x1024 .f32 :=
  matmul dot_S512x256_S256x1024_S512x1024_1_0_0_1_n_n none (shapeCast S512x256 o shapeCasts_S1x512x256_S512x256 : FVec Ideal S512x256 .bf16)
    (shapeCast S256x1024 w shapeCasts_S256x1024_S256x1024 : FVec Ideal S256x1024 .bf16) (constant S512x1024 .f32 0x00000000#32)

/-- The product of a block of tokens with a chunk of weights. -/
def chunkDot (h : FVec Ideal S512x1024 .bf16) (w : FVec Ideal S1x1024x1024 .bf16) : FVec Ideal S512x1024 .f32 :=
  matmul dot_S512x1024_S1024x1024_S512x1024_1_0_0_1_n_n none h (shapeCast S1024x1024 w shapeCasts_S1x1024x1024_S1024x1024 : FVec Ideal S1024x1024 .bf16) (constant S512x1024 .f32 0x00000000#32)

/-- The positive part squared. -/
def squared (u : FVec Ideal S512x1024 .f32) : FVec Ideal S512x1024 .bf16 :=
  truncf .bf16 (mulf (maximumf u (broadcast S512x1024 (Scalar.ofBits .f32 0x00000000#32))) (maximumf u (broadcast S512x1024 (Scalar.ofBits .f32 0x00000000#32)))) bitsLt_bf16_f32

/-- A chunk of the feed-forward part. -/
def chunk (h : FVec Ideal S512x1024 .bf16) (w1 w2 : FVec Ideal S1x1024x1024 .bf16) : FVec Ideal S512x1024 .f32 := chunkDot (squared (chunkDot h w1)) w2

/-- The stream after the output projection. -/
def stream (x : FVec Ideal S1x512x1024 .f32) (gt : FVec Ideal S1x1x1024 .f32) (o0 o1 o2 o3 : FVec Ideal S1x512x256 .bf16) (w0 w1 w2 w3 : FVec Ideal S256x1024 .bf16) : FVec Ideal S512x1024 .f32 :=
  addf (shapeCast S512x1024 x shapeCasts_S1x512x1024_S512x1024) (mulf (along gt) (addf (addf (addf (headDot o0 w0) (headDot o1 w1)) (headDot o2 w2)) (headDot o3 w3)))

/-- The feed-forward part's input. -/
def entering (s : FVec Ideal S512x1024 .f32) (g : FVec Ideal S1x1024 .f32) (sc sh : FVec Ideal S1x1x1024 .f32) : FVec Ideal S512x1024 .bf16 :=
  truncf .bf16 (addf (mulf (normed s g) (alongOne sc)) (along sh)) bitsLt_bf16_f32

/-- The feed-forward part, its four chunks added up. -/
def feed (h : FVec Ideal S512x1024 .bf16) (a0 b0 a1 b1 a2 b2 a3 b3 : FVec Ideal S1x1024x1024 .bf16) : FVec Ideal S512x1024 .f32 :=
  addf (addf (addf (addf (broadcast S512x1024 (Scalar.ofBits .f32 0x00000000#32)) (chunk h a0 b0)) (chunk h a1 b1)) (chunk h a2 b2)) (chunk h a3 b3)

/-- The block's result. -/
def finish (s f : FVec Ideal S512x1024 .f32) (gt : FVec Ideal S1x1x1024 .f32) (fg : FVec Ideal S1x1024 .f32) : FVec Ideal S1x512x1024 .f32 :=
  shapeCast S1x512x1024 (normed (addf s (mulf (along gt) f)) fg) shapeCasts_S512x1024_S1x512x1024

/-! ## Their elements -/

variable (r : Fin 512) (j : Fin 1024)

theorem meanSq_at (v : FVec Ideal S512x1024 .f32) :
    (addf (divf (shapeCast S512x1 (multiReduction .add [1] S512 (mulf v v) 0x00000000#32 reduces_S512x1024_S512 (.inl rfl) rfl) shapeCasts_S512_S512x1)
      (broadcast S512x1 (Scalar.ofBits .f32 0x44800000#32))) (broadcast S512x1 (Scalar.ofBits .f32 0x358637BD#32)) : FVec Ideal S512x1 .f32) (ix2 r 0)
      = spreadOf fun j => v (ix2 r j) := by
  unfold spreadOf
  pointwise

theorem scaled_at (v : FVec Ideal S512x1024 .f32) (s : FVec Ideal S512x1 .f32) (g : FVec Ideal S1x1024 .f32) :
    mulf (mulf v (broadcastTo S512x1024 (rsqrt s) broadcasts_S512x1_S512x1024)) (broadcastTo S512x1024 (shapeCast S1x1024 g shapeCasts_S1x1024_S1x1024) broadcasts_S1x1024_S512x1024) (ix2 r j)
      = v (ix2 r j) * Ideal.rsqrt (s (ix2 r 0)) * g (ix2 0 j) := by
  pointwise

theorem normed_at (v : FVec Ideal S512x1024 .f32) (g : FVec Ideal S1x1024 .f32) :
    normed v g (ix2 r j) = norm (fun j => v (ix2 r j)) (fun j => g (ix2 0 j)) j := by
  rw [normed, scaled_at, meanSq_at]; rfl

theorem along_at (p : FVec Ideal S1x1x1024 .f32) : along p (ix2 r j) = p (ix3 0 0 j) := by pointwise [along]
theorem alongOne_at (p : FVec Ideal S1x1x1024 .f32) : alongOne p (ix2 r j) = Ideal.ofBits .f32 0x3F800000#32 + p (ix3 0 0 j) := by pointwise [alongOne]

theorem headDot_at (o : FVec Ideal S1x512x256 .bf16) (w : FVec Ideal S256x1024 .bf16) :
    headDot o w (ix2 r j) = ∑ k : Fin 256, o (ix3 0 r k) * w (ix2 k j) := by
  pointwise [headDot]

theorem chunkDot_at (h : FVec Ideal S512x1024 .bf16) (w : FVec Ideal S1x1024x1024 .bf16) :
    chunkDot h w (ix2 r j) = ∑ k : Fin 1024, h (ix2 r k) * w (ix3 0 k j) := by
  pointwise [chunkDot]

theorem squared_at (u : FVec Ideal S512x1024 .f32) : squared u (ix2 r j) = max (u (ix2 r j)) 0 * max (u (ix2 r j)) 0 := by
  pointwise [squared]

theorem lift_at (x : FVec Ideal S1x512x1024 .f32) : shapeCast S512x1024 x shapeCasts_S1x512x1024_S512x1024 (ix2 r j) = x (ix3 0 r j) := by
  pointwise
theorem lower_at (x : FVec Ideal S512x1024 .f32) : shapeCast S1x512x1024 x shapeCasts_S512x1024_S1x512x1024 (ix3 0 r j) = x (ix2 r j) := by
  pointwise

/-- The stream after the output projection: `wo` has the four weight blocks below one another. -/
theorem stream_at (x : FVec Ideal S1x512x1024 .f32) (gt : FVec Ideal S1x1x1024 .f32) (o0 o1 o2 o3 : FVec Ideal S1x512x256 .bf16) (w0 w1 w2 w3 : FVec Ideal S256x1024 .bf16)
    (wo : Fin 1024 → Fin 1024 → EReal) (h0 : ∀ (k : Fin 256) j, w0 (ix2 k j) = wo ⟨k.val, by omega⟩ j) (h1 : ∀ (k : Fin 256) j, w1 (ix2 k j) = wo ⟨256 + k.val, by omega⟩ j)
    (h2 : ∀ (k : Fin 256) j, w2 (ix2 k j) = wo ⟨512 + k.val, by omega⟩ j) (h3 : ∀ (k : Fin 256) j, w3 (ix2 k j) = wo ⟨768 + k.val, by omega⟩ j) :
    stream x gt o0 o1 o2 o3 w0 w1 w2 w3 (ix2 r j)
      = middle (fun j => x (ix3 0 r j)) (fun j => gt (ix3 0 0 j)) (fun k => o0 (ix3 0 r k)) (fun k => o1 (ix3 0 r k)) (fun k => o2 (ix3 0 r k)) (fun k => o3 (ix3 0 r k)) wo j := by
  rw [middle, addGated, lin_quarters]
  simp only [← h0, ← h1, ← h2, ← h3, ← headDot_at]
  rw [← along_at r j gt, ← lift_at r j x]
  rfl

/-- The feed-forward part's input. -/
theorem entering_at (s : FVec Ideal S512x1024 .f32) (g : FVec Ideal S1x1024 .f32) (sc sh : FVec Ideal S1x1x1024 .f32) :
    entering s g sc sh (ix2 r j) = modulated (fun j => s (ix2 r j)) (fun j => g (ix2 0 j)) (fun j => sc (ix3 0 0 j)) (fun j => sh (ix3 0 0 j)) j := by
  rw [modulated, ← normed_at r j s g, ← alongOne_at r j sc, ← along_at r j sh]; rfl

/-- A chunk of the feed-forward part. -/
theorem chunk_at (h : FVec Ideal S512x1024 .bf16) (a b : FVec Ideal S1x1024x1024 .bf16) :
    chunk h a b (ix2 r j) = ∑ f : Fin 1024, (max (∑ k : Fin 1024, h (ix2 r k) * a (ix3 0 k f)) 0 * max (∑ k : Fin 1024, h (ix2 r k) * a (ix3 0 k f)) 0) * b (ix3 0 f j) := by
  rw [chunk, chunkDot_at]
  simp only [squared_at, chunkDot_at]

/-- The sum of the chunks. -/
theorem feed_sum (h : FVec Ideal S512x1024 .bf16) (a0 b0 a1 b1 a2 b2 a3 b3 : FVec Ideal S1x1024x1024 .bf16) :
    feed h a0 b0 a1 b1 a2 b2 a3 b3 (ix2 r j) = chunk h a0 b0 (ix2 r j) + chunk h a1 b1 (ix2 r j) + chunk h a2 b2 (ix2 r j) + chunk h a3 b3 (ix2 r j) := by
  pointwise [feed]

/-- The feed-forward part: `w1` has the first weights' chunks side by side, `w2` the second weights' below one another. -/
theorem feed_at (h : FVec Ideal S512x1024 .bf16) (a0 b0 a1 b1 a2 b2 a3 b3 : FVec Ideal S1x1024x1024 .bf16) (w1 : Fin 1024 → Fin 4096 → EReal) (w2 : Fin 4096 → Fin 1024 → EReal)
    (p0 : ∀ k (f : Fin 1024), a0 (ix3 0 k f) = w1 k ⟨f.val, by omega⟩) (p1 : ∀ k (f : Fin 1024), a1 (ix3 0 k f) = w1 k ⟨1024 + f.val, by omega⟩)
    (p2 : ∀ k (f : Fin 1024), a2 (ix3 0 k f) = w1 k ⟨2048 + f.val, by omega⟩) (p3 : ∀ k (f : Fin 1024), a3 (ix3 0 k f) = w1 k ⟨3072 + f.val, by omega⟩)
    (q0 : ∀ (f : Fin 1024) j, b0 (ix3 0 f j) = w2 ⟨f.val, by omega⟩ j) (q1 : ∀ (f : Fin 1024) j, b1 (ix3 0 f j) = w2 ⟨1024 + f.val, by omega⟩ j)
    (q2 : ∀ (f : Fin 1024) j, b2 (ix3 0 f j) = w2 ⟨2048 + f.val, by omega⟩ j) (q3 : ∀ (f : Fin 1024) j, b3 (ix3 0 f j) = w2 ⟨3072 + f.val, by omega⟩ j) :
    feed h a0 b0 a1 b1 a2 b2 a3 b3 (ix2 r j) = lin (square (lin (fun k => h (ix2 r k)) w1)) w2 j := by
  rw [feed_sum, lin_chunks, chunk_at, chunk_at, chunk_at, chunk_at]
  simp only [p0, p1, p2, p3, q0, q1, q2, q3]
  rfl

/-- The block's result. -/
theorem finish_at (s f : FVec Ideal S512x1024 .f32) (gt : FVec Ideal S1x1x1024 .f32) (fg : FVec Ideal S1x1024 .f32) :
    finish s f gt fg (ix3 0 r j) = norm (addGated (fun j => s (ix2 r j)) (fun j => gt (ix3 0 0 j)) (fun j => f (ix2 r j))) (fun j => fg (ix2 0 j)) j := by
  rw [finish, lower_at, normed_at]
  exact congrArg (fun v => norm v (fun j => fg (ix2 0 j)) j) (funext fun j => by rw [addGated, ← along_at r j gt]; rfl)

/-! ## The step's result -/

/-- The block of a mixer in the output weights. -/
def wo0 (x : FVec Ideal S1024x1024 .bf16) : FVec Ideal S256x1024 .bf16 := fun i => x (r0_1.idx i)
def wo1 (x : FVec Ideal S1024x1024 .bf16) : FVec Ideal S256x1024 .bf16 := fun i => x (r0_2.idx i)
def wo2 (x : FVec Ideal S1024x1024 .bf16) : FVec Ideal S256x1024 .bf16 := fun i => x (r0_3.idx i)
def wo3 (x : FVec Ideal S1024x1024 .bf16) : FVec Ideal S256x1024 .bf16 := fun i => x (r0_4.idx i)
/-- A chunk of the feed-forward part's first weights. -/
def up0 (x : FVec Ideal S1x1024x4096 .bf16) : FVec Ideal S1x1024x1024 .bf16 := fun i => x (r0_8.idx i)
def up1 (x : FVec Ideal S1x1024x4096 .bf16) : FVec Ideal S1x1024x1024 .bf16 := fun i => x (r0_10.idx i)
def up2 (x : FVec Ideal S1x1024x4096 .bf16) : FVec Ideal S1x1024x1024 .bf16 := fun i => x (r0_12.idx i)
def up3 (x : FVec Ideal S1x1024x4096 .bf16) : FVec Ideal S1x1024x1024 .bf16 := fun i => x (r0_14.idx i)
/-- A chunk of its second weights. -/
def down0 (x : FVec Ideal S1x4096x1024 .bf16) : FVec Ideal S1x1024x1024 .bf16 := fun i => x (r0_9.idx i)
def down1 (x : FVec Ideal S1x4096x1024 .bf16) : FVec Ideal S1x1024x1024 .bf16 := fun i => x (r0_11.idx i)
def down2 (x : FVec Ideal S1x4096x1024 .bf16) : FVec Ideal S1x1024x1024 .bf16 := fun i => x (r0_13.idx i)
def down3 (x : FVec Ideal S1x4096x1024 .bf16) : FVec Ideal S1x1024x1024 .bf16 := fun i => x (r0_15.idx i)

/-- The stream of a step after the output projection. -/
def streamOf (x0 : FVec Ideal S1x512x1024 .f32) (x1 x2 x3 x4 : FVec Ideal S1x512x256 .bf16) (x5 : FVec Ideal S1024x1024 .bf16) (x6 : FVec Ideal S1x1x1024 .f32) : FVec Ideal S512x1024 .f32 :=
  stream x0 x6 x1 x2 x3 x4 (wo0 x5) (wo1 x5) (wo2 x5) (wo3 x5)

/-- The feed-forward part of a step. -/
def feedOf (h : FVec Ideal S512x1024 .bf16) (x11 : FVec Ideal S1x1024x4096 .bf16) (x12 : FVec Ideal S1x4096x1024 .bf16) : FVec Ideal S512x1024 .f32 :=
  feed h (up0 x11) (down0 x12) (up1 x11) (down1 x12) (up2 x11) (down2 x12) (up3 x11) (down3 x12)

/-- What a step writes, from its blocks. -/
def blockOf (x0 : FVec Ideal S1x512x1024 .f32) (x1 x2 x3 x4 : FVec Ideal S1x512x256 .bf16) (x5 : FVec Ideal S1024x1024 .bf16) (x6 x7 x8 x9 : FVec Ideal S1x1x1024 .f32) (x10 : FVec Ideal S1x1024 .f32)
    (x11 : FVec Ideal S1x1024x4096 .bf16) (x12 : FVec Ideal S1x4096x1024 .bf16) (x13 : FVec Ideal S1x1024 .f32) : FVec Ideal S1x512x1024 .f32 :=
  finish (streamOf x0 x1 x2 x3 x4 x5 x6) (feedOf (entering (streamOf x0 x1 x2 x3 x4 x5 x6) x10 x8 x7) x11 x12) x9 x13

theorem ld_mixer (x : FVec Ideal S1x512x256 .bf16) : View.ld (Val := Elt Ideal) (e' := .bf16) x r0_0 = x :=
  View.ld_unit_lit (Val := Elt Ideal) (e := .bf16) (S := S1x512x256) (off := ![0, 0, 0]) _ x (by decide)
theorem ld_stream (x : FVec Ideal S1x512x1024 .f32) : View.ld (Val := Elt Ideal) (e' := .f32) x r0_5 = x :=
  View.ld_unit_lit (Val := Elt Ideal) (e := .f32) (S := S1x512x1024) (off := ![0, 0, 0]) _ x (by decide)
theorem ld_row (x : FVec Ideal S1x1x1024 .f32) : View.ld (Val := Elt Ideal) (e' := .f32) x r0_6 = x :=
  View.ld_unit_lit (Val := Elt Ideal) (e := .f32) (S := S1x1x1024) (off := ![0, 0, 0]) _ x (by decide)
theorem ld_gains (x : FVec Ideal S1x1024 .f32) : View.ld (Val := Elt Ideal) (e' := .f32) x r0_7 = x :=
  View.ld_unit_lit (Val := Elt Ideal) (e := .f32) (S := S1x1024) (off := ![0, 0]) _ x (by decide)

/-- The step's result is this. -/
theorem out_eq (x0 : FVec Ideal S1x512x1024 .f32) (x1 x2 x3 x4 : FVec Ideal S1x512x256 .bf16) (x5 : FVec Ideal S1024x1024 .bf16) (x6 x7 x8 x9 : FVec Ideal S1x1x1024 .f32) (x10 : FVec Ideal S1x1024 .f32)
    (x11 : FVec Ideal S1x1024x4096 .bf16) (x12 : FVec Ideal S1x4096x1024 .bf16) (x13 : FVec Ideal S1x1024 .f32) :
    out0_14 (F := Ideal) x0 x1 x2 x3 x4 x5 x6 x7 x8 x9 x10 x11 x12 x13 = blockOf x0 x1 x2 x3 x4 x5 x6 x7 x8 x9 x10 x11 x12 x13 := by
  frame_out
  unfold k0_pay14 k0_pay13 k0_pay12 k0_pay11
  rw [ld_mixer x1, ld_mixer x2, ld_mixer x3, ld_mixer x4, ld_stream x0, ld_row x6, ld_row x7, ld_row x8, ld_gains x10]
  rfl

theorem ld_wo (x : FVec Ideal S1024x1024 .bf16) (k : Fin 256) (j : Fin 1024) :
    wo0 x (ix2 k j) = x (ix2 ⟨k.val, by omega⟩ j) ∧ wo1 x (ix2 k j) = x (ix2 ⟨256 + k.val, by omega⟩ j)
      ∧ wo2 x (ix2 k j) = x (ix2 ⟨512 + k.val, by omega⟩ j) ∧ wo3 x (ix2 k j) = x (ix2 ⟨768 + k.val, by omega⟩ j) := by
  refine ⟨?_, ?_, ?_, ?_⟩ <;> pointwise [wo0, wo1, wo2, wo3]

theorem ld_w1 (x : FVec Ideal S1x1024x4096 .bf16) (k f : Fin 1024) :
    up0 x (ix3 0 k f) = x (ix3 0 k ⟨f.val, by omega⟩) ∧ up1 x (ix3 0 k f) = x (ix3 0 k ⟨1024 + f.val, by omega⟩)
      ∧ up2 x (ix3 0 k f) = x (ix3 0 k ⟨2048 + f.val, by omega⟩) ∧ up3 x (ix3 0 k f) = x (ix3 0 k ⟨3072 + f.val, by omega⟩) := by
  refine ⟨?_, ?_, ?_, ?_⟩ <;> pointwise [up0, up1, up2, up3]

theorem ld_w2 (x : FVec Ideal S1x4096x1024 .bf16) (f j : Fin 1024) :
    down0 x (ix3 0 f j) = x (ix3 0 ⟨f.val, by omega⟩ j) ∧ down1 x (ix3 0 f j) = x (ix3 0 ⟨1024 + f.val, by omega⟩ j)
      ∧ down2 x (ix3 0 f j) = x (ix3 0 ⟨2048 + f.val, by omega⟩ j) ∧ down3 x (ix3 0 f j) = x (ix3 0 ⟨3072 + f.val, by omega⟩ j) := by
  refine ⟨?_, ?_, ?_, ?_⟩ <;> pointwise [down0, down1, down2, down3]

/-- What a step writes, token by token. -/
theorem block_at (x0 : FVec Ideal S1x512x1024 .f32) (x1 x2 x3 x4 : FVec Ideal S1x512x256 .bf16) (x5 : FVec Ideal S1024x1024 .bf16) (x6 x7 x8 x9 : FVec Ideal S1x1x1024 .f32) (x10 : FVec Ideal S1x1024 .f32)
    (x11 : FVec Ideal S1x1024x4096 .bf16) (x12 : FVec Ideal S1x4096x1024 .bf16) (x13 : FVec Ideal S1x1024 .f32) :
    blockOf x0 x1 x2 x3 x4 x5 x6 x7 x8 x9 x10 x11 x12 x13 (ix3 0 r j)
      = norm (final (middle (fun j => x0 (ix3 0 r j)) (fun j => x6 (ix3 0 0 j)) (fun k => x1 (ix3 0 r k)) (fun k => x2 (ix3 0 r k)) (fun k => x3 (ix3 0 r k)) (fun k => x4 (ix3 0 r k)) (fun k j => x5 (ix2 k j)))
          (fun j => x10 (ix2 0 j)) (fun j => x8 (ix3 0 0 j)) (fun j => x7 (ix3 0 0 j)) (fun j => x9 (ix3 0 0 j)) (fun k f => x11 (ix3 0 k f)) (fun f j => x12 (ix3 0 f j))) (fun j => x13 (ix2 0 j)) j := by
  have hs : ∀ j, streamOf x0 x1 x2 x3 x4 x5 x6 (ix2 r j)
      = middle (fun j => x0 (ix3 0 r j)) (fun j => x6 (ix3 0 0 j)) (fun k => x1 (ix3 0 r k)) (fun k => x2 (ix3 0 r k)) (fun k => x3 (ix3 0 r k)) (fun k => x4 (ix3 0 r k)) (fun k j => x5 (ix2 k j)) j :=
    fun j => stream_at r j _ _ _ _ _ _ _ _ _ _ _ (fun k j => (ld_wo x5 k j).1) (fun k j => (ld_wo x5 k j).2.1) (fun k j => (ld_wo x5 k j).2.2.1) (fun k j => (ld_wo x5 k j).2.2.2)
  have hf : ∀ (h : FVec Ideal S512x1024 .bf16) j, feedOf h x11 x12 (ix2 r j) = lin (square (lin (fun k => h (ix2 r k)) fun k f => x11 (ix3 0 k f))) (fun f j => x12 (ix3 0 f j)) j :=
    fun h j => feed_at r j h _ _ _ _ _ _ _ _ _ _ (fun k f => (ld_w1 x11 k f).1) (fun k f => (ld_w1 x11 k f).2.1) (fun k f => (ld_w1 x11 k f).2.2.1) (fun k f => (ld_w1 x11 k f).2.2.2)
      (fun f j => (ld_w2 x12 f j).1) (fun f j => (ld_w2 x12 f j).2.1) (fun f j => (ld_w2 x12 f j).2.2.1) (fun f j => (ld_w2 x12 f j).2.2.2)
  rw [blockOf, finish_at]
  simp only [hf, entering_at, hs]
  rfl

end Cert.Kernel2Ideal.Mlp

end
-- ==== Proof.Mlp.Array.lean ====
/-
  The input blocks of a grid step in terms of the arguments: each is a window of an argument, or of an array that the
  host made of one.
-/
module

public import proofs.«01_k».proof.Proof.Mlp.Block

@[expose] public section

set_option maxRecDepth 16384

noncomputable section

namespace Cert.Kernel2Ideal.Mlp

open Idealize.ShloMosaic Idealize.ShloMosaic.TcCoe Idealize.SL.Sem
open Idealize.ShloMosaic.Pipeline (Dat)
open Cert.Kernel2Ideal.Gen Cert.Token

variable (m : (ℓ : Loc nD τ sig) → Buf (Elt Ideal) ℓ)

/-! ## The arrays that the host makes -/

/-- The last layer's output weights. -/
def hostOut (w : FVec Ideal S2x1024x1024 .f32) : FVec Ideal S1024x1024 .bf16 :=
  truncf .bf16 (shapeCast S1024x1024 (extractStridedSlice S1x1024x1024 ![1, 0, 0] w slices_S2x1024x1024_S1x1024x1024_1_0_0) shapeCasts_S1x1024x1024_S1024x1024) bitsLt_bf16_f32
/-- The first gate, the shift, the scale and the second gate of the modulation. -/
def hostGate1 (p : FVec Ideal S4x6144 .f32) : FVec Ideal S4x1x1024 .f32 := shapeCast S4x1x1024 (extractStridedSlice S4x1024 ![0, 2048] p slices_S4x6144_S4x1024_0_2048) shapeCasts_S4x1024_S4x1x1024
def hostShift (p : FVec Ideal S4x6144 .f32) : FVec Ideal S4x1x1024 .f32 := shapeCast S4x1x1024 (extractStridedSlice S4x1024 ![0, 3072] p slices_S4x6144_S4x1024_0_3072) shapeCasts_S4x1024_S4x1x1024
def hostScale (p : FVec Ideal S4x6144 .f32) : FVec Ideal S4x1x1024 .f32 := shapeCast S4x1x1024 (extractStridedSlice S4x1024 ![0, 4096] p slices_S4x6144_S4x1024_0_4096) shapeCasts_S4x1024_S4x1x1024
def hostGate2 (p : FVec Ideal S4x6144 .f32) : FVec Ideal S4x1x1024 .f32 := shapeCast S4x1x1024 (extractStridedSlice S4x1024 ![0, 5120] p slices_S4x6144_S4x1024_0_5120) shapeCasts_S4x1024_S4x1x1024
/-- The last layer's gains. -/
def hostGains (g : FVec Ideal S2x1024 .f32) : FVec Ideal S1x1024 .f32 :=
  shapeCast S1x1024 (shapeCast S1024 (extractStridedSlice S1x1024 ![1, 0] g slices_S2x1024_S1x1024_1_0) shapeCasts_S1x1024_S1024) shapeCasts_S1024_S1x1024
/-- The final norm's gains. -/
def hostFinal (g : FVec Ideal S1024 .f32) : FVec Ideal S1x1024 .f32 := shapeCast S1x1024 g shapeCasts_S1024_S1x1024

/-- The feed-forward weights in the narrow format. -/
def hostUp (w : FVec Ideal S2x1024x4096 .f32) : FVec Ideal S2x1024x4096 .bf16 := truncf .bf16 w bitsLt_bf16_f32
def hostDown (w : FVec Ideal S2x4096x1024 .f32) : FVec Ideal S2x4096x1024 .bf16 := truncf .bf16 w bitsLt_bf16_f32

theorem hostOut_at (w : FVec Ideal S2x1024x1024 .f32) (k j : Fin 1024) : hostOut w (ix2 k j) = w (ix3 1 k j) := by pointwise [hostOut]
theorem hostGate1_at (p : FVec Ideal S4x6144 .f32) (b : Fin 4) (j : Fin 1024) : hostGate1 p (ix3 b 0 j) = p (ix2 b ⟨2048 + j.val, by omega⟩) := by pointwise [hostGate1]
theorem hostShift_at (p : FVec Ideal S4x6144 .f32) (b : Fin 4) (j : Fin 1024) : hostShift p (ix3 b 0 j) = p (ix2 b ⟨3072 + j.val, by omega⟩) := by pointwise [hostShift]
theorem hostScale_at (p : FVec Ideal S4x6144 .f32) (b : Fin 4) (j : Fin 1024) : hostScale p (ix3 b 0 j) = p (ix2 b ⟨4096 + j.val, by omega⟩) := by pointwise [hostScale]
theorem hostGate2_at (p : FVec Ideal S4x6144 .f32) (b : Fin 4) (j : Fin 1024) : hostGate2 p (ix3 b 0 j) = p (ix2 b ⟨5120 + j.val, by omega⟩) := by pointwise [hostGate2]
theorem hostGains_at (g : FVec Ideal S2x1024 .f32) (j : Fin 1024) : hostGains g (ix2 0 j) = g (ix2 1 j) := by pointwise [hostGains]
theorem hostFinal_at (g : FVec Ideal S1024 .f32) (j : Fin 1024) : hostFinal g (ix2 0 j) = g (ix1 j) := by pointwise [hostFinal]

/-! ## The arrays at the launch -/

theorem V_x (c : Dev nD) : V m c (Pipeline.arrRef spec0 0) = (m ((c.tc : Thread nD τ).loc main_arg0)) := by
  dsimp only [V]; after_results <;> rfl
theorem V_o0 (c : Dev nD) : V m c (Pipeline.arrRef spec0 1) = (m ((c.tc : Thread nD τ).loc main_arg1)) := by
  dsimp only [V]; after_results <;> rfl
theorem V_o1 (c : Dev nD) : V m c (Pipeline.arrRef spec0 2) = (m ((c.tc : Thread nD τ).loc main_arg2)) := by
  dsimp only [V]; after_results <;> rfl
theorem V_o2 (c : Dev nD) : V m c (Pipeline.arrRef spec0 3) = (m ((c.tc : Thread nD τ).loc main_arg3)) := by
  dsimp only [V]; after_results <;> rfl
theorem V_o3 (c : Dev nD) : V m c (Pipeline.arrRef spec0 4) = (m ((c.tc : Thread nD τ).loc main_arg4)) := by
  dsimp only [V]; after_results <;> rfl
theorem V_out (c : Dev nD) : V m c (Pipeline.arrRef spec0 5) = hostOut (m ((c.tc : Thread nD τ).loc main_arg6)) := by
  dsimp only [V]; after_results <;> rfl
theorem V_gate1 (c : Dev nD) : V m c (Pipeline.arrRef spec0 6) = hostGate1 (m ((c.tc : Thread nD τ).loc main_arg5)) := by
  dsimp only [V]; after_results <;> rfl
theorem V_shift (c : Dev nD) : V m c (Pipeline.arrRef spec0 7) = hostShift (m ((c.tc : Thread nD τ).loc main_arg5)) := by
  dsimp only [V]; after_results <;> rfl
theorem V_scale (c : Dev nD) : V m c (Pipeline.arrRef spec0 8) = hostScale (m ((c.tc : Thread nD τ).loc main_arg5)) := by
  dsimp only [V]; after_results <;> rfl
theorem V_gate2 (c : Dev nD) : V m c (Pipeline.arrRef spec0 9) = hostGate2 (m ((c.tc : Thread nD τ).loc main_arg5)) := by
  dsimp only [V]; after_results <;> rfl
theorem V_gains (c : Dev nD) : V m c (Pipeline.arrRef spec0 10) = hostGains (m ((c.tc : Thread nD τ).loc main_arg7)) := by
  dsimp only [V]; after_results <;> rfl
theorem V_up (c : Dev nD) : V m c (Pipeline.arrRef spec0 11) = hostUp (m ((c.tc : Thread nD τ).loc main_arg8)) := by
  dsimp only [V]; after_results <;> rfl
theorem V_down (c : Dev nD) : V m c (Pipeline.arrRef spec0 12) = hostDown (m ((c.tc : Thread nD τ).loc main_arg9)) := by
  dsimp only [V]; after_results <;> rfl
theorem V_final (c : Dev nD) : V m c (Pipeline.arrRef spec0 13) = hostFinal (m ((c.tc : Thread nD τ).loc main_arg10)) := by
  dsimp only [V]; after_results <;> rfl

/-! ## The blocks as windows of these arrays -/

theorem block_x (c : Dev nD) (t : Fin cfg0.N) (y) (X : FVec Ideal S4x8192x1024 .f32) (h : V m c (Pipeline.arrRef spec0 0) = X) :
    iblk m c 0 t y = X ((win0_0.blk t).view.emb y) := by
  unfold iblk; rw [h]; rfl
theorem block_o0 (c : Dev nD) (t : Fin cfg0.N) (y) (X : FVec Ideal S4x8192x256 .bf16) (h : V m c (Pipeline.arrRef spec0 1) = X) :
    iblk m c 1 t y = X ((win0_1.blk t).view.emb y) := by
  unfold iblk; rw [h]; rfl
theorem block_o1 (c : Dev nD) (t : Fin cfg0.N) (y) (X : FVec Ideal S4x8192x256 .bf16) (h : V m c (Pipeline.arrRef spec0 2) = X) :
    iblk m c 2 t y = X ((win0_2.blk t).view.emb y) := by
  unfold iblk; rw [h]; rfl
theorem block_o2 (c : Dev nD) (t : Fin cfg0.N) (y) (X : FVec Ideal S4x8192x256 .bf16) (h : V m c (Pipeline.arrRef spec0 3) = X) :
    iblk m c 3 t y = X ((win0_3.blk t).view.emb y) := by
  unfold iblk; rw [h]; rfl
theorem block_o3 (c : Dev nD) (t : Fin cfg0.N) (y) (X : FVec Ideal S4x8192x256 .bf16) (h : V m c (Pipeline.arrRef spec0 4) = X) :
    iblk m c 4 t y = X ((win0_4.blk t).view.emb y) := by
  unfold iblk; rw [h]; rfl
theorem block_out (c : Dev nD) (t : Fin cfg0.N) (y) (X : FVec Ideal S1024x1024 .bf16) (h : V m c (Pipeline.arrRef spec0 5) = X) :
    iblk m c 5 t y = X ((win0_5.blk t).view.emb y) := by
  unfold iblk; rw [h]; rfl
theorem block_gate1 (c : Dev nD) (t : Fin cfg0.N) (y) (X : FVec Ideal S4x1x1024 .f32) (h : V m c (Pipeline.arrRef spec0 6) = X) :
    iblk m c 6 t y = X ((win0_6.blk t).view.emb y) := by
  unfold iblk; rw [h]; rfl
theorem block_shift (c : Dev nD) (t : Fin cfg0.N) (y) (X : FVec Ideal S4x1x1024 .f32) (h : V m c (Pipeline.arrRef spec0 7) = X) :
    iblk m c 7 t y = X ((win0_7.blk t).view.emb y) := by
  unfold iblk; rw [h]; rfl
theorem block_scale (c : Dev nD) (t : Fin cfg0.N) (y) (X : FVec Ideal S4x1x1024 .f32) (h : V m c (Pipeline.arrRef spec0 8) = X) :
    iblk m c 8 t y = X ((win0_8.blk t).view.emb y) := by
  unfold iblk; rw [h]; rfl
theorem block_gate2 (c : Dev nD) (t : Fin cfg0.N) (y) (X : FVec Ideal S4x1x1024 .f32) (h : V m c (Pipeline.arrRef spec0 9) = X) :
    iblk m c 9 t y = X ((win0_9.blk t).view.emb y) := by
  unfold iblk; rw [h]; rfl
theorem block_gains (c : Dev nD) (t : Fin cfg0.N) (y) (X : FVec Ideal S1x1024 .f32) (h : V m c (Pipeline.arrRef spec0 10) = X) :
    iblk m c 10 t y = X ((win0_10.blk t).view.emb y) := by
  unfold iblk; rw [h]; rfl
theorem block_up (c : Dev nD) (t : Fin cfg0.N) (y) (X : FVec Ideal S2x1024x4096 .bf16) (h : V m c (Pipeline.arrRef spec0 11) = X) :
    iblk m c 11 t y = X ((win0_11.blk t).view.emb y) := by
  unfold iblk; rw [h]; rfl
theorem block_down (c : Dev nD) (t : Fin cfg0.N) (y) (X : FVec Ideal S2x4096x1024 .bf16) (h : V m c (Pipeline.arrRef spec0 12) = X) :
    iblk m c 12 t y = X ((win0_12.blk t).view.emb y) := by
  unfold iblk; rw [h]; rfl
theorem block_final (c : Dev nD) (t : Fin cfg0.N) (y) (X : FVec Ideal S1x1024 .f32) (h : V m c (Pipeline.arrRef spec0 13) = X) :
    iblk m c 13 t y = X ((win0_13.blk t).view.emb y) := by
  unfold iblk; rw [h]; rfl

theorem idx_x : ∀ t : Fin grid0.N, win0_0.index t = ![t.val / 16, t.val % 16, 0] := by decide +kernel
theorem idx_o0 : ∀ t : Fin grid0.N, win0_1.index t = ![t.val / 16, t.val % 16, 0] := by decide +kernel
theorem idx_o1 : ∀ t : Fin grid0.N, win0_2.index t = ![t.val / 16, t.val % 16, 0] := by decide +kernel
theorem idx_o2 : ∀ t : Fin grid0.N, win0_3.index t = ![t.val / 16, t.val % 16, 0] := by decide +kernel
theorem idx_o3 : ∀ t : Fin grid0.N, win0_4.index t = ![t.val / 16, t.val % 16, 0] := by decide +kernel
theorem idx_out : ∀ t : Fin grid0.N, win0_5.index t = ![0, 0] := by decide +kernel
theorem idx_gate1 : ∀ t : Fin grid0.N, win0_6.index t = ![t.val / 16, 0, 0] := by decide +kernel
theorem idx_shift : ∀ t : Fin grid0.N, win0_7.index t = ![t.val / 16, 0, 0] := by decide +kernel
theorem idx_scale : ∀ t : Fin grid0.N, win0_8.index t = ![t.val / 16, 0, 0] := by decide +kernel
theorem idx_gate2 : ∀ t : Fin grid0.N, win0_9.index t = ![t.val / 16, 0, 0] := by decide +kernel
theorem idx_gains : ∀ t : Fin grid0.N, win0_10.index t = ![0, 0] := by decide +kernel
theorem idx_up : ∀ t : Fin grid0.N, win0_11.index t = ![1, 0, 0] := by decide +kernel
theorem idx_down : ∀ t : Fin grid0.N, win0_12.index t = ![1, 0, 0] := by decide +kernel
theorem idx_final : ∀ t : Fin grid0.N, win0_13.index t = ![0, 0] := by decide +kernel
theorem idx_result : ∀ t : Fin grid0.N, win0_14.index t = ![t.val / 16, t.val % 16, 0] := by decide +kernel

variable (t : Fin cfg0.N) (ht : t.val < 64)

/-- The batch entry of a step. -/
abbrev batch : Fin 4 := ⟨t.val / 16, by omega⟩
/-- The token that a step's token `r` is among all. -/
abbrev tokenOf (r : Fin 512) : Fin 8192 := ⟨512 * (t.val % 16) + r.val, by omega⟩

theorem emb_x (r : Fin 512) (j : Fin 1024) : (win0_0.blk t).view.emb (ix3 0 r j) = (ix3 (batch t ht) (tokenOf t r) j : S4x8192x1024.Idx) := by
  blk_ext [idx_x t]
theorem emb_o0 (r : Fin 512) (k : Fin 256) : (win0_1.blk t).view.emb (ix3 0 r k) = (ix3 (batch t ht) (tokenOf t r) k : S4x8192x256.Idx) := by
  blk_ext [idx_o0 t]
theorem emb_o1 (r : Fin 512) (k : Fin 256) : (win0_2.blk t).view.emb (ix3 0 r k) = (ix3 (batch t ht) (tokenOf t r) k : S4x8192x256.Idx) := by
  blk_ext [idx_o1 t]
theorem emb_o2 (r : Fin 512) (k : Fin 256) : (win0_3.blk t).view.emb (ix3 0 r k) = (ix3 (batch t ht) (tokenOf t r) k : S4x8192x256.Idx) := by
  blk_ext [idx_o2 t]
theorem emb_o3 (r : Fin 512) (k : Fin 256) : (win0_4.blk t).view.emb (ix3 0 r k) = (ix3 (batch t ht) (tokenOf t r) k : S4x8192x256.Idx) := by
  blk_ext [idx_o3 t]
theorem emb_out (k j : Fin 1024) : (win0_5.blk t).view.emb (ix2 k j) = (ix2 k j : S1024x1024.Idx) := by
  blk_ext [idx_out t]
theorem emb_gate1 (j : Fin 1024) : (win0_6.blk t).view.emb (ix3 0 0 j) = (ix3 (batch t ht) 0 j : S4x1x1024.Idx) := by
  blk_ext [idx_gate1 t]
theorem emb_shift (j : Fin 1024) : (win0_7.blk t).view.emb (ix3 0 0 j) = (ix3 (batch t ht) 0 j : S4x1x1024.Idx) := by
  blk_ext [idx_shift t]
theorem emb_scale (j : Fin 1024) : (win0_8.blk t).view.emb (ix3 0 0 j) = (ix3 (batch t ht) 0 j : S4x1x1024.Idx) := by
  blk_ext [idx_scale t]
theorem emb_gate2 (j : Fin 1024) : (win0_9.blk t).view.emb (ix3 0 0 j) = (ix3 (batch t ht) 0 j : S4x1x1024.Idx) := by
  blk_ext [idx_gate2 t]
theorem emb_gains (j : Fin 1024) : (win0_10.blk t).view.emb (ix2 0 j) = (ix2 0 j : S1x1024.Idx) := by
  blk_ext [idx_gains t]
theorem emb_up (k : Fin 1024) (f : Fin 4096) : (win0_11.blk t).view.emb (ix3 0 k f) = (ix3 1 k f : S2x1024x4096.Idx) := by
  blk_ext [idx_up t]
theorem emb_down (f : Fin 4096) (j : Fin 1024) : (win0_12.blk t).view.emb (ix3 0 f j) = (ix3 1 f j : S2x4096x1024.Idx) := by
  blk_ext [idx_down t]
theorem emb_final (j : Fin 1024) : (win0_13.blk t).view.emb (ix2 0 j) = (ix2 0 j : S1x1024.Idx) := by
  blk_ext [idx_final t]
theorem emb_result (r : Fin 512) (j : Fin 1024) : (win0_14.blk t).view.emb (ix3 0 r j) = (ix3 (batch t ht) (tokenOf t r) j : S4x8192x1024.Idx) := by
  blk_ext [idx_result t]

/-! ## The blocks of a step in terms of the arguments -/

theorem read_x (c : Dev nD) (r : Fin 512) (j : Fin 1024) : iblk m c 0 t (ix3 0 r j) = m ((c.tc : Thread nD τ).loc main_arg0) (ix3 (batch t ht) (tokenOf t r) j) := by
  rw [block_x m c t _ _ (V_x m c), emb_x t ht]
theorem read_o0 (c : Dev nD) (r : Fin 512) (k : Fin 256) : iblk m c 1 t (ix3 0 r k) = m ((c.tc : Thread nD τ).loc main_arg1) (ix3 (batch t ht) (tokenOf t r) k) := by
  rw [block_o0 m c t _ _ (V_o0 m c), emb_o0 t ht]
theorem read_o1 (c : Dev nD) (r : Fin 512) (k : Fin 256) : iblk m c 2 t (ix3 0 r k) = m ((c.tc : Thread nD τ).loc main_arg2) (ix3 (batch t ht) (tokenOf t r) k) := by
  rw [block_o1 m c t _ _ (V_o1 m c), emb_o1 t ht]
theorem read_o2 (c : Dev nD) (r : Fin 512) (k : Fin 256) : iblk m c 3 t (ix3 0 r k) = m ((c.tc : Thread nD τ).loc main_arg3) (ix3 (batch t ht) (tokenOf t r) k) := by
  rw [block_o2 m c t _ _ (V_o2 m c), emb_o2 t ht]
theorem read_o3 (c : Dev nD) (r : Fin 512) (k : Fin 256) : iblk m c 4 t (ix3 0 r k) = m ((c.tc : Thread nD τ).loc main_arg4) (ix3 (batch t ht) (tokenOf t r) k) := by
  rw [block_o3 m c t _ _ (V_o3 m c), emb_o3 t ht]
theorem read_out (c : Dev nD) (k j : Fin 1024) : iblk m c 5 t (ix2 k j) = m ((c.tc : Thread nD τ).loc main_arg6) (ix3 1 k j) := by
  rw [block_out m c t _ _ (V_out m c), emb_out t, hostOut_at]
theorem read_gate1 (c : Dev nD) (j : Fin 1024) : iblk m c 6 t (ix3 0 0 j) = m ((c.tc : Thread nD τ).loc main_arg5) (ix2 (batch t ht) ⟨2048 + j.val, by omega⟩) := by
  rw [block_gate1 m c t _ _ (V_gate1 m c), emb_gate1 t ht, hostGate1_at]
theorem read_shift (c : Dev nD) (j : Fin 1024) : iblk m c 7 t (ix3 0 0 j) = m ((c.tc : Thread nD τ).loc main_arg5) (ix2 (batch t ht) ⟨3072 + j.val, by omega⟩) := by
  rw [block_shift m c t _ _ (V_shift m c), emb_shift t ht, hostShift_at]
theorem read_scale (c : Dev nD) (j : Fin 1024) : iblk m c 8 t (ix3 0 0 j) = m ((c.tc : Thread nD τ).loc main_arg5) (ix2 (batch t ht) ⟨4096 + j.val, by omega⟩) := by
  rw [block_scale m c t _ _ (V_scale m c), emb_scale t ht, hostScale_at]
theorem read_gate2 (c : Dev nD) (j : Fin 1024) : iblk m c 9 t (ix3 0 0 j) = m ((c.tc : Thread nD τ).loc main_arg5) (ix2 (batch t ht) ⟨5120 + j.val, by omega⟩) := by
  rw [block_gate2 m c t _ _ (V_gate2 m c), emb_gate2 t ht, hostGate2_at]
theorem read_gains (c : Dev nD) (j : Fin 1024) : iblk m c 10 t (ix2 0 j) = m ((c.tc : Thread nD τ).loc main_arg7) (ix2 1 j) := by
  rw [block_gains m c t _ _ (V_gains m c), emb_gains t, hostGains_at]
theorem read_up (c : Dev nD) (k : Fin 1024) (f : Fin 4096) : iblk m c 11 t (ix3 0 k f) = m ((c.tc : Thread nD τ).loc main_arg8) (ix3 1 k f) := by
  rw [block_up m c t _ _ (V_up m c), emb_up t]; rfl
theorem read_down (c : Dev nD) (f : Fin 4096) (j : Fin 1024) : iblk m c 12 t (ix3 0 f j) = m ((c.tc : Thread nD τ).loc main_arg9) (ix3 1 f j) := by
  rw [block_down m c t _ _ (V_down m c), emb_down t]; rfl
theorem read_final (c : Dev nD) (j : Fin 1024) : iblk m c 13 t (ix2 0 j) = m ((c.tc : Thread nD τ).loc main_arg10) (ix1 j) := by
  rw [block_final m c t _ _ (V_final m c), emb_final t, hostFinal_at]

end Cert.Kernel2Ideal.Mlp

end
-- ==== Proof.Mlp.Reference.lean ====
/-
  The second reference, element by element.
-/
module

public import proofs.«01_k».proof.Proof.Gen.Reference2Ideal
public import proofs.«01_k».proof.Proof.Mlp.Row

@[expose] public section

set_option maxRecDepth 16384

noncomputable section

namespace Cert.Reference2Ideal.Mlp

open Idealize.ShloMosaic Idealize.ShloMosaic.TcCoe
open Cert.Reference2Ideal.Gen Cert.Token

/-- The mixers' outputs, concatenated. -/
def heads (o0 o1 o2 o3 : FVec Ideal S4x8192x256 .bf16) : FVec Ideal S4x8192x1024 .f32 :=
  concatenate S4x8192x1024 2 [⟨S4x8192x256, ((extf .f32 o0 bitsLt_bf16_f32) : FVec Ideal S4x8192x256 .f32)⟩, ⟨S4x8192x256, ((extf .f32 o1 bitsLt_bf16_f32) : FVec Ideal S4x8192x256 .f32)⟩,
    ⟨S4x8192x256, ((extf .f32 o2 bitsLt_bf16_f32) : FVec Ideal S4x8192x256 .f32)⟩, ⟨S4x8192x256, ((extf .f32 o3 bitsLt_bf16_f32) : FVec Ideal S4x8192x256 .f32)⟩]
    concatenates_S4x8192x256_S4x8192x256_S4x8192x256_S4x8192x256_S4x8192x1024_d2

/-- The output projection's weights, those of the last layer. -/
def outW (w : FVec Ideal S2x1024x1024 .f32) : FVec Ideal S1024x1024 .f32 :=
  shapeCast _ (extractStridedSlice S1x1024x1024 ![1, 0, 0] w slices_S2x1024x1024_S1x1024x1024_1_0_0) shapeCasts_S1x1024x1024_S1024x1024
/-- The first feed-forward weights of the last layer. -/
def upW (w : FVec Ideal S2x1024x4096 .f32) : FVec Ideal S1024x4096 .f32 :=
  shapeCast _ (extractStridedSlice S1x1024x4096 ![1, 0, 0] w slices_S2x1024x4096_S1x1024x4096_1_0_0) shapeCasts_S1x1024x4096_S1024x4096
/-- The second feed-forward weights of the last layer. -/
def downW (w : FVec Ideal S2x4096x1024 .f32) : FVec Ideal S4096x1024 .f32 :=
  shapeCast _ (extractStridedSlice S1x4096x1024 ![1, 0, 0] w slices_S2x4096x1024_S1x4096x1024_1_0_0) shapeCasts_S1x4096x1024_S4096x1024
/-- The gains of the last layer's second norm. -/
def gains (g : FVec Ideal S2x1024 .f32) : FVec Ideal S1024 .f32 :=
  shapeCast _ (extractStridedSlice S1x1024 ![1, 0] g slices_S2x1024_S1x1024_1_0) shapeCasts_S1x1024_S1024

/-- The four pieces of the modulation that are used: the first gate, the shift, the scale and the second gate. -/
def gate1 (p : FVec Ideal S4x6144 .f32) : FVec Ideal S4x1024 .f32 := extractStridedSlice S4x1024 ![0, 2048] p slices_S4x6144_S4x1024_0_2048
def shiftOf (p : FVec Ideal S4x6144 .f32) : FVec Ideal S4x1024 .f32 := extractStridedSlice S4x1024 ![0, 3072] p slices_S4x6144_S4x1024_0_3072
def scaleOf (p : FVec Ideal S4x6144 .f32) : FVec Ideal S4x1024 .f32 := extractStridedSlice S4x1024 ![0, 4096] p slices_S4x6144_S4x1024_0_4096
def gate2 (p : FVec Ideal S4x6144 .f32) : FVec Ideal S4x1024 .f32 := extractStridedSlice S4x1024 ![0, 5120] p slices_S4x6144_S4x1024_0_5120

/-- A row of the modulation, repeated along the tokens. -/
def along (p : FVec Ideal S4x1024 .f32) : FVec Ideal S4x8192x1024 .f32 :=
  broadcastInDim S4x8192x1024 ![0, 1, 2] bcast_S4x1x1024_S4x8192x1024_0_1_2 (broadcastInDim S4x1x1024 ![0, 2] bcast_S4x1024_S4x1x1024_0_2 p)
/-- One more than the scale, repeated along the tokens. -/
def alongOne (p : FVec Ideal S4x1024 .f32) : FVec Ideal S4x8192x1024 .f32 :=
  broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 p))

/-- A gated residual. -/
def gated (x : FVec Ideal S4x8192x1024 .f32) (p : FVec Ideal S4x1024 .f32) (y : FVec Ideal S4x8192x1024 .f32) : FVec Ideal S4x8192x1024 .f32 :=
  addf x (mulf (along p) y)

/-- The output projection. -/
def project (o : FVec Ideal S4x8192x1024 .f32) (w : FVec Ideal S1024x1024 .f32) : FVec Ideal S4x8192x1024 .f32 :=
  Host.dotGeneral dot_S4x8192x1024_S1024x1024_S4x8192x1024_2_0_01_1_n_n none o w

/-- The mean squares. -/
def meanSq (v : FVec Ideal S4x8192x1024 .f32) : FVec Ideal S4x8192x1 .f32 :=
  addf (Host.divf (broadcastInDim S4x8192x1 ![0, 1] bcast_S4x8192_S4x8192x1_0_1 (Host.reduceAdd (mulf v v) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32))
/-- The norm. -/
def normed (v : FVec Ideal S4x8192x1024 .f32) (g : FVec Ideal S1024 .f32) : FVec Ideal S4x8192x1024 .f32 :=
  mulf (mulf v (broadcastInDim S4x8192x1024 ![0, 1, 2] bcast_S4x8192x1_S4x8192x1024_0_1_2 (Host.rsqrt (meanSq v))))
    (broadcastInDim S4x8192x1024 ![0, 1, 2] bcast_S1x1x1024_S4x8192x1024_0_1_2 (broadcastInDim S1x1x1024 ![2] bcast_S1024_S1x1x1024_2 g))

/-- The hidden channels: a product, and its positive part squared. -/
def up (h : FVec Ideal S4x8192x1024 .f32) (w : FVec Ideal S1024x4096 .f32) : FVec Ideal S4x8192x4096 .f32 :=
  maximumf (Host.dotGeneral dot_S4x8192x1024_S1024x4096_S4x8192x4096_2_0_01_1_n_n none h w) (broadcastInDim S4x8192x4096 ![] bcast_S_S4x8192x4096 (constant S_ .f32 0x00000000#32))
/-- The product that closes the feed-forward part. -/
def down (u : FVec Ideal S4x8192x4096 .f32) (w : FVec Ideal S4096x1024 .f32) : FVec Ideal S4x8192x1024 .f32 :=
  Host.dotGeneral dot_S4x8192x4096_S4096x1024_S4x8192x1024_2_0_01_1_n_n none (mulf u u) w

/-- The stream after the output projection. -/
def stream (x : FVec Ideal S4x8192x1024 .f32) (o0 o1 o2 o3 : FVec Ideal S4x8192x256 .bf16) (p : FVec Ideal S4x6144 .f32) (wo : FVec Ideal S2x1024x1024 .f32) :
    FVec Ideal S4x8192x1024 .f32 :=
  gated x (gate1 p) (project (heads o0 o1 o2 o3) (outW wo))

/-- The feed-forward part's input. -/
def entering (s : FVec Ideal S4x8192x1024 .f32) (g : FVec Ideal S1024 .f32) (p : FVec Ideal S4x6144 .f32) : FVec Ideal S4x8192x1024 .f32 :=
  addf (mulf (normed s g) (alongOne (scaleOf p))) (along (shiftOf p))

/-- The reference's result, as a function of the stream after the output projection. -/
def finish (s : FVec Ideal S4x8192x1024 .f32) (p : FVec Ideal S4x6144 .f32) (g : FVec Ideal S2x1024 .f32) (w1 : FVec Ideal S2x1024x4096 .f32) (w2 : FVec Ideal S2x4096x1024 .f32)
    (fg : FVec Ideal S1024 .f32) : FVec Ideal S4x8192x1024 .f32 :=
  normed (gated s (gate2 p) (down (up (entering s (gains g) p) (upW w1)) (downW w2))) fg

variable (b : Fin 4) (r : Fin 8192) (j : Fin 1024)

theorem heads_at (o0 o1 o2 o3 : FVec Ideal S4x8192x256 .bf16) :
    heads o0 o1 o2 o3 (ix3 b r j) = side (fun k => o0 (ix3 b r k)) (fun k => o1 (ix3 b r k)) (fun k => o2 (ix3 b r k)) (fun k => o3 (ix3 b r k)) j := by
  unfold side
  pointwise [heads]

theorem outW_at (w : FVec Ideal S2x1024x1024 .f32) (k : Fin 1024) : outW w (ix2 k j) = w (ix3 1 k j) := by pointwise [outW]
theorem upW_at (w : FVec Ideal S2x1024x4096 .f32) (k : Fin 1024) (f : Fin 4096) : upW w (ix2 k f) = w (ix3 1 k f) := by pointwise [upW]
theorem downW_at (w : FVec Ideal S2x4096x1024 .f32) (f : Fin 4096) : downW w (ix2 f j) = w (ix3 1 f j) := by pointwise [downW]
theorem gains_at (g : FVec Ideal S2x1024 .f32) : gains g (ix1 j) = g (ix2 1 j) := by pointwise [gains]
theorem gate1_at (p : FVec Ideal S4x6144 .f32) : gate1 p (ix2 b j) = p (ix2 b ⟨2048 + j.val, by omega⟩) := by pointwise [gate1]
theorem shift_at (p : FVec Ideal S4x6144 .f32) : shiftOf p (ix2 b j) = p (ix2 b ⟨3072 + j.val, by omega⟩) := by pointwise [shiftOf]
theorem scale_at (p : FVec Ideal S4x6144 .f32) : scaleOf p (ix2 b j) = p (ix2 b ⟨4096 + j.val, by omega⟩) := by pointwise [scaleOf]
theorem gate2_at (p : FVec Ideal S4x6144 .f32) : gate2 p (ix2 b j) = p (ix2 b ⟨5120 + j.val, by omega⟩) := by pointwise [gate2]
theorem along_at (p : FVec Ideal S4x1024 .f32) : along p (ix3 b r j) = p (ix2 b j) := by pointwise [along]
theorem alongOne_at (p : FVec Ideal S4x1024 .f32) : alongOne p (ix3 b r j) = Ideal.ofBits .f32 0x3F800000#32 + p (ix2 b j) := by pointwise [alongOne]

theorem gated_at (x : FVec Ideal S4x8192x1024 .f32) (p : FVec Ideal S4x1024 .f32) (y : FVec Ideal S4x8192x1024 .f32) :
    gated x p y (ix3 b r j) = addGated (fun j => x (ix3 b r j)) (fun j => p (ix2 b j)) (fun j => y (ix3 b r j)) j := by
  rw [addGated, ← along_at b r j p]; rfl

theorem project_at (o : FVec Ideal S4x8192x1024 .f32) (w : FVec Ideal S1024x1024 .f32) :
    project o w (ix3 b r j) = lin (fun k => o (ix3 b r k)) (fun k j => w (ix2 k j)) j := by
  unfold lin
  pointwise [project]

theorem meanSq_at (v : FVec Ideal S4x8192x1024 .f32) : meanSq v (ix3 b r 0) = spreadOf fun j => v (ix3 b r j) := by
  unfold spreadOf
  pointwise [meanSq]

theorem scaled_at (v : FVec Ideal S4x8192x1024 .f32) (s : FVec Ideal S4x8192x1 .f32) (g : FVec Ideal S1024 .f32) :
    mulf (mulf v (broadcastInDim S4x8192x1024 ![0, 1, 2] bcast_S4x8192x1_S4x8192x1024_0_1_2 (Host.rsqrt s)))
      (broadcastInDim S4x8192x1024 ![0, 1, 2] bcast_S1x1x1024_S4x8192x1024_0_1_2 (broadcastInDim S1x1x1024 ![2] bcast_S1024_S1x1x1024_2 g)) (ix3 b r j)
      = v (ix3 b r j) * Ideal.rsqrt (s (ix3 b r 0)) * g (ix1 j) := by
  pointwise

theorem normed_at (v : FVec Ideal S4x8192x1024 .f32) (g : FVec Ideal S1024 .f32) :
    normed v g (ix3 b r j) = norm (fun j => v (ix3 b r j)) (fun j => g (ix1 j)) j := by
  rw [normed, scaled_at, meanSq_at]; rfl

theorem up_at (h : FVec Ideal S4x8192x1024 .f32) (w : FVec Ideal S1024x4096 .f32) (f : Fin 4096) :
    up h w (ix3 b r f) = max (lin (fun k => h (ix3 b r k)) (fun k f => w (ix2 k f)) f) 0 := by
  unfold lin
  pointwise [up]

theorem down_at (u : FVec Ideal S4x8192x4096 .f32) (w : FVec Ideal S4096x1024 .f32) :
    down u w (ix3 b r j) = lin (fun f => u (ix3 b r f) * u (ix3 b r f)) (fun f j => w (ix2 f j)) j := by
  unfold lin
  pointwise [down]

/-- The stream after the output projection, token by token. -/
theorem stream_at (x : FVec Ideal S4x8192x1024 .f32) (o0 o1 o2 o3 : FVec Ideal S4x8192x256 .bf16) (p : FVec Ideal S4x6144 .f32) (wo : FVec Ideal S2x1024x1024 .f32) :
    stream x o0 o1 o2 o3 p wo (ix3 b r j)
      = middle (fun j => x (ix3 b r j)) (fun j => p (ix2 b ⟨2048 + j.val, by omega⟩)) (fun k => o0 (ix3 b r k)) (fun k => o1 (ix3 b r k)) (fun k => o2 (ix3 b r k)) (fun k => o3 (ix3 b r k))
          (fun k j => wo (ix3 1 k j)) j := by
  rw [stream, gated_at]
  simp only [project_at, heads_at, outW_at, gate1_at]
  rfl

/-- The feed-forward part's input, token by token. -/
theorem entering_at (s : FVec Ideal S4x8192x1024 .f32) (g : FVec Ideal S1024 .f32) (p : FVec Ideal S4x6144 .f32) :
    entering s g p (ix3 b r j) = modulated (fun j => s (ix3 b r j)) (fun j => g (ix1 j)) (fun j => p (ix2 b ⟨4096 + j.val, by omega⟩)) (fun j => p (ix2 b ⟨3072 + j.val, by omega⟩)) j := by
  rw [modulated, ← normed_at b r j s g, ← scale_at b j p, ← shift_at b j p, ← alongOne_at b r j (scaleOf p), ← along_at b r j (shiftOf p)]; rfl

/-- The result, token by token. -/
theorem finish_at (s : FVec Ideal S4x8192x1024 .f32) (p : FVec Ideal S4x6144 .f32) (g : FVec Ideal S2x1024 .f32) (w1 : FVec Ideal S2x1024x4096 .f32) (w2 : FVec Ideal S2x4096x1024 .f32)
    (fg : FVec Ideal S1024 .f32) :
    finish s p g w1 w2 fg (ix3 b r j)
      = norm (final (fun j => s (ix3 b r j)) (fun j => g (ix2 1 j)) (fun j => p (ix2 b ⟨4096 + j.val, by omega⟩)) (fun j => p (ix2 b ⟨3072 + j.val, by omega⟩))
          (fun j => p (ix2 b ⟨5120 + j.val, by omega⟩)) (fun k f => w1 (ix3 1 k f)) (fun f j => w2 (ix3 1 f j))) (fun j => fg (ix1 j)) j := by
  rw [finish, normed_at]
  simp only [gated_at, down_at, up_at, entering_at, gains_at, upW_at, downW_at, gate2_at]
  rfl

end Cert.Reference2Ideal.Mlp

end
-- ==== Proof.Mlp.Value.lean ====
/-
  The claim on the output projection and the feed-forward part: the kernel leaves the reference's result in its output
  array, every block of which is written once, and the reference leaves it too.
-/
module

public import proofs.«01_k».proof.Defs
public import proofs.«01_k».proof.Proof.Mlp.Array
public import proofs.«01_k».proof.Proof.Mlp.Reference
public import proofs.«01_k».proof.Proof.Gen.Kernel2Ideal.Value
public import proofs.«01_k».proof.Proof.Gen.Reference2Ideal.Run

@[expose] public section

set_option maxRecDepth 16384

noncomputable section

namespace Cert.Kernel2Ideal.Mlp

open Idealize.ShloMosaic Idealize.ShloMosaic.TcCoe Idealize.SL.Sem
open Idealize.ShloMosaic.Pipeline (Dat)
open Cert.Kernel2Ideal.Gen Cert.Token

variable (m : (ℓ : Loc nD τ sig) → Buf (Elt Ideal) ℓ) (ρ : Dev nD → PrngReg) (c : Dev nD)

/-- The reference's result, of the kernel's arguments. -/
def result : FVec Ideal S4x8192x1024 .f32 :=
  Cert.Reference2Ideal.Mlp.finish (Cert.Reference2Ideal.Mlp.stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10))

/-- What a step writes is the reference's result at the block's place. -/
theorem block_eq (t : Fin cfg0.N) (y : S1x512x1024.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) (iblk m c 13 t) y = result m c ((win0_14.blk t).view.emb y) := by
  have ht : t.val < 64 := t.isLt
  obtain ⟨z, r, j, rfl⟩ : ∃ (z : Fin 1) (r : Fin 512) (j : Fin 1024), y = ix3 z r j := ⟨y 0, y 1, y 2, by ext i; fin_cases i <;> rfl⟩
  obtain rfl : z = 0 := Subsingleton.elim _ _
  rw [out_eq, block_at, emb_result t ht, result, Cert.Reference2Ideal.Mlp.finish_at]
  simp only [Cert.Reference2Ideal.Mlp.stream_at, read_x m t ht, read_o0 m t ht, read_o1 m t ht, read_o2 m t ht, read_o3 m t ht, read_out, read_gate1 m t ht, read_shift m t ht, read_scale m t ht,
    read_gate2 m t ht, read_gains, read_up, read_down, read_final]

/-- The output array at the end is the reference's result. -/
theorem array_eq : (dats m 0 c).arrAt 14 cfg0.N = result m c := by
  refine (dats m 0 c).arrAt_eq_of_covers 14 (result m c) (by decide +kernel) fun t _ y => ?_
  blk_simp
  rw [after0_14]
  exact block_eq m c t y

/-- The claim. -/
theorem claim : Cert.algebraic_Kernel2Ideal_Reference2Ideal := by
  intro m g m' g' _ hagree
  refine ⟨fun c => result m c, ?_, ?_⟩
  · exact (θ_run defs _ _).mono (fun r h c => ⟨(h c).1.trans (array_eq m c), (h c).2⟩) (Value.run_blocks m g)
  · refine (θ_run Cert.Reference2Ideal.defs _ _).mono (fun r h c => ?_) (Cert.Reference2Ideal.Value.run (F := Ideal) m' g')
    obtain ⟨h0, h1, h2, h3, h4, h5, h6, h7, h8, h9, h10⟩ := hagree c
    refine ⟨(h c).1.trans ?_, (h c).2⟩
    unfold Cert.Reference2Ideal.Value.res_main_v65
    rw [h0, h1, h2, h3, h4, h5, h6, h7, h8, h9, h10]
    rfl

end Cert.Kernel2Ideal.Mlp

end
-- ==== Proof.Inproj.Row.lean ====
/-
  The input projections of one token, as functions of its numbers over the extended reals: what the call and the
  reference are both compared with.
-/
module

public import Idealize.ShloMosaic.PureOps.Ideal
public import Idealize.ShloMosaic.Lib.IdealHost
public import Idealize.ShloMosaic.Lib.Pointwise
public import proofs.«01_k».proof.Proof.Mlp.Row

@[expose] public section

noncomputable section

namespace Cert.Token

open Idealize.ShloMosaic

/-- The whole number zero, made a float. -/
theorem int_zero : (FloatOps.sitofp .f32 (0#32) : Ideal .f32) = (0 : EReal) := by
  show (((0#32).toInt : ℝ) : EReal) = 0
  simp

/-- The mean square of some channels, `c` many, and the small number added to it. -/
def spreadIn {n : ℕ} (c : EReal) (v : Fin n → EReal) : EReal := Ideal.div (∑ k, v k * v k) c + Ideal.ofBits .f32 0x358637BD#32

/-- The channels over the root of their mean square, times the gains. -/
def normIn {n : ℕ} (c : EReal) (v g : Fin n → EReal) (j : Fin n) : EReal := v j * Ideal.rsqrt (spreadIn c v) * g j

/-- The channels of the first half turned against those of the second. -/
def rotated (u : Fin 32 → EReal) (c s : Fin 16 → EReal) (i : Fin 32) : EReal :=
  if h : i.val < 16 then u i * c ⟨i.val, h⟩ - u ⟨i.val + 16, by omega⟩ * s ⟨i.val, h⟩
  else u ⟨i.val - 16, by omega⟩ * s ⟨i.val - 16, by omega⟩ + u i * c ⟨i.val - 16, by omega⟩

/-- A head's channels, the last 32 of them turned. -/
def turned (q : Fin 96 → EReal) (c s : Fin 16 → EReal) (e : Fin 96) : EReal :=
  if e.val < 64 then q e else rotated (fun i => q ⟨64 + i.val, by omega⟩) c s ⟨e.val - 64, by omega⟩

/-- A head's 96 channels, and zeros up to 128. -/
def apart (q : Fin 96 → EReal) (d : Fin 128) : EReal := if h : d.val < 96 then q ⟨d.val, h⟩ else 0

/-- Its last 32 channels with their halves exchanged, and zeros elsewhere. -/
def swapped (q : Fin 96 → EReal) (d : Fin 128) : EReal :=
  if h : 64 ≤ d.val ∧ d.val < 80 then q ⟨d.val + 16, by omega⟩ else if h : 80 ≤ d.val ∧ d.val < 96 then q ⟨d.val - 16, by omega⟩ else 0

/-- What a channel is multiplied with, and what its exchanged partner is. -/
def slotCos (c : Fin 16 → EReal) (d : Fin 128) : EReal :=
  if d.val < 64 then 1 else if h : d.val < 80 then c ⟨d.val - 64, by omega⟩ else if h : d.val < 96 then c ⟨d.val - 80, by omega⟩ else 0
def slotSin (s : Fin 16 → EReal) (d : Fin 128) : EReal :=
  if d.val < 64 then 0 else if h : d.val < 80 then -s ⟨d.val - 64, by omega⟩ else if h : d.val < 96 then s ⟨d.val - 80, by omega⟩ else 0

/-- Multiplying with the tables is turning. -/
theorem turned_slots (q : Fin 96 → EReal) (c s : Fin 16 → EReal) (d : Fin 128) :
    apart q d * slotCos c d + swapped q d * slotSin s d = apart (turned q c s) d := by
  have hd := d.isLt
  unfold apart swapped slotCos slotSin turned rotated
  by_cases h1 : d.val < 64
  · rw [dif_pos (by omega), if_pos h1, dif_neg (by omega), dif_neg (by omega), if_pos h1, dif_pos (by omega), if_pos h1, mul_one, mul_zero, add_zero]
  by_cases h2 : d.val < 80
  · rw [dif_pos (by omega), if_neg h1, dif_pos h2, dif_pos ⟨by omega, h2⟩, if_neg h1, dif_pos h2, dif_pos (by omega), if_neg h1, dif_pos (by dsimp only; omega), sub_eq_add_neg, mul_neg]
    have e1 : (⟨64 + (d.val - 64), by omega⟩ : Fin 96) = ⟨d.val, by omega⟩ := Fin.ext (by dsimp only; omega)
    have e2 : (⟨64 + (d.val - 64 + 16), by omega⟩ : Fin 96) = ⟨d.val + 16, by omega⟩ := Fin.ext (by dsimp only; omega)
    dsimp only
    rw [e1, e2]
  by_cases h3 : d.val < 96
  · rw [dif_pos h3, if_neg h1, dif_neg h2, dif_pos h3, dif_neg (by omega), dif_pos ⟨by omega, h3⟩, if_neg h1, dif_neg h2, dif_pos h3, dif_pos h3, if_neg h1, dif_neg (by dsimp only; omega), add_comm]
    have e1 : (⟨64 + (d.val - 64), by omega⟩ : Fin 96) = ⟨d.val, by omega⟩ := Fin.ext (by dsimp only; omega)
    have e2 : (⟨64 + (d.val - 64 - 16), by omega⟩ : Fin 96) = ⟨d.val - 16, by omega⟩ := Fin.ext (by dsimp only; omega)
    have e3 : (⟨d.val - 64 - 16, by omega⟩ : Fin 16) = ⟨d.val - 80, by omega⟩ := Fin.ext (by dsimp only; omega)
    dsimp only
    rw [e1, e2, e3]
  · rw [dif_neg h3, dif_neg (show ¬ (64 ≤ d.val ∧ d.val < 80) by omega), dif_neg (show ¬ (80 ≤ d.val ∧ d.val < 96) by omega), zero_mul, zero_mul, add_zero]
    rw [dif_neg (by omega)]

/-- A product with weights that are set apart. -/
theorem sum_apart {n : ℕ} (v : Fin n → EReal) (w : Fin n → Fin 96 → EReal) (d : Fin 128) :
    ∑ k, apart (w k) d * v k = apart (fun e => ∑ k, v k * w k e) d := by
  unfold apart
  by_cases h : d.val < 96
  · simp only [dif_pos h]; exact Finset.sum_congr rfl fun k _ => mul_comm _ _
  · simp only [dif_neg h, zero_mul, Finset.sum_const_zero]

theorem sum_swapped {n : ℕ} (v : Fin n → EReal) (w : Fin n → Fin 96 → EReal) (d : Fin 128) :
    ∑ k, swapped (w k) d * v k = swapped (fun e => ∑ k, v k * w k e) d := by
  unfold swapped
  by_cases h : 64 ≤ d.val ∧ d.val < 80
  · simp only [dif_pos h]; exact Finset.sum_congr rfl fun k _ => mul_comm _ _
  by_cases h' : 80 ≤ d.val ∧ d.val < 96
  · simp only [dif_neg h, dif_pos h']; exact Finset.sum_congr rfl fun k _ => mul_comm _ _
  · simp only [dif_neg h, dif_neg h', zero_mul, Finset.sum_const_zero]

/-- A factor moves into the channels. -/
theorem apart_mul (q : Fin 96 → EReal) (a : EReal) (d : Fin 128) : apart q d * a = apart (fun e => q e * a) d := by
  unfold apart
  by_cases h : d.val < 96
  · simp only [dif_pos h]
  · simp only [dif_neg h, zero_mul]

/-- The keys' weights: the compressed channels make the first 64 channels of a head, and the next 32 pass through. -/
def keyW (u : Fin 128 → Fin 64 → EReal) (k : Fin 256) (d : Fin 128) : EReal :=
  if hk : k.val < 128 then (if hd : d.val < 64 then u ⟨k.val, hk⟩ ⟨d.val, hd⟩ else 0) else if d.val < 96 ∧ k.val = d.val + 64 then 1 else 0
/-- Their exchanged partners' weights. -/
def keySwapW (k : Fin 256) (d : Fin 128) : EReal :=
  if k.val < 128 then 0 else if (64 ≤ d.val ∧ d.val < 80 ∧ k.val = d.val + 80) ∨ (80 ≤ d.val ∧ d.val < 96 ∧ k.val = d.val + 48) then 1 else 0

/-- A head's key before it is turned. -/
def keyOf (v : Fin 128 → EReal) (t : Fin 32 → EReal) (u : Fin 128 → Fin 64 → EReal) (e : Fin 96) : EReal :=
  if h : e.val < 64 then ∑ k, v k * u k ⟨e.val, h⟩ else t ⟨e.val - 64, by omega⟩

theorem sum_halves (f : Fin 256 → EReal) : ∑ k, f k = (∑ k : Fin 128, f ⟨k.val, by omega⟩) + ∑ k : Fin 128, f ⟨128 + k.val, by omega⟩ := by
  rw [Fin.sum_univ_tiles 2 128 rfl, Fin.sum_univ_two]
  simp

/-- One term of a sum. -/
theorem sum_pick (x : Fin 128 → EReal) (p : Fin 128 → Prop) [DecidablePred p] (i : Fin 128) (hp : ∀ k, p k ↔ k = i) :
    ∑ k, x k * (if p k then 1 else 0) = x i := by
  rw [Finset.sum_eq_single i]
  · rw [if_pos ((hp i).2 rfl), mul_one]
  · intro k _ hk; rw [if_neg fun h => hk ((hp k).1 h), mul_zero]
  · intro h; exact absurd (Finset.mem_univ i) h

theorem sum_none (x : Fin 128 → EReal) (p : Fin 128 → Prop) [DecidablePred p] (hp : ∀ k, ¬ p k) :
    ∑ k, x k * (if p k then 1 else 0) = 0 :=
  Finset.sum_eq_zero fun k _ => by rw [if_neg (hp k), mul_zero]

theorem key_plain (v : Fin 128 → EReal) (x : Fin 128 → EReal) (u : Fin 128 → Fin 64 → EReal) (y : Fin 256 → EReal)
    (h0 : ∀ k : Fin 128, y ⟨k.val, by omega⟩ = v k) (h1 : ∀ k : Fin 128, y ⟨128 + k.val, by omega⟩ = x k) (d : Fin 128) :
    ∑ k, y k * keyW u k d = apart (keyOf v (fun i => x ⟨i.val, by omega⟩) u) d := by
  have hd := d.isLt
  rw [sum_halves]
  simp only [h0, h1]
  have e1 : ∀ k : Fin 128, keyW u ⟨k.val, by omega⟩ d = if hd : d.val < 64 then u k ⟨d.val, hd⟩ else 0 := fun k => by rw [keyW, dif_pos k.isLt]
  have e2 : ∀ k : Fin 128, keyW u ⟨128 + k.val, by omega⟩ d = if d.val < 96 ∧ 64 + k.val = d.val then 1 else 0 := fun k => by
    rw [keyW, dif_neg (by dsimp only; omega)]
    exact if_congr (by dsimp only; omega) rfl rfl
  simp only [e1, e2]
  unfold apart keyOf
  by_cases hc : d.val < 64
  · rw [sum_none x _ (fun k => by omega), add_zero, dif_pos (by omega), dif_pos hc]
    simp only [dif_pos hc]
  have z : ∑ k : Fin 128, v k * (if hd : d.val < 64 then u k ⟨d.val, hd⟩ else 0) = 0 := Finset.sum_eq_zero fun k _ => by rw [dif_neg hc, mul_zero]
  rw [z, zero_add]
  by_cases h3 : d.val < 96
  · rw [dif_pos h3, dif_neg hc, sum_pick x _ ⟨d.val - 64, by omega⟩ (fun k => by rw [Fin.ext_iff]; dsimp only; omega)]
  · rw [dif_neg h3, sum_none x _ (fun k => by omega)]

theorem key_swap (v : Fin 128 → EReal) (x : Fin 128 → EReal) (u : Fin 128 → Fin 64 → EReal) (y : Fin 256 → EReal)
    (h0 : ∀ k : Fin 128, y ⟨k.val, by omega⟩ = v k) (h1 : ∀ k : Fin 128, y ⟨128 + k.val, by omega⟩ = x k) (d : Fin 128) :
    ∑ k, y k * keySwapW k d = swapped (keyOf v (fun i => x ⟨i.val, by omega⟩) u) d := by
  have hd := d.isLt
  rw [sum_halves]
  simp only [h0, h1]
  have e1 : ∀ k : Fin 128, keySwapW ⟨k.val, by omega⟩ d = 0 := fun k => by rw [keySwapW, if_pos k.isLt]
  have e2 : ∀ k : Fin 128, keySwapW ⟨128 + k.val, by omega⟩ d = if (64 ≤ d.val ∧ d.val < 80 ∧ 48 + k.val = d.val) ∨ (80 ≤ d.val ∧ d.val < 96 ∧ 80 + k.val = d.val) then 1 else 0 := fun k => by
    rw [keySwapW, if_neg (by dsimp only; omega)]
    exact if_congr (by dsimp only; omega) rfl rfl
  simp only [e1, e2, mul_zero, Finset.sum_const_zero, zero_add]
  unfold swapped keyOf
  by_cases h1 : 64 ≤ d.val ∧ d.val < 80
  · rw [dif_pos h1, dif_neg (by dsimp only; omega), sum_pick x _ ⟨d.val - 48, by omega⟩ (fun k => by rw [Fin.ext_iff]; dsimp only; omega)]
    exact congrArg x (Fin.ext (by dsimp only; omega))
  by_cases h2 : 80 ≤ d.val ∧ d.val < 96
  · rw [dif_neg h1, dif_pos h2, dif_neg (by dsimp only; omega), sum_pick x _ ⟨d.val - 80, by omega⟩ (fun k => by rw [Fin.ext_iff]; dsimp only; omega)]
    exact congrArg x (Fin.ext (by dsimp only; omega))
  · rw [dif_neg h1, dif_neg h2, sum_none x _ (fun k => by omega)]

/-- The values' weights: the compressed channels', and zeros below them. -/
def valueW (u : Fin 128 → EReal) (k : Fin 256) : EReal := if hk : k.val < 128 then u ⟨k.val, hk⟩ else 0

theorem value_sum (v : Fin 128 → EReal) (u : Fin 128 → EReal) (y : Fin 256 → EReal) (h0 : ∀ k : Fin 128, y ⟨k.val, by omega⟩ = v k) :
    ∑ k, valueW u k * y k = ∑ k, v k * u k := by
  rw [sum_halves]
  have e1 : ∀ k : Fin 128, valueW u ⟨k.val, by omega⟩ = u k := fun k => by rw [valueW, dif_pos k.isLt]
  have e2 : ∀ k : Fin 128, valueW u ⟨128 + k.val, by omega⟩ = 0 := fun k => by rw [valueW, dif_neg (by dsimp only; omega)]
  simp only [e1, e2, h0, zero_mul, Finset.sum_const_zero, add_zero]
  exact Finset.sum_congr rfl fun k _ => mul_comm _ _

/-- The gated half of the convolution's input. -/
def gatedHalf (a b : EReal) : EReal := a * Ideal.div (Ideal.ofBits .f32 0x3F800000#32) (Ideal.ofBits .f32 0x3F800000#32 + Ideal.exp (-b))

end Cert.Token

end
-- ==== Proof.Inproj.Host.lean ====
/-
  The arrays that the host makes of the arguments before the call, element by element.
-/
module

public import proofs.«01_k».proof.Proof.Gen.Kernel3Ideal.Frame
public import proofs.«01_k».proof.Proof.Inproj.Row
public import Idealize.ShloMosaic.Lib.Pipeline.ValueKit

@[expose] public section

set_option maxRecDepth 16384

noncomputable section

namespace Cert.Kernel3Ideal.Inproj

open Idealize.ShloMosaic Idealize.ShloMosaic.TcCoe Idealize.SL.Sem
open Cert.Kernel3Ideal.Gen Cert.Token

/-! ## The weights of the first product, and the small arrays -/

/-- The input weights, a group of zero columns put in after column 416. -/
def hostIn (w : FVec Ideal S2x1024x1952 .f32) : FVec Ideal S2x1024x2048 .bf16 :=
  truncf .bf16 (concatenate S2x1024x2048 2 [⟨S2x1024x416, (extractStridedSlice S2x1024x416 ![0, 0, 0] w slices_S2x1024x1952_S2x1024x416_0_0_0 : FVec Ideal S2x1024x416 .f32)⟩,
    ⟨S2x1024x96, (broadcastInDim S2x1024x96 ![] bcast_S_S2x1024x96 (constant S_ .f32 0x00000000#32 : FVec Ideal S_ .f32) : FVec Ideal S2x1024x96 .f32)⟩,
    ⟨S2x1024x1536, (extractStridedSlice S2x1024x1536 ![0, 0, 416] w slices_S2x1024x1952_S2x1024x1536_0_0_416 : FVec Ideal S2x1024x1536 .f32)⟩]
    concatenates_S2x1024x416_S2x1024x96_S2x1024x1536_S2x1024x2048_d2) bitsLt_bf16_f32
/-- The shift and the scale of the modulation. -/
def hostShift (p : FVec Ideal S4x6144 .f32) : FVec Ideal S4x1x1024 .f32 := shapeCast S4x1x1024 (extractStridedSlice S4x1024 ![0, 0] p slices_S4x6144_S4x1024_0_0) shapeCasts_S4x1024_S4x1x1024
def hostScale (p : FVec Ideal S4x6144 .f32) : FVec Ideal S4x1x1024 .f32 := shapeCast S4x1x1024 (extractStridedSlice S4x1024 ![0, 1024] p slices_S4x6144_S4x1024_0_1024) shapeCasts_S4x1024_S4x1x1024
/-- The last layer's gains of the three norms. -/
def hostGains (g : FVec Ideal S2x1024 .f32) : FVec Ideal S1x1024 .f32 :=
  shapeCast S1x1024 (shapeCast S1024 (extractStridedSlice S1x1024 ![1, 0] g slices_S2x1024_S1x1024_1_0) shapeCasts_S1x1024_S1024) shapeCasts_S1024_S1x1024
def hostQGains (g : FVec Ideal S2x256 .f32) : FVec Ideal S1x256 .f32 :=
  shapeCast S1x256 (shapeCast S256 (extractStridedSlice S1x256 ![1, 0] g slices_S2x256_S1x256_1_0) shapeCasts_S1x256_S256) shapeCasts_S256_S1x256
def hostKGains (g : FVec Ideal S2x128 .f32) : FVec Ideal S1x128 .f32 :=
  shapeCast S1x128 (shapeCast S128 (extractStridedSlice S1x128 ![1, 0] g slices_S2x128_S1x128_1_0) shapeCasts_S1x128_S128) shapeCasts_S128_S1x128
/-- The channel transform. -/
def hostDft (w : FVec Ideal S256x512 .f32) : FVec Ideal S256x512 .bf16 := truncf .bf16 w bitsLt_bf16_f32

theorem hostIn_at (w : FVec Ideal S2x1024x1952 .f32) (k : Fin 1024) (j : Fin 2048) :
    hostIn w (ix3 1 k j) = if h : j.val < 416 then w (ix3 1 k ⟨j.val, by omega⟩) else if h : j.val - 416 < 96 then 0 else w (ix3 1 k ⟨416 + (j.val - 416 - 96), by omega⟩) := by
  pointwise [hostIn]
theorem hostIn_low (w : FVec Ideal S2x1024x1952 .f32) (k : Fin 1024) (j : Fin 416) : hostIn w (ix3 1 k ⟨j.val, by omega⟩) = w (ix3 1 k ⟨j.val, by omega⟩) := by
  rw [hostIn_at, dif_pos j.isLt]
theorem hostIn_high (w : FVec Ideal S2x1024x1952 .f32) (k : Fin 1024) (j : Fin 1536) : hostIn w (ix3 1 k ⟨512 + j.val, by omega⟩) = w (ix3 1 k ⟨416 + j.val, by omega⟩) := by
  rw [hostIn_at, dif_neg (by dsimp only; omega), dif_neg (by dsimp only; omega)]
  exact congrArg (fun i => w (ix3 1 k i)) (Fin.ext (by dsimp only; omega))
theorem hostShift_at (p : FVec Ideal S4x6144 .f32) (b : Fin 4) (j : Fin 1024) : hostShift p (ix3 b 0 j) = p (ix2 b ⟨j.val, by omega⟩) := by pointwise [hostShift]
theorem hostScale_at (p : FVec Ideal S4x6144 .f32) (b : Fin 4) (j : Fin 1024) : hostScale p (ix3 b 0 j) = p (ix2 b ⟨1024 + j.val, by omega⟩) := by pointwise [hostScale]
theorem hostGains_at (g : FVec Ideal S2x1024 .f32) (j : Fin 1024) : hostGains g (ix2 0 j) = g (ix2 1 j) := by pointwise [hostGains]
theorem hostQGains_at (g : FVec Ideal S2x256 .f32) (j : Fin 256) : hostQGains g (ix2 0 j) = g (ix2 1 j) := by pointwise [hostQGains]
theorem hostKGains_at (g : FVec Ideal S2x128 .f32) (j : Fin 128) : hostKGains g (ix2 0 j) = g (ix2 1 j) := by pointwise [hostKGains]

/-! ## The queries' weights -/

/-- The weights head by head. -/
def heads (w : FVec Ideal S2x256x384 .f32) : FVec Ideal S256x4x96 .f32 :=
  shapeCast S256x4x96 (shapeCast S256x384 (extractStridedSlice S1x256x384 ![1, 0, 0] w slices_S2x256x384_S1x256x384_1_0_0) shapeCasts_S1x256x384_S256x384) shapeCasts_S256x384_S256x4x96
/-- The zeros after a head. -/
def qZeros : FVec Ideal S256x4x32 .f32 := broadcastInDim S256x4x32 ![] bcast_S_S256x4x32 (constant S_ .f32 0x00000000#32)
/-- The heads apart. -/
def qPlain (w : FVec Ideal S256x4x96 .f32) : FVec Ideal S256x4x128 .f32 :=
  concatenate S256x4x128 2 [⟨S256x4x96, w⟩, ⟨S256x4x32, qZeros⟩] concatenates_S256x4x96_S256x4x32_S256x4x128_d2
/-- The turning channels, their halves exchanged. -/
def qSwapped (w : FVec Ideal S256x4x96 .f32) : FVec Ideal S256x4x32 .f32 :=
  concatenate S256x4x32 2 [⟨S256x4x16, (extractStridedSlice S256x4x16 ![0, 0, 16] (extractStridedSlice S256x4x32 ![0, 0, 64] w slices_S256x4x96_S256x4x32_0_0_64) slices_S256x4x32_S256x4x16_0_0_16 : FVec Ideal S256x4x16 .f32)⟩,
    ⟨S256x4x16, (extractStridedSlice S256x4x16 ![0, 0, 0] (extractStridedSlice S256x4x32 ![0, 0, 64] w slices_S256x4x96_S256x4x32_0_0_64) slices_S256x4x32_S256x4x16_0_0_0 : FVec Ideal S256x4x16 .f32)⟩] concatenates_S256x4x16_S256x4x16_S256x4x32_d2
def qSwap (w : FVec Ideal S256x4x96 .f32) : FVec Ideal S256x4x128 .f32 :=
  concatenate S256x4x128 2 [⟨S256x4x64, (broadcastInDim S256x4x64 ![] bcast_S_S256x4x64 (constant S_ .f32 0x00000000#32 : FVec Ideal S_ .f32) : FVec Ideal S256x4x64 .f32)⟩,
    ⟨S256x4x32, qSwapped w⟩, ⟨S256x4x32, qZeros⟩] concatenates_S256x4x64_S256x4x32_S256x4x32_S256x4x128_d2
/-- The two side by side. -/
def qBoth (a b : FVec Ideal S256x4x128 .f32) : FVec Ideal S1024x256 .bf16 :=
  truncf .bf16 (transpose S1024x256 [1, 0] (concatenate S256x1024 1 [⟨S256x512, (shapeCast S256x512 a shapeCasts_S256x4x128_S256x512 : FVec Ideal S256x512 .f32)⟩,
    ⟨S256x512, (shapeCast S256x512 b shapeCasts_S256x4x128_S256x512 : FVec Ideal S256x512 .f32)⟩] concatenates_S256x512_S256x512_S256x1024_d1) transposes_S256x1024_S1024x256_1_0) bitsLt_bf16_f32
def hostQ (w : FVec Ideal S2x256x384 .f32) : FVec Ideal S1024x256 .bf16 := qBoth (qPlain (heads w)) (qSwap (heads w))

variable (k : Fin 256) (h : Fin 4) (d : Fin 128)

theorem heads_at (w : FVec Ideal S2x256x384 .f32) (e : Fin 96) : heads w (ix3 k h e) = w (ix3 1 k ⟨h.val * 96 + e.val, by omega⟩) := by pointwise [heads]
theorem qPlain_at (w : FVec Ideal S256x4x96 .f32) : qPlain w (ix3 k h d) = apart (fun e => w (ix3 k h e)) d := by
  unfold apart; pointwise [qPlain, qZeros]
theorem qSwapped_at (w : FVec Ideal S256x4x96 .f32) (i : Fin 32) :
    qSwapped w (ix3 k h i) = if g : i.val < 16 then w (ix3 k h ⟨64 + (16 + i.val), by omega⟩) else w (ix3 k h ⟨64 + (i.val - 16), by omega⟩) := by
  pointwise [qSwapped]
theorem qSwap_cases (w : FVec Ideal S256x4x96 .f32) :
    qSwap w (ix3 k h d) = if g : d.val < 64 then 0 else if g : d.val - 64 < 32 then qSwapped w (ix3 k h ⟨d.val - 64, by omega⟩) else 0 := by
  pointwise [qSwap, qZeros]
theorem qSwap_at (w : FVec Ideal S256x4x96 .f32) : qSwap w (ix3 k h d) = swapped (fun e => w (ix3 k h e)) d := by
  have hd := d.isLt
  rw [qSwap_cases]
  unfold swapped
  by_cases h1 : d.val < 64
  · rw [dif_pos h1, dif_neg (show ¬ (64 ≤ d.val ∧ d.val < 80) by omega), dif_neg (show ¬ (80 ≤ d.val ∧ d.val < 96) by omega)]
  by_cases h2 : d.val < 80
  · rw [dif_neg h1, dif_pos (by omega), dif_pos ⟨by omega, h2⟩, qSwapped_at, dif_pos (by dsimp only; omega)]
    exact congrArg (fun e => w (ix3 k h e)) (Fin.ext (by dsimp only; omega))
  by_cases h3 : d.val < 96
  · rw [dif_neg h1, dif_pos (by omega), dif_neg (show ¬ (64 ≤ d.val ∧ d.val < 80) by omega), dif_pos ⟨by omega, h3⟩, qSwapped_at, dif_neg (by dsimp only; omega)]
    exact congrArg (fun e => w (ix3 k h e)) (Fin.ext (by dsimp only; omega))
  · rw [dif_neg h1, dif_neg (by omega), dif_neg (show ¬ (64 ≤ d.val ∧ d.val < 80) by omega), dif_neg (show ¬ (80 ≤ d.val ∧ d.val < 96) by omega)]
theorem qBoth_low (a b : FVec Ideal S256x4x128 .f32) : qBoth a b (ix2 ⟨h.val * 128 + d.val, by omega⟩ k) = a (ix3 k h d) := by
  pointwise [qBoth]
  rw [dif_pos (by omega)]
theorem qBoth_cases (a b : FVec Ideal S256x4x128 .f32) (m : Fin 512) :
    qBoth a b (ix2 ⟨512 + m.val, by omega⟩ k) = b (ix3 k ⟨m.val / 128, by omega⟩ ⟨m.val % 128, by omega⟩) := by
  pointwise [qBoth]
theorem qBoth_high (a b : FVec Ideal S256x4x128 .f32) : qBoth a b (ix2 ⟨512 + (h.val * 128 + d.val), by omega⟩ k) = b (ix3 k h d) := by
  rw [qBoth_cases k a b ⟨h.val * 128 + d.val, by omega⟩]
  exact congrArg₂ (fun i j => b (ix3 k i j)) (Fin.ext (by dsimp only; omega)) (Fin.ext (by dsimp only; omega))
theorem hostQ_low (w : FVec Ideal S2x256x384 .f32) :
    hostQ w (ix2 ⟨h.val * 128 + d.val, by omega⟩ k) = apart (fun e => w (ix3 1 k ⟨h.val * 96 + e.val, by omega⟩)) d := by
  rw [hostQ, qBoth_low, qPlain_at]; simp only [heads_at]
theorem hostQ_high (w : FVec Ideal S2x256x384 .f32) :
    hostQ w (ix2 ⟨512 + (h.val * 128 + d.val), by omega⟩ k) = swapped (fun e => w (ix3 1 k ⟨h.val * 96 + e.val, by omega⟩)) d := by
  rw [hostQ, qBoth_high, qSwap_at]; simp only [heads_at]

/-! ## The keys' and the values' weights -/

/-- The weights head by head. -/
def kvHeads (w : FVec Ideal S2x128x512 .f32) : FVec Ideal S128x4x128 .f32 :=
  shapeCast S128x4x128 (shapeCast S128x512 (extractStridedSlice S1x128x512 ![1, 0, 0] w slices_S2x128x512_S1x128x512_1_0_0) shapeCasts_S1x128x512_S128x512) shapeCasts_S128x512_S128x4x128
/-- The identity matrix. -/
def ident : FVec Ideal S32x32 .f32 :=
  uitofp .f32 (cmpi .eq (addi (iotaInDim S32x32 32 0) (broadcastInDim S32x32 ![] bcast_S_S32x32 (constantI S_ 32 0#32))) (iotaInDim S32x32 32 1))
/-- The identity matrix with the halves of its rows exchanged. -/
def identSwap (e : FVec Ideal S32x32 .f32) : FVec Ideal S32x32 .f32 :=
  concatenate S32x32 1 [⟨S32x16, (extractStridedSlice S32x16 ![0, 16] e slices_S32x32_S32x16_0_16 : FVec Ideal S32x16 .f32)⟩,
    ⟨S32x16, (extractStridedSlice S32x16 ![0, 0] e slices_S32x32_S32x16_0_0 : FVec Ideal S32x16 .f32)⟩] concatenates_S32x16_S32x16_S32x32_d1
/-- 64 columns and 64 zeros. -/
def kTop (a : FVec Ideal S128x4x64 .f32) : FVec Ideal S128x4x128 .f32 :=
  concatenate S128x4x128 2 [⟨S128x4x64, a⟩, ⟨S128x4x64, (broadcastInDim S128x4x64 ![] bcast_S_S128x4x64 (constant S_ .f32 0x00000000#32 : FVec Ideal S_ .f32) : FVec Ideal S128x4x64 .f32)⟩] concatenates_S128x4x64_S128x4x64_S128x4x128_d2
/-- A square matrix in columns 64 … 95 of every head. -/
def kMid (e : FVec Ideal S32x32 .f32) : FVec Ideal S32x4x128 .f32 :=
  concatenate S32x4x128 2 [⟨S32x4x64, (broadcastInDim S32x4x64 ![] bcast_S_S32x4x64 (constant S_ .f32 0x00000000#32 : FVec Ideal S_ .f32) : FVec Ideal S32x4x64 .f32)⟩,
    ⟨S32x4x32, (broadcastInDim S32x4x32 ![0, 1, 2] bcast_S32x1x32_S32x4x32_0_1_2 (broadcastInDim S32x1x32 ![0, 2] bcast_S32x32_S32x1x32_0_2 e) : FVec Ideal S32x4x32 .f32)⟩,
    ⟨S32x4x32, (broadcastInDim S32x4x32 ![] bcast_S_S32x4x32 (constant S_ .f32 0x00000000#32 : FVec Ideal S_ .f32) : FVec Ideal S32x4x32 .f32)⟩] concatenates_S32x4x64_S32x4x32_S32x4x32_S32x4x128_d2
/-- The two below one another, and zeros below them. -/
def kStack (a : FVec Ideal S128x4x128 .f32) (b : FVec Ideal S32x4x128 .f32) : FVec Ideal S256x4x128 .f32 :=
  concatenate S256x4x128 0 [⟨S128x4x128, a⟩, ⟨S32x4x128, b⟩, ⟨S96x4x128, (broadcastInDim S96x4x128 ![] bcast_S_S96x4x128 (constant S_ .f32 0x00000000#32 : FVec Ideal S_ .f32) : FVec Ideal S96x4x128 .f32)⟩]
    concatenates_S128x4x128_S32x4x128_S96x4x128_S256x4x128_d0
/-- Two such arrays side by side. -/
def kBoth (a b : FVec Ideal S256x4x128 .f32) : FVec Ideal S256x1024 .bf16 :=
  truncf .bf16 (concatenate S256x1024 1 [⟨S256x512, (shapeCast S256x512 a shapeCasts_S256x4x128_S256x512 : FVec Ideal S256x512 .f32)⟩,
    ⟨S256x512, (shapeCast S256x512 b shapeCasts_S256x4x128_S256x512 : FVec Ideal S256x512 .f32)⟩] concatenates_S256x512_S256x512_S256x1024_d1) bitsLt_bf16_f32
def kFirst (w : FVec Ideal S128x4x128 .f32) : FVec Ideal S128x4x64 .f32 := extractStridedSlice S128x4x64 ![0, 0, 0] w slices_S128x4x128_S128x4x64_0_0_0
def kZeros : FVec Ideal S128x4x64 .f32 := broadcastInDim S128x4x64 ![] bcast_S_S128x4x64 (constant S_ .f32 0x00000000#32 : FVec Ideal S_ .f32)
def hostK (w : FVec Ideal S2x128x512 .f32) : FVec Ideal S256x1024 .bf16 :=
  kBoth (kStack (kTop (kFirst (kvHeads w))) (kMid ident)) (kStack (kTop kZeros) (kMid (identSwap ident)))

theorem kvHeads_at (w : FVec Ideal S2x128x512 .f32) (l : Fin 128) : kvHeads w (ix3 l h d) = w (ix3 1 l ⟨h.val * 128 + d.val, by omega⟩) := by pointwise [kvHeads]
theorem word_eq (i j : Fin 32) : (FloatOps.uitofp .f32 (IntOp.cmpi .eq (IntOp.addi (BitVec.ofNat 32 i.val) 0#32) (BitVec.ofNat 32 j.val)) : Ideal .f32) = (if i = j then 1 else 0 : EReal) := by
  have key : IntOp.cmpi .eq (IntOp.addi (BitVec.ofNat 32 i.val) 0#32) (BitVec.ofNat 32 j.val) = if i = j then 1#1 else 0#1 := by
    revert i j; decide +kernel
  rw [key]
  by_cases g : i = j
  · rw [if_pos g, if_pos g]; show (((1#1).toNat : ℝ) : EReal) = 1; simp
  · rw [if_neg g, if_neg g]; show (((0#1).toNat : ℝ) : EReal) = 0; simp
theorem ident_word (i j : Fin 32) : ident (ix2 i j) = if i = j then 1 else 0 := by
  pointwise [ident]
  exact word_eq i j
theorem identSwap_at (e : FVec Ideal S32x32 .f32) (i j : Fin 32) :
    identSwap e (ix2 i j) = if g : j.val < 16 then e (ix2 i ⟨16 + j.val, by omega⟩) else e (ix2 i ⟨j.val - 16, by omega⟩) := by pointwise [identSwap]
theorem kTop_at (a : FVec Ideal S128x4x64 .f32) (l : Fin 128) : kTop a (ix3 l h d) = if g : d.val < 64 then a (ix3 l h ⟨d.val, g⟩) else 0 := by pointwise [kTop]
theorem kMid_at (e : FVec Ideal S32x32 .f32) (i : Fin 32) :
    kMid e (ix3 i h d) = if g : d.val < 64 then 0 else if g : d.val - 64 < 32 then e (ix2 i ⟨d.val - 64, g⟩) else 0 := by pointwise [kMid]
theorem kStack_at (a : FVec Ideal S128x4x128 .f32) (b : FVec Ideal S32x4x128 .f32) :
    kStack a b (ix3 k h d) = if g : k.val < 128 then a (ix3 ⟨k.val, g⟩ h d) else if g : k.val - 128 < 32 then b (ix3 ⟨k.val - 128, g⟩ h d) else 0 := by pointwise [kStack]
theorem kFirst_at (w : FVec Ideal S128x4x128 .f32) (l : Fin 128) (e : Fin 64) : kFirst w (ix3 l h e) = w (ix3 l h ⟨e.val, by omega⟩) := by pointwise [kFirst]
theorem kZeros_at (l : Fin 128) (e : Fin 64) : kZeros (ix3 l h e) = 0 := by pointwise [kZeros]
theorem kBoth_low (a b : FVec Ideal S256x4x128 .f32) : kBoth a b (ix2 k ⟨h.val * 128 + d.val, by omega⟩) = a (ix3 k h d) := by
  pointwise [kBoth]
  rw [dif_pos (by omega)]
theorem kBoth_cases (a b : FVec Ideal S256x4x128 .f32) (m : Fin 512) :
    kBoth a b (ix2 k ⟨512 + m.val, by omega⟩) = b (ix3 k ⟨m.val / 128, by omega⟩ ⟨m.val % 128, by omega⟩) := by
  pointwise [kBoth]
theorem kBoth_high (a b : FVec Ideal S256x4x128 .f32) : kBoth a b (ix2 k ⟨512 + (h.val * 128 + d.val), by omega⟩) = b (ix3 k h d) := by
  rw [kBoth_cases k a b ⟨h.val * 128 + d.val, by omega⟩]
  exact congrArg₂ (fun i j => b (ix3 k i j)) (Fin.ext (by dsimp only; omega)) (Fin.ext (by dsimp only; omega))

theorem hostK_low (w : FVec Ideal S2x128x512 .f32) :
    hostK w (ix2 k ⟨h.val * 128 + d.val, by omega⟩) = keyW (fun l e => w (ix3 1 l ⟨h.val * 128 + e.val, by omega⟩)) k d := by
  have hk := k.isLt
  have hd := d.isLt
  rw [hostK, kBoth_low, kStack_at]
  unfold keyW
  by_cases h1 : k.val < 128
  · rw [dif_pos h1, dif_pos h1, kTop_at]
    simp only [kFirst_at, kvHeads_at]
  rw [dif_neg h1, dif_neg h1]
  by_cases h2 : k.val - 128 < 32
  · rw [dif_pos h2, kMid_at]
    by_cases h3 : d.val < 64
    · rw [dif_pos h3, if_neg (by omega)]
    rw [dif_neg h3]
    by_cases h4 : d.val - 64 < 32
    · rw [dif_pos h4, ident_word]; exact if_congr (by rw [Fin.ext_iff]; dsimp only; omega) rfl rfl
    · rw [dif_neg h4, if_neg (by omega)]
  · rw [dif_neg h2, if_neg (by omega)]

theorem hostK_high (w : FVec Ideal S2x128x512 .f32) : hostK w (ix2 k ⟨512 + (h.val * 128 + d.val), by omega⟩) = keySwapW k d := by
  have hk := k.isLt
  have hd := d.isLt
  rw [hostK, kBoth_high, kStack_at]
  unfold keySwapW
  by_cases h1 : k.val < 128
  · rw [dif_pos h1, if_pos h1, kTop_at]
    simp only [kZeros_at, dite_eq_ite, ite_self]
  rw [dif_neg h1, if_neg h1]
  by_cases h2 : k.val - 128 < 32
  · rw [dif_pos h2, kMid_at]
    by_cases h3 : d.val < 64
    · rw [dif_pos h3, if_neg (by omega)]
    rw [dif_neg h3]
    by_cases h4 : d.val - 64 < 32
    · rw [dif_pos h4, identSwap_at]
      by_cases h5 : d.val - 64 < 16
      · rw [dif_pos h5, ident_word]; exact if_congr (by rw [Fin.ext_iff]; dsimp only; omega) rfl rfl
      · rw [dif_neg h5, ident_word]; exact if_congr (by rw [Fin.ext_iff]; dsimp only; omega) rfl rfl
    · rw [dif_neg h4, if_neg (by omega)]
  · rw [dif_neg h2, if_neg (by omega)]

/-- The values' weights, transposed, with zeros after the compressed channels. -/
def vFill (a : FVec Ideal S4x64x128 .f32) : FVec Ideal S4x64x256 .f32 :=
  pad S4x64x256 ![0, 0, 0] ![0, 0, 128] ![0, 0, 0] a (sitofp .f32 (constantI S_ 32 0#32)) pads_S4x64x128_S4x64x256_000_000_01280 h_S_
def vTurn (w : FVec Ideal S128x4x128 .f32) : FVec Ideal S4x64x128 .f32 :=
  transpose S4x64x128 [1, 2, 0] (extractStridedSlice S128x4x64 ![0, 0, 64] w slices_S128x4x128_S128x4x64_0_0_64) transposes_S128x4x64_S4x64x128_1_2_0
def hostV (w : FVec Ideal S2x128x512 .f32) : FVec Ideal S256x256 .bf16 :=
  truncf .bf16 (shapeCast S256x256 (vFill (vTurn (kvHeads w))) shapeCasts_S4x64x256_S256x256) bitsLt_bf16_f32

theorem vTurn_at (w : FVec Ideal S128x4x128 .f32) (e : Fin 64) (l : Fin 128) : vTurn w (ix3 h e l) = w (ix3 l h ⟨64 + e.val, by omega⟩) := by pointwise [vTurn]
theorem vFill_at (a : FVec Ideal S4x64x128 .f32) (e : Fin 64) : vFill a (ix3 h e k) = if g : k.val < 128 then a (ix3 h e ⟨k.val, g⟩) else 0 := by
  pointwise [vFill]
  rw [int_zero]
theorem hostV_at (w : FVec Ideal S2x128x512 .f32) (e : Fin 64) :
    hostV w (ix2 ⟨h.val * 64 + e.val, by omega⟩ k) = valueW (fun l => w (ix3 1 l ⟨h.val * 128 + (64 + e.val), by omega⟩)) k := by
  have step : hostV w (ix2 ⟨h.val * 64 + e.val, by omega⟩ k) = vFill (vTurn (kvHeads w)) (ix3 h e k) := by pointwise [hostV]
  rw [step, vFill_at]
  simp only [vTurn_at, kvHeads_at]
  rfl

end Cert.Kernel3Ideal.Inproj

end
-- ==== Proof.Inproj.Table.lean ====
/-
  The table of the turning angles that the host makes, element by element.
-/
module

public import proofs.«01_k».proof.Proof.Gen.Kernel3Ideal.Frame
public import proofs.«01_k».proof.Proof.Inproj.Row
public import Idealize.ShloMosaic.Lib.Pipeline.ValueKit

@[expose] public section

set_option maxRecDepth 16384

noncomputable section

namespace Cert.Kernel3Ideal.Inproj

open Idealize.ShloMosaic Idealize.ShloMosaic.TcCoe Idealize.SL.Sem
open Cert.Kernel3Ideal.Gen Cert.Token

/-- The frequencies. -/
def freqs : FVec Ideal S8 .f32 :=
  Host.powf (broadcastInDim S8 ![] bcast_S_S8 (constant S_ .f32 0x461C4000#32)) (Host.divf (Host.negf (addf (broadcastInDim S8 ![] bcast_S_S8 (constant S_ .f32 0x00000000#32))
    (mulf (broadcastInDim S8 ![] bcast_S_S8 (constant S_ .f32 0x40000000#32)) (sitofp .f32 (iotaInDim S8 32 0))))) (broadcastInDim S8 ![] bcast_S_S8 (constant S_ .f32 0x41800000#32)))
/-- The angles of the rows and of the columns. -/
def rowAngles : FVec Ideal S128x8 .f32 :=
  mulf (broadcastInDim S128x8 ![0, 1] bcast_S128x1_S128x8_0_1 (broadcastInDim S128x1 ![0] bcast_S128_S128x1_0 (sitofp .f32 (iotaInDim S128 32 0))))
    (broadcastInDim S128x8 ![0, 1] bcast_S1x8_S128x8_0_1 (broadcastInDim S1x8 ![1] bcast_S8_S1x8_1 freqs))
def colAngles : FVec Ideal S64x8 .f32 :=
  mulf (broadcastInDim S64x8 ![0, 1] bcast_S64x1_S64x8_0_1 (broadcastInDim S64x1 ![0] bcast_S64_S64x1_0 (sitofp .f32 (iotaInDim S64 32 0))))
    (broadcastInDim S64x8 ![0, 1] bcast_S1x8_S64x8_0_1 (broadcastInDim S1x8 ![1] bcast_S8_S1x8_1 freqs))

def rowZeros : FVec Ideal S128x8 .f32 := broadcastInDim S128x8 ![] bcast_S_S128x8 (constant S_ .f32 0x00000000#32)
def colZeros : FVec Ideal S64x8 .f32 := broadcastInDim S64x8 ![] bcast_S_S64x8 (constant S_ .f32 0x00000000#32)
/-- A constant times an array. -/
def rowTimes (w : BitVec 32) (x : FVec Ideal S128x8 .f32) : FVec Ideal S128x8 .f32 := mulf (broadcastInDim S128x8 ![] bcast_S_S128x8 (constant S_ .f32 w)) x
def colTimes (w : BitVec 32) (x : FVec Ideal S64x8 .f32) : FVec Ideal S64x8 .f32 := mulf (broadcastInDim S64x8 ![] bcast_S_S64x8 (constant S_ .f32 w)) x

/-- The rows' part of a head's table: a constant 64 times, the angles' values twice, zeros. -/
def rowSlot (x w : FVec Ideal S128x8 .f32) (y z : FVec Ideal S128x8 .f32) : FVec Ideal S128x128 .f32 :=
  concatenate S128x128 1 [⟨S128x64, (broadcastInDim S128x64 ![] bcast_S_S128x64 (constant S_ .f32 0x00000000#32 : FVec Ideal S_ .f32) : FVec Ideal S128x64 .f32)⟩, ⟨S128x8, x⟩, ⟨S128x8, w⟩, ⟨S128x8, y⟩, ⟨S128x8, z⟩,
    ⟨S128x32, (broadcastInDim S128x32 ![] bcast_S_S128x32 (constant S_ .f32 0x00000000#32 : FVec Ideal S_ .f32) : FVec Ideal S128x32 .f32)⟩] concatenates_S128x64_S128x8_S128x8_S128x8_S128x8_S128x32_S128x128_d1
/-- The columns' part. -/
def colSlot (a : BitVec 32) (x w : FVec Ideal S64x8 .f32) (y z : FVec Ideal S64x8 .f32) : FVec Ideal S64x128 .f32 :=
  concatenate S64x128 1 [⟨S64x64, (broadcastInDim S64x64 ![] bcast_S_S64x64 (constant S_ .f32 a : FVec Ideal S_ .f32) : FVec Ideal S64x64 .f32)⟩, ⟨S64x8, x⟩, ⟨S64x8, w⟩, ⟨S64x8, y⟩, ⟨S64x8, z⟩,
    ⟨S64x32, (broadcastInDim S64x32 ![] bcast_S_S64x32 (constant S_ .f32 0x00000000#32 : FVec Ideal S_ .f32) : FVec Ideal S64x32 .f32)⟩] concatenates_S64x64_S64x8_S64x8_S64x8_S64x8_S64x32_S64x128_d1

def rowTable (a b : FVec Ideal S128x128 .f32) : FVec Ideal S128x256 .f32 := concatenate S128x256 1 [⟨S128x128, a⟩, ⟨S128x128, b⟩] concatenates_S128x128_S128x128_S128x256_d1
def colTable (a b : FVec Ideal S64x128 .f32) : FVec Ideal S64x256 .f32 := concatenate S64x256 1 [⟨S64x128, a⟩, ⟨S64x128, b⟩] concatenates_S64x128_S64x128_S64x256_d1
/-- A token's line: its row's and its column's added up. -/
def tableSum (a : FVec Ideal S128x256 .f32) (b : FVec Ideal S64x256 .f32) : FVec Ideal S8192x256 .f32 :=
  shapeCast S8192x256 (addf (broadcastInDim S128x64x256 ![0, 1, 2] bcast_S128x1x256_S128x64x256_0_1_2 (broadcastInDim S128x1x256 ![0, 2] bcast_S128x256_S128x1x256_0_2 a))
    (broadcastInDim S128x64x256 ![0, 1, 2] bcast_S1x64x256_S128x64x256_0_1_2 (broadcastInDim S1x64x256 ![1, 2] bcast_S64x256_S1x64x256_1_2 b))) shapeCasts_S128x64x256_S8192x256
def hostTable : FVec Ideal S8192x256 .f32 :=
  tableSum (rowTable (rowSlot (rowTimes 0x3F800000#32 (Host.cos rowAngles)) (rowTimes 0x3F800000#32 rowZeros) (Host.cos rowAngles) rowZeros)
      (rowSlot (rowTimes 0xBF800000#32 (Host.sin rowAngles)) (rowTimes 0xBF800000#32 rowZeros) (Host.sin rowAngles) rowZeros))
    (colTable (colSlot 0x3F800000#32 (colTimes 0x3F800000#32 colZeros) (colTimes 0x3F800000#32 (Host.cos colAngles)) colZeros (Host.cos colAngles))
      (colSlot 0x00000000#32 (colTimes 0xBF800000#32 colZeros) (colTimes 0xBF800000#32 (Host.sin colAngles)) colZeros (Host.sin colAngles)))
def hostTableT : FVec Ideal S256x8192 .f32 := transpose S256x8192 [1, 0] hostTable transposes_S8192x256_S256x8192_1_0

/-- The cosines and the sines of a token. -/
def cosOf (n : Fin 8192) (i : Fin 16) : EReal :=
  if h : i.val < 8 then (Host.cos rowAngles : FVec Ideal S128x8 .f32) (ix2 ⟨n.val / 64, by omega⟩ ⟨i.val, h⟩) else (Host.cos colAngles : FVec Ideal S64x8 .f32) (ix2 ⟨n.val % 64, by omega⟩ ⟨i.val - 8, by omega⟩)
def sinOf (n : Fin 8192) (i : Fin 16) : EReal :=
  if h : i.val < 8 then (Host.sin rowAngles : FVec Ideal S128x8 .f32) (ix2 ⟨n.val / 64, by omega⟩ ⟨i.val, h⟩) else (Host.sin colAngles : FVec Ideal S64x8 .f32) (ix2 ⟨n.val % 64, by omega⟩ ⟨i.val - 8, by omega⟩)

theorem rowSlot_at (x w y z : FVec Ideal S128x8 .f32) (a : Fin 128) (d : Fin 128) :
    rowSlot x w y z (ix2 a d) = if h : d.val < 64 then 0 else if h : d.val - 64 < 8 then x (ix2 a ⟨d.val - 64, h⟩) else if h : d.val - 64 - 8 < 8 then w (ix2 a ⟨d.val - 64 - 8, h⟩)
      else if h : d.val - 64 - 8 - 8 < 8 then y (ix2 a ⟨d.val - 64 - 8 - 8, h⟩) else if h : d.val - 64 - 8 - 8 - 8 < 8 then z (ix2 a ⟨d.val - 64 - 8 - 8 - 8, h⟩) else 0 := by
  pointwise [rowSlot]
theorem colSlot_at (v : BitVec 32) (x w y z : FVec Ideal S64x8 .f32) (a : Fin 64) (d : Fin 128) :
    colSlot v x w y z (ix2 a d) = if h : d.val < 64 then Ideal.ofBits .f32 v else if h : d.val - 64 < 8 then x (ix2 a ⟨d.val - 64, h⟩) else if h : d.val - 64 - 8 < 8 then w (ix2 a ⟨d.val - 64 - 8, h⟩)
      else if h : d.val - 64 - 8 - 8 < 8 then y (ix2 a ⟨d.val - 64 - 8 - 8, h⟩) else if h : d.val - 64 - 8 - 8 - 8 < 8 then z (ix2 a ⟨d.val - 64 - 8 - 8 - 8, h⟩) else 0 := by
  pointwise [colSlot]
theorem rowTimes_at (v : BitVec 32) (x : FVec Ideal S128x8 .f32) (i : S128x8.Idx) : rowTimes v x i = Ideal.ofBits .f32 v * x i := rfl
theorem colTimes_at (v : BitVec 32) (x : FVec Ideal S64x8 .f32) (i : S64x8.Idx) : colTimes v x i = Ideal.ofBits .f32 v * x i := rfl
theorem rowZeros_at (a : Fin 128) (f : Fin 8) : rowZeros (ix2 a f) = 0 := by pointwise [rowZeros]
theorem colZeros_at (a : Fin 64) (f : Fin 8) : colZeros (ix2 a f) = 0 := by pointwise [colZeros]
theorem rowTable_low (a b : FVec Ideal S128x128 .f32) (i d : Fin 128) : rowTable a b (ix2 i ⟨d.val, by omega⟩) = a (ix2 i d) := by pointwise [rowTable]
theorem rowTable_high (a b : FVec Ideal S128x128 .f32) (i d : Fin 128) : rowTable a b (ix2 i ⟨128 + d.val, by omega⟩) = b (ix2 i d) := by pointwise [rowTable]
theorem colTable_low (a b : FVec Ideal S64x128 .f32) (i : Fin 64) (d : Fin 128) : colTable a b (ix2 i ⟨d.val, by omega⟩) = a (ix2 i d) := by pointwise [colTable]
theorem colTable_high (a b : FVec Ideal S64x128 .f32) (i : Fin 64) (d : Fin 128) : colTable a b (ix2 i ⟨128 + d.val, by omega⟩) = b (ix2 i d) := by pointwise [colTable]
theorem tableSum_at (a : FVec Ideal S128x256 .f32) (b : FVec Ideal S64x256 .f32) (n : Fin 8192) (q : Fin 256) :
    tableSum a b (ix2 n q) = a (ix2 ⟨n.val / 64, by omega⟩ q) + b (ix2 ⟨n.val % 64, by omega⟩ q) := by pointwise [tableSum]
theorem word_one : Ideal.ofBits .f32 0x3F800000#32 = 1 := by simp
theorem word_minus : Ideal.ofBits .f32 0xBF800000#32 = -1 := by
  have h : Ideal.ofBits .f32 0xBF800000#32 = ((-1 : ℝ) : EReal) := by
    simp [Ideal.ofBits, Ideal.ieee, -EReal.coe_mul, -EReal.coe_neg]
    norm_num
  rw [h, EReal.coe_neg, EReal.coe_one]
theorem word_zero : Ideal.ofBits .f32 0x00000000#32 = 0 := by simp

theorem table_cos (n : Fin 8192) (d : Fin 128) : hostTable (ix2 n ⟨d.val, by omega⟩) = slotCos (cosOf n) d := by
  have hd := d.isLt
  rw [hostTable, tableSum_at, rowTable_low, colTable_low, rowSlot_at, colSlot_at]
  unfold slotCos cosOf
  simp only [rowTimes_at, colTimes_at, rowZeros_at, colZeros_at, word_one, one_mul]
  by_cases h1 : d.val < 64
  · rw [dif_pos h1, dif_pos h1, if_pos h1, zero_add]
  by_cases h2 : d.val - 64 < 8
  · rw [dif_neg h1, dif_neg h1, if_neg h1, dif_pos h2, dif_pos h2, dif_pos (show d.val < 80 by omega), dif_pos h2, add_zero]
  by_cases h3 : d.val - 64 - 8 < 8
  · rw [dif_neg h1, dif_neg h1, if_neg h1, dif_neg h2, dif_neg h2, dif_pos h3, dif_pos h3, dif_pos (show d.val < 80 by omega), dif_neg h2, zero_add]
  by_cases h4 : d.val - 64 - 8 - 8 < 8
  · rw [dif_neg h1, dif_neg h1, if_neg h1, dif_neg h2, dif_neg h2, dif_neg h3, dif_neg h3, dif_pos h4, dif_pos h4, dif_neg (show ¬ d.val < 80 by omega), dif_pos (show d.val < 96 by omega), dif_pos (show d.val - 80 < 8 by omega), add_zero]
    exact congrArg (fun f => (Host.cos rowAngles : FVec Ideal S128x8 .f32) (ix2 _ f)) (Fin.ext (by dsimp only; omega))
  by_cases h5 : d.val - 64 - 8 - 8 - 8 < 8
  · rw [dif_neg h1, dif_neg h1, if_neg h1, dif_neg h2, dif_neg h2, dif_neg h3, dif_neg h3, dif_neg h4, dif_neg h4, dif_pos h5, dif_pos h5, dif_neg (show ¬ d.val < 80 by omega), dif_pos (show d.val < 96 by omega), dif_neg (show ¬ d.val - 80 < 8 by omega), zero_add]
    exact congrArg (fun f => (Host.cos colAngles : FVec Ideal S64x8 .f32) (ix2 _ f)) (Fin.ext (by dsimp only; omega))
  · rw [dif_neg h1, dif_neg h1, if_neg h1, dif_neg h2, dif_neg h2, dif_neg h3, dif_neg h3, dif_neg h4, dif_neg h4, dif_neg h5, dif_neg h5, dif_neg (show ¬ d.val < 80 by omega), dif_neg (show ¬ d.val < 96 by omega), add_zero]

theorem table_sin (n : Fin 8192) (d : Fin 128) : hostTable (ix2 n ⟨128 + d.val, by omega⟩) = slotSin (sinOf n) d := by
  have hd := d.isLt
  rw [hostTable, tableSum_at, rowTable_high, colTable_high, rowSlot_at, colSlot_at]
  unfold slotSin sinOf
  simp only [rowTimes_at, colTimes_at, rowZeros_at, colZeros_at, word_minus, word_zero, mul_zero, neg_mul, one_mul]
  by_cases h1 : d.val < 64
  · rw [dif_pos h1, dif_pos h1, if_pos h1, zero_add]
  by_cases h2 : d.val - 64 < 8
  · rw [dif_neg h1, dif_neg h1, if_neg h1, dif_pos h2, dif_pos h2, dif_pos (show d.val < 80 by omega), dif_pos h2, add_zero]
  by_cases h3 : d.val - 64 - 8 < 8
  · rw [dif_neg h1, dif_neg h1, if_neg h1, dif_neg h2, dif_neg h2, dif_pos h3, dif_pos h3, dif_pos (show d.val < 80 by omega), dif_neg h2, zero_add]
  by_cases h4 : d.val - 64 - 8 - 8 < 8
  · rw [dif_neg h1, dif_neg h1, if_neg h1, dif_neg h2, dif_neg h2, dif_neg h3, dif_neg h3, dif_pos h4, dif_pos h4, dif_neg (show ¬ d.val < 80 by omega), dif_pos (show d.val < 96 by omega), dif_pos (show d.val - 80 < 8 by omega), add_zero]
    exact congrArg (fun f => (Host.sin rowAngles : FVec Ideal S128x8 .f32) (ix2 _ f)) (Fin.ext (by dsimp only; omega))
  by_cases h5 : d.val - 64 - 8 - 8 - 8 < 8
  · rw [dif_neg h1, dif_neg h1, if_neg h1, dif_neg h2, dif_neg h2, dif_neg h3, dif_neg h3, dif_neg h4, dif_neg h4, dif_pos h5, dif_pos h5, dif_neg (show ¬ d.val < 80 by omega), dif_pos (show d.val < 96 by omega), dif_neg (show ¬ d.val - 80 < 8 by omega), zero_add]
    exact congrArg (fun f => (Host.sin colAngles : FVec Ideal S64x8 .f32) (ix2 _ f)) (Fin.ext (by dsimp only; omega))
  · rw [dif_neg h1, dif_neg h1, if_neg h1, dif_neg h2, dif_neg h2, dif_neg h3, dif_neg h3, dif_neg h4, dif_neg h4, dif_neg h5, dif_neg h5, dif_neg (show ¬ d.val < 80 by omega), dif_neg (show ¬ d.val < 96 by omega), add_zero]

theorem tableT_at (n : Fin 8192) (q : Fin 256) : hostTableT (ix2 q n) = hostTable (ix2 n q) := by pointwise [hostTableT]

end Cert.Kernel3Ideal.Inproj

end
-- ==== Proof.Inproj.Array.lean ====
/-
  The input blocks of a grid step in terms of the arguments, and where the step writes its results.
-/
module

public import proofs.«01_k».proof.Proof.Inproj.Host
public import proofs.«01_k».proof.Proof.Inproj.Table

@[expose] public section

set_option maxRecDepth 16384

noncomputable section

namespace Cert.Kernel3Ideal.Inproj

open Idealize.ShloMosaic Idealize.ShloMosaic.TcCoe Idealize.SL.Sem
open Idealize.ShloMosaic.Pipeline (Dat)
open Cert.Kernel3Ideal.Gen Cert.Token

variable (m : (ℓ : Loc nD τ sig) → Buf (Elt Ideal) ℓ)

/-! ## The arrays at the launch -/

theorem V_x (c : Dev nD) : V m c (Pipeline.arrRef spec0 0) = (m ((c.tc : Thread nD τ).loc main_arg0)) := by
  simp only [V, List.flatten_cons, List.flatten_nil, List.append_nil, List.cons_append, List.nil_append, hostOps0, hostOps0_1, hostOps0_2]
  after_results <;> rfl
theorem V_shift (c : Dev nD) : V m c (Pipeline.arrRef spec0 1) = hostShift (m ((c.tc : Thread nD τ).loc main_arg1)) := by
  simp only [V, List.flatten_cons, List.flatten_nil, List.append_nil, List.cons_append, List.nil_append, hostOps0, hostOps0_1, hostOps0_2]
  after_results <;> rfl
theorem V_scale (c : Dev nD) : V m c (Pipeline.arrRef spec0 2) = hostScale (m ((c.tc : Thread nD τ).loc main_arg1)) := by
  simp only [V, List.flatten_cons, List.flatten_nil, List.append_nil, List.cons_append, List.nil_append, hostOps0, hostOps0_1, hostOps0_2]
  after_results <;> rfl
theorem V_gains (c : Dev nD) : V m c (Pipeline.arrRef spec0 3) = hostGains (m ((c.tc : Thread nD τ).loc main_arg2)) := by
  simp only [V, List.flatten_cons, List.flatten_nil, List.append_nil, List.cons_append, List.nil_append, hostOps0, hostOps0_1, hostOps0_2]
  after_results <;> rfl
theorem V_in (c : Dev nD) : V m c (Pipeline.arrRef spec0 4) = hostIn (m ((c.tc : Thread nD τ).loc main_arg3)) := by
  simp only [V, List.flatten_cons, List.flatten_nil, List.append_nil, List.cons_append, List.nil_append, hostOps0, hostOps0_1, hostOps0_2]
  after_results <;> rfl
theorem V_qgains (c : Dev nD) : V m c (Pipeline.arrRef spec0 5) = hostQGains (m ((c.tc : Thread nD τ).loc main_arg4)) := by
  simp only [V, List.flatten_cons, List.flatten_nil, List.append_nil, List.cons_append, List.nil_append, hostOps0, hostOps0_1, hostOps0_2]
  after_results <;> rfl
theorem V_q (c : Dev nD) : V m c (Pipeline.arrRef spec0 6) = hostQ (m ((c.tc : Thread nD τ).loc main_arg5)) := by
  simp only [V, List.flatten_cons, List.flatten_nil, List.append_nil, List.cons_append, List.nil_append, hostOps0, hostOps0_1, hostOps0_2]
  after_results <;> rfl
theorem V_kgains (c : Dev nD) : V m c (Pipeline.arrRef spec0 7) = hostKGains (m ((c.tc : Thread nD τ).loc main_arg6)) := by
  simp only [V, List.flatten_cons, List.flatten_nil, List.append_nil, List.cons_append, List.nil_append, hostOps0, hostOps0_1, hostOps0_2]
  after_results <;> rfl
theorem V_k (c : Dev nD) : V m c (Pipeline.arrRef spec0 8) = hostK (m ((c.tc : Thread nD τ).loc main_arg7)) := by
  simp only [V, List.flatten_cons, List.flatten_nil, List.append_nil, List.cons_append, List.nil_append, hostOps0, hostOps0_1, hostOps0_2]
  after_results <;> rfl
theorem V_v (c : Dev nD) : V m c (Pipeline.arrRef spec0 9) = hostV (m ((c.tc : Thread nD τ).loc main_arg7)) := by
  simp only [V, List.flatten_cons, List.flatten_nil, List.append_nil, List.cons_append, List.nil_append, hostOps0, hostOps0_1, hostOps0_2]
  after_results <;> rfl
theorem V_dft (c : Dev nD) : V m c (Pipeline.arrRef spec0 10) = hostDft (m ((c.tc : Thread nD τ).loc main_arg8)) := by
  simp only [V, List.flatten_cons, List.flatten_nil, List.append_nil, List.cons_append, List.nil_append, hostOps0, hostOps0_1, hostOps0_2]
  after_results <;> rfl
set_option maxHeartbeats 4000000 in
theorem V_table (c : Dev nD) : V m c (Pipeline.arrRef spec0 11) = hostTable := by
  simp only [V, List.flatten_cons, List.flatten_nil, List.append_nil, List.cons_append, List.nil_append, hostOps0, hostOps0_1, hostOps0_2, StableHlo.after_cons, StableHlo.after_nil]
  after_results_simp
  rfl
set_option maxHeartbeats 4000000 in
theorem V_tableT (c : Dev nD) : V m c (Pipeline.arrRef spec0 12) = hostTableT := by
  simp only [V, List.flatten_cons, List.flatten_nil, List.append_nil, List.cons_append, List.nil_append, hostOps0, hostOps0_1, hostOps0_2, StableHlo.after_cons, StableHlo.after_nil]
  after_results_simp
  rfl

/-! ## The blocks as windows of these arrays -/

theorem block_x (c : Dev nD) (t : Fin cfg0.N) (y) (X : FVec Ideal S4x8192x1024 .f32) (h : V m c (Pipeline.arrRef spec0 0) = X) :
    iblk m c 0 t y = X ((win0_0.blk t).view.emb y) := by
  unfold iblk; rw [h]; rfl
theorem block_shift (c : Dev nD) (t : Fin cfg0.N) (y) (X : FVec Ideal S4x1x1024 .f32) (h : V m c (Pipeline.arrRef spec0 1) = X) :
    iblk m c 1 t y = X ((win0_1.blk t).view.emb y) := by
  unfold iblk; rw [h]; rfl
theorem block_scale (c : Dev nD) (t : Fin cfg0.N) (y) (X : FVec Ideal S4x1x1024 .f32) (h : V m c (Pipeline.arrRef spec0 2) = X) :
    iblk m c 2 t y = X ((win0_2.blk t).view.emb y) := by
  unfold iblk; rw [h]; rfl
theorem block_gains (c : Dev nD) (t : Fin cfg0.N) (y) (X : FVec Ideal S1x1024 .f32) (h : V m c (Pipeline.arrRef spec0 3) = X) :
    iblk m c 3 t y = X ((win0_3.blk t).view.emb y) := by
  unfold iblk; rw [h]; rfl
theorem block_in (c : Dev nD) (t : Fin cfg0.N) (y) (X : FVec Ideal S2x1024x2048 .bf16) (h : V m c (Pipeline.arrRef spec0 4) = X) :
    iblk m c 4 t y = X ((win0_4.blk t).view.emb y) := by
  unfold iblk; rw [h]; rfl
theorem block_qgains (c : Dev nD) (t : Fin cfg0.N) (y) (X : FVec Ideal S1x256 .f32) (h : V m c (Pipeline.arrRef spec0 5) = X) :
    iblk m c 5 t y = X ((win0_5.blk t).view.emb y) := by
  unfold iblk; rw [h]; rfl
theorem block_q (c : Dev nD) (t : Fin cfg0.N) (y) (X : FVec Ideal S1024x256 .bf16) (h : V m c (Pipeline.arrRef spec0 6) = X) :
    iblk m c 6 t y = X ((win0_6.blk t).view.emb y) := by
  unfold iblk; rw [h]; rfl
theorem block_kgains (c : Dev nD) (t : Fin cfg0.N) (y) (X : FVec Ideal S1x128 .f32) (h : V m c (Pipeline.arrRef spec0 7) = X) :
    iblk m c 7 t y = X ((win0_7.blk t).view.emb y) := by
  unfold iblk; rw [h]; rfl
theorem block_k (c : Dev nD) (t : Fin cfg0.N) (y) (X : FVec Ideal S256x1024 .bf16) (h : V m c (Pipeline.arrRef spec0 8) = X) :
    iblk m c 8 t y = X ((win0_8.blk t).view.emb y) := by
  unfold iblk; rw [h]; rfl
theorem block_v (c : Dev nD) (t : Fin cfg0.N) (y) (X : FVec Ideal S256x256 .bf16) (h : V m c (Pipeline.arrRef spec0 9) = X) :
    iblk m c 9 t y = X ((win0_9.blk t).view.emb y) := by
  unfold iblk; rw [h]; rfl
theorem block_dft (c : Dev nD) (t : Fin cfg0.N) (y) (X : FVec Ideal S256x512 .bf16) (h : V m c (Pipeline.arrRef spec0 10) = X) :
    iblk m c 10 t y = X ((win0_10.blk t).view.emb y) := by
  unfold iblk; rw [h]; rfl
theorem block_table (c : Dev nD) (t : Fin cfg0.N) (y) (X : FVec Ideal S8192x256 .f32) (h : V m c (Pipeline.arrRef spec0 11) = X) :
    iblk m c 11 t y = X ((win0_11.blk t).view.emb y) := by
  unfold iblk; rw [h]; rfl
theorem block_tableT (c : Dev nD) (t : Fin cfg0.N) (y) (X : FVec Ideal S256x8192 .f32) (h : V m c (Pipeline.arrRef spec0 12) = X) :
    iblk m c 12 t y = X ((win0_12.blk t).view.emb y) := by
  unfold iblk; rw [h]; rfl

theorem idx_x : ∀ t : Fin grid0.N, win0_0.index t = ![t.val / 8, t.val % 8, 0] := by decide +kernel
theorem idx_shift : ∀ t : Fin grid0.N, win0_1.index t = ![t.val / 8, 0, 0] := by decide +kernel
theorem idx_scale : ∀ t : Fin grid0.N, win0_2.index t = ![t.val / 8, 0, 0] := by decide +kernel
theorem idx_gains : ∀ t : Fin grid0.N, win0_3.index t = ![0, 0] := by decide +kernel
theorem idx_in : ∀ t : Fin grid0.N, win0_4.index t = ![1, 0, 0] := by decide +kernel
theorem idx_qgains : ∀ t : Fin grid0.N, win0_5.index t = ![0, 0] := by decide +kernel
theorem idx_q : ∀ t : Fin grid0.N, win0_6.index t = ![0, 0] := by decide +kernel
theorem idx_kgains : ∀ t : Fin grid0.N, win0_7.index t = ![0, 0] := by decide +kernel
theorem idx_k : ∀ t : Fin grid0.N, win0_8.index t = ![0, 0] := by decide +kernel
theorem idx_v : ∀ t : Fin grid0.N, win0_9.index t = ![0, 0] := by decide +kernel
theorem idx_dft : ∀ t : Fin grid0.N, win0_10.index t = ![0, 0] := by decide +kernel
theorem idx_table : ∀ t : Fin grid0.N, win0_11.index t = ![t.val % 8, 0] := by decide +kernel
theorem idx_tableT : ∀ t : Fin grid0.N, win0_12.index t = ![0, t.val % 8] := by decide +kernel
theorem idx_qt : ∀ t : Fin grid0.N, win0_13.index t = ![t.val / 8, 0, t.val % 8] := by decide +kernel
theorem idx_key : ∀ t : Fin grid0.N, win0_14.index t = ![t.val / 8, t.val % 8, 0] := by decide +kernel
theorem idx_vt : ∀ t : Fin grid0.N, win0_15.index t = ![t.val / 8, 0, t.val % 8] := by decide +kernel
theorem idx_nq : ∀ t : Fin grid0.N, win0_16.index t = ![t.val / 8, t.val % 8, 0] := by decide +kernel
theorem idx_nk : ∀ t : Fin grid0.N, win0_17.index t = ![t.val / 8, t.val % 8, 0] := by decide +kernel
theorem idx_nv : ∀ t : Fin grid0.N, win0_18.index t = ![t.val / 8, t.val % 8, 0] := by decide +kernel
theorem idx_z : ∀ t : Fin grid0.N, win0_19.index t = ![t.val / 8, t.val % 8, 0] := by decide +kernel
theorem idx_y : ∀ t : Fin grid0.N, win0_20.index t = ![t.val / 8, t.val % 8, 0] := by decide +kernel

variable (t : Fin cfg0.N) (ht : t.val < 32)

/-- The batch entry of a step. -/
abbrev batch : Fin 4 := ⟨t.val / 8, by omega⟩
/-- The token that a step's token `r` is among all. -/
abbrev tokenOf (r : Fin 1024) : Fin 8192 := ⟨1024 * (t.val % 8) + r.val, by omega⟩

theorem emb_x (r j : Fin 1024) : (win0_0.blk t).view.emb (ix3 0 r j) = (ix3 (batch t ht) (tokenOf t r) j : S4x8192x1024.Idx) := by
  blk_ext [idx_x t]
theorem emb_shift (j : Fin 1024) : (win0_1.blk t).view.emb (ix3 0 0 j) = (ix3 (batch t ht) 0 j : S4x1x1024.Idx) := by
  blk_ext [idx_shift t]
theorem emb_scale (j : Fin 1024) : (win0_2.blk t).view.emb (ix3 0 0 j) = (ix3 (batch t ht) 0 j : S4x1x1024.Idx) := by
  blk_ext [idx_scale t]
theorem emb_gains (j : Fin 1024) : (win0_3.blk t).view.emb (ix2 0 j) = (ix2 0 j : S1x1024.Idx) := by
  blk_ext [idx_gains t]
theorem emb_in (k : Fin 1024) (j : Fin 2048) : (win0_4.blk t).view.emb (ix3 0 k j) = (ix3 1 k j : S2x1024x2048.Idx) := by
  blk_ext [idx_in t]
theorem emb_qgains (j : Fin 256) : (win0_5.blk t).view.emb (ix2 0 j) = (ix2 0 j : S1x256.Idx) := by
  blk_ext [idx_qgains t]
theorem emb_q (j : Fin 1024) (k : Fin 256) : (win0_6.blk t).view.emb (ix2 j k) = (ix2 j k : S1024x256.Idx) := by
  blk_ext [idx_q t]
theorem emb_kgains (j : Fin 128) : (win0_7.blk t).view.emb (ix2 0 j) = (ix2 0 j : S1x128.Idx) := by
  blk_ext [idx_kgains t]
theorem emb_k (k : Fin 256) (j : Fin 1024) : (win0_8.blk t).view.emb (ix2 k j) = (ix2 k j : S256x1024.Idx) := by
  blk_ext [idx_k t]
theorem emb_v (j k : Fin 256) : (win0_9.blk t).view.emb (ix2 j k) = (ix2 j k : S256x256.Idx) := by
  blk_ext [idx_v t]
theorem emb_dft (k : Fin 256) (j : Fin 512) : (win0_10.blk t).view.emb (ix2 k j) = (ix2 k j : S256x512.Idx) := by
  blk_ext [idx_dft t]
theorem emb_table (r : Fin 1024) (j : Fin 256) : (win0_11.blk t).view.emb (ix2 r j) = (ix2 (tokenOf t r) j : S8192x256.Idx) := by
  blk_ext [idx_table t]
theorem emb_tableT (j : Fin 256) (r : Fin 1024) : (win0_12.blk t).view.emb (ix2 j r) = (ix2 j (tokenOf t r) : S256x8192.Idx) := by
  blk_ext [idx_tableT t]
theorem emb_qt (m : Fin 512) (r : Fin 1024) : (win0_13.blk t).view.emb (ix3 0 m r) = (ix3 (batch t ht) m (tokenOf t r) : S4x512x8192.Idx) := by
  blk_ext [idx_qt t]
theorem emb_key (r : Fin 1024) (m : Fin 512) : (win0_14.blk t).view.emb (ix3 0 r m) = (ix3 (batch t ht) (tokenOf t r) m : S4x8192x512.Idx) := by
  blk_ext [idx_key t]
theorem emb_vt (m : Fin 256) (r : Fin 1024) : (win0_15.blk t).view.emb (ix3 0 m r) = (ix3 (batch t ht) m (tokenOf t r) : S4x256x8192.Idx) := by
  blk_ext [idx_vt t]
theorem emb_nq (r : Fin 1024) (m : Fin 256) : (win0_16.blk t).view.emb (ix3 0 r m) = (ix3 (batch t ht) (tokenOf t r) m : S4x8192x256.Idx) := by
  blk_ext [idx_nq t]
theorem emb_nk (r : Fin 1024) (m : Fin 256) : (win0_17.blk t).view.emb (ix3 0 r m) = (ix3 (batch t ht) (tokenOf t r) m : S4x8192x256.Idx) := by
  blk_ext [idx_nk t]
theorem emb_nv (r : Fin 1024) (m : Fin 256) : (win0_18.blk t).view.emb (ix3 0 r m) = (ix3 (batch t ht) (tokenOf t r) m : S4x8192x256.Idx) := by
  blk_ext [idx_nv t]
theorem emb_z (r : Fin 1024) (m : Fin 512) : (win0_19.blk t).view.emb (ix3 0 r m) = (ix3 (batch t ht) (tokenOf t r) m : S4x8192x512.Idx) := by
  blk_ext [idx_z t]
theorem emb_y (r : Fin 1024) (m : Fin 256) : (win0_20.blk t).view.emb (ix3 0 r m) = (ix3 (batch t ht) (tokenOf t r) m : S4x8192x256.Idx) := by
  blk_ext [idx_y t]

/-! ## The blocks of a step in terms of the arguments -/

theorem read_x (c : Dev nD) (r j : Fin 1024) : iblk m c 0 t (ix3 0 r j) = (m ((c.tc : Thread nD τ).loc main_arg0)) (ix3 (batch t ht) (tokenOf t r) j) := by
  rw [block_x m c t _ _ (V_x m c), emb_x t ht]
theorem read_shift (c : Dev nD) (j : Fin 1024) : iblk m c 1 t (ix3 0 0 j) = (m ((c.tc : Thread nD τ).loc main_arg1)) (ix2 (batch t ht) ⟨j.val, by omega⟩) := by
  rw [block_shift m c t _ _ (V_shift m c), emb_shift t ht, hostShift_at]
theorem read_scale (c : Dev nD) (j : Fin 1024) : iblk m c 2 t (ix3 0 0 j) = (m ((c.tc : Thread nD τ).loc main_arg1)) (ix2 (batch t ht) ⟨1024 + j.val, by omega⟩) := by
  rw [block_scale m c t _ _ (V_scale m c), emb_scale t ht, hostScale_at]
theorem read_gains (c : Dev nD) (j : Fin 1024) : iblk m c 3 t (ix2 0 j) = (m ((c.tc : Thread nD τ).loc main_arg2)) (ix2 1 j) := by
  rw [block_gains m c t _ _ (V_gains m c), emb_gains t, hostGains_at]
theorem read_in (c : Dev nD) (k : Fin 1024) (j : Fin 2048) : iblk m c 4 t (ix3 0 k j) = hostIn (m ((c.tc : Thread nD τ).loc main_arg3)) (ix3 1 k j) := by
  rw [block_in m c t _ _ (V_in m c), emb_in t]
theorem read_qgains (c : Dev nD) (j : Fin 256) : iblk m c 5 t (ix2 0 j) = (m ((c.tc : Thread nD τ).loc main_arg4)) (ix2 1 j) := by
  rw [block_qgains m c t _ _ (V_qgains m c), emb_qgains t, hostQGains_at]
theorem read_q (c : Dev nD) (j : Fin 1024) (k : Fin 256) : iblk m c 6 t (ix2 j k) = hostQ (m ((c.tc : Thread nD τ).loc main_arg5)) (ix2 j k) := by
  rw [block_q m c t _ _ (V_q m c), emb_q t]
theorem read_kgains (c : Dev nD) (j : Fin 128) : iblk m c 7 t (ix2 0 j) = (m ((c.tc : Thread nD τ).loc main_arg6)) (ix2 1 j) := by
  rw [block_kgains m c t _ _ (V_kgains m c), emb_kgains t, hostKGains_at]
theorem read_k (c : Dev nD) (k : Fin 256) (j : Fin 1024) : iblk m c 8 t (ix2 k j) = hostK (m ((c.tc : Thread nD τ).loc main_arg7)) (ix2 k j) := by
  rw [block_k m c t _ _ (V_k m c), emb_k t]
theorem read_v (c : Dev nD) (j k : Fin 256) : iblk m c 9 t (ix2 j k) = hostV (m ((c.tc : Thread nD τ).loc main_arg7)) (ix2 j k) := by
  rw [block_v m c t _ _ (V_v m c), emb_v t]
theorem read_dft (c : Dev nD) (k : Fin 256) (j : Fin 512) : iblk m c 10 t (ix2 k j) = (m ((c.tc : Thread nD τ).loc main_arg8)) (ix2 k j) := by
  rw [block_dft m c t _ _ (V_dft m c), emb_dft t]; rfl
theorem read_table (c : Dev nD) (r : Fin 1024) (j : Fin 256) : iblk m c 11 t (ix2 r j) = hostTable (ix2 (tokenOf t r) j) := by
  rw [block_table m c t _ _ (V_table m c), emb_table t]
theorem read_tableT (c : Dev nD) (j : Fin 256) (r : Fin 1024) : iblk m c 12 t (ix2 j r) = hostTable (ix2 (tokenOf t r) j) := by
  rw [block_tableT m c t _ _ (V_tableT m c), emb_tableT t, tableT_at]

end Cert.Kernel3Ideal.Inproj

end
-- ==== Proof.Inproj.Block.lean ====
/-
  What one grid step of the call writes, element by element: the tokens' channels of `Row`.
-/
module

public import proofs.«01_k».proof.Proof.Gen.Kernel3Ideal.Frame
public import proofs.«01_k».proof.Proof.Inproj.Row
public import Idealize.ShloMosaic.Lib.Pipeline.ValueKit

@[expose] public section

set_option maxRecDepth 16384

noncomputable section

namespace Cert.Kernel3Ideal.Inproj

open Idealize.ShloMosaic Idealize.ShloMosaic.TcCoe Idealize.SL.Sem
open Cert.Kernel3Ideal.Gen Cert.Token

/-! ## The operations -/

/-- The norm of a block of tokens. -/
def normed (v : FVec Ideal S1024x1024 .f32) (g : FVec Ideal S1x1024 .f32) : FVec Ideal S1024x1024 .f32 :=
  mulf (mulf v (broadcastTo S1024x1024 (rsqrt (addf (divf (shapeCast S1024x1 (multiReduction .add [1] S1024 (mulf v v) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024))
    (broadcastTo S1024x1024 (shapeCast S1x1024 g shapeCasts_S1x1024_S1x1024) broadcasts_S1x1024_S1024x1024)

/-- A row of the modulation, repeated along the tokens. -/
def along (p : FVec Ideal S1x1x1024 .f32) : FVec Ideal S1024x1024 .f32 :=
  broadcastTo S1024x1024 (shapeCast S1x1024 p shapeCasts_S1x1x1024_S1x1024) broadcasts_S1x1024_S1024x1024
/-- One more than it. -/
def alongOne (p : FVec Ideal S1x1x1024 .f32) : FVec Ideal S1024x1024 .f32 :=
  broadcastTo S1024x1024 (addf (broadcast S1x1024 (Scalar.ofBits .f32 0x3F800000#32)) (shapeCast S1x1024 p shapeCasts_S1x1x1024_S1x1024)) broadcasts_S1x1024_S1024x1024

/-- The block's tokens. -/
def tokens (x : FVec Ideal S1x1024x1024 .f32) : FVec Ideal S1024x1024 .f32 := shapeCast S1024x1024 x shapeCasts_S1x1024x1024_S1024x1024

/-- The projections' input. -/
def entering (x : FVec Ideal S1x1024x1024 .f32) (g : FVec Ideal S1x1024 .f32) (sc sh : FVec Ideal S1x1x1024 .f32) : FVec Ideal S1024x1024 .bf16 :=
  truncf .bf16 (addf (mulf (normed (tokens x) g) (alongOne sc)) (along sh)) bitsLt_bf16_f32

/-- The product with the projections' weights. -/
def wideDot (h : FVec Ideal S1024x1024 .bf16) (w : FVec Ideal S1x1024x2048 .bf16) : FVec Ideal S1024x2048 .f32 :=
  matmul dot_S1024x1024_S1024x2048_S1024x2048_1_0_0_1_n_n none h (shapeCast S1024x2048 w shapeCasts_S1x1024x2048_S1024x2048 : FVec Ideal S1024x2048 .bf16) (constant S1024x2048 .f32 0x00000000#32)

/-- The projections. -/
def projected (x : FVec Ideal S1x1024x1024 .f32) (g : FVec Ideal S1x1024 .f32) (sc sh : FVec Ideal S1x1x1024 .f32) (w : FVec Ideal S1x1024x2048 .bf16) : FVec Ideal S1024x2048 .f32 :=
  wideDot (entering x g sc sh) w

/-- The norm of the queries' latent channels. -/
def qNormed (v : FVec Ideal S1024x256 .f32) (g : FVec Ideal S1x256 .f32) : FVec Ideal S1024x256 .f32 :=
  mulf (mulf v (broadcastTo S1024x256 (rsqrt (addf (divf (shapeCast S1024x1 (multiReduction .add [1] S1024 (mulf v v) 0x00000000#32 reduces_S1024x256_S1024 (.inl rfl) rfl) shapeCasts_S1024_S1024x1)
    (broadcast S1024x1 (Scalar.ofBits .f32 0x43800000#32))) (broadcast S1024x1 (Scalar.ofBits .f32 0x358637BD#32)))) broadcasts_S1024x1_S1024x256))
    (broadcastTo S1024x256 (shapeCast S1x256 g shapeCasts_S1x256_S1x256) broadcasts_S1x256_S1024x256)

/-- The product of the queries' weights with them, tokens along the columns. -/
def qDot (w : FVec Ideal S1024x256 .bf16) (c : FVec Ideal S1024x256 .bf16) : FVec Ideal S1024x1024 .f32 :=
  matmul dot_S1024x256_S1024x256_S1024x1024_1_1_0_0_n_n none (shapeCast S1024x256 w shapeCasts_S1024x256_S1024x256 : FVec Ideal S1024x256 .bf16) c (constant S1024x1024 .f32 0x00000000#32)

/-- Half of the transposed table, once for each head. -/
def stacked (u : FVec Ideal S128x1024 .f32) : FVec Ideal S512x1024 .f32 :=
  concatenate S512x1024 0 [⟨S128x1024, u⟩, ⟨S128x1024, u⟩, ⟨S128x1024, u⟩, ⟨S128x1024, u⟩] concatenates_S128x1024_S128x1024_S128x1024_S128x1024_S512x1024_d0

/-- The turned queries. -/
def qMixed (d : FVec Ideal S1024x1024 .f32) (tab : FVec Ideal S256x1024 .f32) : FVec Ideal S512x1024 .f32 :=
  mulf (addf (mulf (extractStridedSlice S512x1024 ![0, 0] d slices_S1024x1024_o0_0_S512x1024)
      (stacked (extractStridedSlice S128x1024 ![0, 0] (shapeCast S256x1024 tab shapeCasts_S256x1024_S256x1024) slices_S256x1024_o0_0_S128x1024)))
    (mulf (extractStridedSlice S512x1024 ![512, 0] d slices_S1024x1024_o512_0_S512x1024)
      (stacked (extractStridedSlice S128x1024 ![128, 0] (shapeCast S256x1024 tab shapeCasts_S256x1024_S256x1024) slices_S256x1024_o128_0_S128x1024))))
    (broadcast S512x1024 (Scalar.ofBits .f32 0x3E16C740#32))

/-- The queries' block. -/
def queries (p : FVec Ideal S1024x2048 .f32) (g : FVec Ideal S1x256 .f32) (w : FVec Ideal S1024x256 .bf16) (tab : FVec Ideal S256x1024 .f32) : FVec Ideal S1x512x1024 .bf16 :=
  shapeCast S1x512x1024 (truncf .bf16 (qMixed (qDot w (truncf .bf16 (qNormed (extractStridedSlice S1024x256 ![0, 0] p slices_S1024x2048_o0_0_S1024x256) g) bitsLt_bf16_f32)) tab) bitsLt_bf16_f32 : FVec Ideal S512x1024 .bf16) shapeCasts_S512x1024_S1x512x1024

/-- The channels for keys and values. -/
def latent (p : FVec Ideal S1024x2048 .f32) : FVec Ideal S1024x256 .f32 := extractStridedSlice S1024x256 ![0, 256] p slices_S1024x2048_o0_256_S1024x256
/-- Their first half. -/
def latentLow (p : FVec Ideal S1024x2048 .f32) : FVec Ideal S1024x128 .f32 := extractStridedSlice S1024x128 ![0, 0] (latent p) slices_S1024x256_o0_0_S1024x128

/-- The norm of the first half. -/
def kNormed (v : FVec Ideal S1024x128 .f32) (g : FVec Ideal S1x128 .f32) : FVec Ideal S1024x128 .f32 :=
  mulf (mulf v (broadcastTo S1024x128 (rsqrt (addf (divf (shapeCast S1024x1 (multiReduction .add [1] S1024 (mulf v v) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 (shapeCast S1x128 g shapeCasts_S1x128_S1x128) broadcasts_S1x128_S1024x128)

/-- Two halves side by side. -/
def beside (a b : FVec Ideal S1024x128 .f32) : FVec Ideal S1024x256 .f32 :=
  concatenate S1024x256 1 [⟨S1024x128, a⟩, ⟨S1024x128, b⟩] concatenates_S1024x128_S1024x128_S1024x256_d1

/-- The input of keys and values: the norm of the first half beside the second half. -/
def kvIn (p : FVec Ideal S1024x2048 .f32) (g : FVec Ideal S1x128 .f32) : FVec Ideal S1024x256 .bf16 :=
  truncf .bf16 (beside (kNormed (latentLow p) g) (extractStridedSlice S1024x128 ![0, 128] (latent p) slices_S1024x256_o0_128_S1024x128)) bitsLt_bf16_f32

/-- The product with the keys' weights. -/
def kDot (y : FVec Ideal S1024x256 .bf16) (w : FVec Ideal S256x1024 .bf16) : FVec Ideal S1024x1024 .f32 :=
  matmul dot_S1024x256_S256x1024_S1024x1024_1_0_0_1_n_n none y (shapeCast S256x1024 w shapeCasts_S256x1024_S256x1024 : FVec Ideal S256x1024 .bf16) (constant S1024x1024 .f32 0x00000000#32)

/-- Half of the table, once for each head. -/
def repeated (u : FVec Ideal S1024x128 .f32) : FVec Ideal S1024x512 .f32 :=
  concatenate S1024x512 1 [⟨S1024x128, u⟩, ⟨S1024x128, u⟩, ⟨S1024x128, u⟩, ⟨S1024x128, u⟩] concatenates_S1024x128_S1024x128_S1024x128_S1024x128_S1024x512_d1

/-- The turned keys. -/
def kMixed (d : FVec Ideal S1024x1024 .f32) (tab : FVec Ideal S1024x256 .f32) : FVec Ideal S1024x512 .f32 :=
  addf (mulf (extractStridedSlice S1024x512 ![0, 0] d slices_S1024x1024_o0_0_S1024x512)
      (repeated (extractStridedSlice S1024x128 ![0, 0] (shapeCast S1024x256 tab shapeCasts_S1024x256_S1024x256) slices_S1024x256_o0_0_S1024x128)))
    (mulf (extractStridedSlice S1024x512 ![0, 512] d slices_S1024x1024_o0_512_S1024x512)
      (repeated (extractStridedSlice S1024x128 ![0, 128] (shapeCast S1024x256 tab shapeCasts_S1024x256_S1024x256) slices_S1024x256_o0_128_S1024x128)))

/-- The keys' block. -/
def keys (y : FVec Ideal S1024x256 .bf16) (w : FVec Ideal S256x1024 .bf16) (tab : FVec Ideal S1024x256 .f32) : FVec Ideal S1x1024x512 .bf16 :=
  shapeCast S1x1024x512 (truncf .bf16 (kMixed (kDot y w) tab) bitsLt_bf16_f32 : FVec Ideal S1024x512 .bf16) shapeCasts_S1024x512_S1x1024x512

/-- The values' block. -/
def values (y : FVec Ideal S1024x256 .bf16) (w : FVec Ideal S256x256 .bf16) : FVec Ideal S1x256x1024 .bf16 :=
  shapeCast S1x256x1024 (truncf .bf16 (matmul dot_S256x256_S1024x256_S256x1024_1_1_0_0_n_n none (shapeCast S256x256 w shapeCasts_S256x256_S256x256 : FVec Ideal S256x256 .bf16) y (constant S256x1024 .f32 0x00000000#32)) bitsLt_bf16_f32 : FVec Ideal S256x1024 .bf16) shapeCasts_S256x1024_S1x256x1024

/-- The neighbourhood attention's three blocks. -/
def nearQ (p : FVec Ideal S1024x2048 .f32) : FVec Ideal S1x1024x256 .bf16 :=
  shapeCast S1x1024x256 (truncf .bf16 (mulf (extractStridedSlice S1024x256 ![0, 512] p slices_S1024x2048_o0_512_S1024x256) (broadcast S1024x256 (Scalar.ofBits .f32 0x3E38AA3B#32))) bitsLt_bf16_f32 : FVec Ideal S1024x256 .bf16) shapeCasts_S1024x256_S1x1024x256
def nearK (p : FVec Ideal S1024x2048 .f32) : FVec Ideal S1x1024x256 .bf16 :=
  shapeCast S1x1024x256 (truncf .bf16 (extractStridedSlice S1024x256 ![0, 768] p slices_S1024x2048_o0_768_S1024x256) bitsLt_bf16_f32 : FVec Ideal S1024x256 .bf16) shapeCasts_S1024x256_S1x1024x256
def nearV (p : FVec Ideal S1024x2048 .f32) : FVec Ideal S1x1024x256 .bf16 :=
  shapeCast S1x1024x256 (truncf .bf16 (extractStridedSlice S1024x256 ![0, 1024] p slices_S1024x2048_o0_1024_S1024x256) bitsLt_bf16_f32 : FVec Ideal S1024x256 .bf16) shapeCasts_S1024x256_S1x1024x256

/-- The channels' Fourier transform. -/
def spectrum (p : FVec Ideal S1024x2048 .f32) (w : FVec Ideal S256x512 .bf16) : FVec Ideal S1x1024x512 .bf16 :=
  shapeCast S1x1024x512 (truncf .bf16 (matmul dot_S1024x256_S256x512_S1024x512_1_0_0_1_n_n none (truncf .bf16 (extractStridedSlice S1024x256 ![0, 1280] p slices_S1024x2048_o0_1280_S1024x256) bitsLt_bf16_f32 : FVec Ideal S1024x256 .bf16)
    (shapeCast S256x512 w shapeCasts_S256x512_S256x512 : FVec Ideal S256x512 .bf16) (constant S1024x512 .f32 0x00000000#32)) bitsLt_bf16_f32 : FVec Ideal S1024x512 .bf16) shapeCasts_S1024x512_S1x1024x512

/-- The convolution's gated input. -/
def gated (p : FVec Ideal S1024x2048 .f32) : FVec Ideal S1x1024x256 .f32 :=
  shapeCast S1x1024x256 (mulf (extractStridedSlice S1024x256 ![0, 1536] p slices_S1024x2048_o0_1536_S1024x256)
    (divf (broadcast S1024x256 (Scalar.ofBits .f32 0x3F800000#32)) (addf (broadcast S1024x256 (Scalar.ofBits .f32 0x3F800000#32))
      (exp (subf (broadcast S1024x256 (Scalar.ofBits .f32 0x00000000#32)) (extractStridedSlice S1024x256 ![0, 1792] p slices_S1024x2048_o0_1792_S1024x256)))))) shapeCasts_S1024x256_S1x1024x256

/-! ## Their elements -/

variable (r : Fin 1024)

theorem meanSq_at (v : FVec Ideal S1024x1024 .f32) :
    (addf (divf (shapeCast S1024x1 (multiReduction .add [1] S1024 (mulf v v) 0x00000000#32 reduces_S1024x1024_S1024 (.inl rfl) rfl) shapeCasts_S1024_S1024x1)
      (broadcast S1024x1 (Scalar.ofBits .f32 0x44800000#32))) (broadcast S1024x1 (Scalar.ofBits .f32 0x358637BD#32)) : FVec Ideal S1024x1 .f32) (ix2 r 0)
      = spreadOf fun j => v (ix2 r j) := by
  unfold spreadOf
  pointwise
theorem scaled_at (j : Fin 1024) (v : FVec Ideal S1024x1024 .f32) (s : FVec Ideal S1024x1 .f32) (g : FVec Ideal S1x1024 .f32) :
    mulf (mulf v (broadcastTo S1024x1024 (rsqrt s) broadcasts_S1024x1_S1024x1024)) (broadcastTo S1024x1024 (shapeCast S1x1024 g shapeCasts_S1x1024_S1x1024) broadcasts_S1x1024_S1024x1024) (ix2 r j)
      = v (ix2 r j) * Ideal.rsqrt (s (ix2 r 0)) * g (ix2 0 j) := by
  pointwise
theorem normed_at (j : Fin 1024) (v : FVec Ideal S1024x1024 .f32) (g : FVec Ideal S1x1024 .f32) :
    normed v g (ix2 r j) = norm (fun j => v (ix2 r j)) (fun j => g (ix2 0 j)) j := by
  rw [normed, scaled_at, meanSq_at]; rfl

theorem qMeanSq_at (v : FVec Ideal S1024x256 .f32) :
    (addf (divf (shapeCast S1024x1 (multiReduction .add [1] S1024 (mulf v v) 0x00000000#32 reduces_S1024x256_S1024 (.inl rfl) rfl) shapeCasts_S1024_S1024x1)
      (broadcast S1024x1 (Scalar.ofBits .f32 0x43800000#32))) (broadcast S1024x1 (Scalar.ofBits .f32 0x358637BD#32)) : FVec Ideal S1024x1 .f32) (ix2 r 0)
      = spreadIn (Ideal.ofBits .f32 0x43800000#32) fun j => v (ix2 r j) := by
  unfold spreadIn
  pointwise
theorem qScaled_at (j : Fin 256) (v : FVec Ideal S1024x256 .f32) (s : FVec Ideal S1024x1 .f32) (g : FVec Ideal S1x256 .f32) :
    mulf (mulf v (broadcastTo S1024x256 (rsqrt s) broadcasts_S1024x1_S1024x256)) (broadcastTo S1024x256 (shapeCast S1x256 g shapeCasts_S1x256_S1x256) broadcasts_S1x256_S1024x256) (ix2 r j)
      = v (ix2 r j) * Ideal.rsqrt (s (ix2 r 0)) * g (ix2 0 j) := by
  pointwise
theorem qNormed_at (j : Fin 256) (v : FVec Ideal S1024x256 .f32) (g : FVec Ideal S1x256 .f32) :
    qNormed v g (ix2 r j) = normIn (Ideal.ofBits .f32 0x43800000#32) (fun j => v (ix2 r j)) (fun j => g (ix2 0 j)) j := by
  rw [qNormed, qScaled_at, qMeanSq_at]; rfl

theorem kMeanSq_at (v : FVec Ideal S1024x128 .f32) :
    (addf (divf (shapeCast S1024x1 (multiReduction .add [1] S1024 (mulf v v) 0x00000000#32 reduces_S1024x128_S1024 (.inl rfl) rfl) shapeCasts_S1024_S1024x1)
      (broadcast S1024x1 (Scalar.ofBits .f32 0x43000000#32))) (broadcast S1024x1 (Scalar.ofBits .f32 0x358637BD#32)) : FVec Ideal S1024x1 .f32) (ix2 r 0)
      = spreadIn (Ideal.ofBits .f32 0x43000000#32) fun j => v (ix2 r j) := by
  unfold spreadIn
  pointwise
theorem kScaled_at (j : Fin 128) (v : FVec Ideal S1024x128 .f32) (s : FVec Ideal S1024x1 .f32) (g : FVec Ideal S1x128 .f32) :
    mulf (mulf v (broadcastTo S1024x128 (rsqrt s) broadcasts_S1024x1_S1024x128)) (broadcastTo S1024x128 (shapeCast S1x128 g shapeCasts_S1x128_S1x128) broadcasts_S1x128_S1024x128) (ix2 r j)
      = v (ix2 r j) * Ideal.rsqrt (s (ix2 r 0)) * g (ix2 0 j) := by
  pointwise
theorem kNormed_at (j : Fin 128) (v : FVec Ideal S1024x128 .f32) (g : FVec Ideal S1x128 .f32) :
    kNormed v g (ix2 r j) = normIn (Ideal.ofBits .f32 0x43000000#32) (fun j => v (ix2 r j)) (fun j => g (ix2 0 j)) j := by
  rw [kNormed, kScaled_at, kMeanSq_at]; rfl

theorem along_at (j : Fin 1024) (p : FVec Ideal S1x1x1024 .f32) : along p (ix2 r j) = p (ix3 0 0 j) := by pointwise [along]
theorem alongOne_at (j : Fin 1024) (p : FVec Ideal S1x1x1024 .f32) : alongOne p (ix2 r j) = Ideal.ofBits .f32 0x3F800000#32 + p (ix3 0 0 j) := by pointwise [alongOne]
theorem tokens_at (j : Fin 1024) (x : FVec Ideal S1x1024x1024 .f32) : tokens x (ix2 r j) = x (ix3 0 r j) := by pointwise [tokens]

theorem entering_at (j : Fin 1024) (x : FVec Ideal S1x1024x1024 .f32) (g : FVec Ideal S1x1024 .f32) (sc sh : FVec Ideal S1x1x1024 .f32) :
    entering x g sc sh (ix2 r j) = modulated (fun j => x (ix3 0 r j)) (fun j => g (ix2 0 j)) (fun j => sc (ix3 0 0 j)) (fun j => sh (ix3 0 0 j)) j := by
  simp only [← tokens_at]
  rw [modulated, ← normed_at r j (tokens x) g, ← alongOne_at r j sc, ← along_at r j sh]; rfl

theorem wideDot_at (j : Fin 2048) (h : FVec Ideal S1024x1024 .bf16) (w : FVec Ideal S1x1024x2048 .bf16) :
    wideDot h w (ix2 r j) = ∑ k : Fin 1024, h (ix2 r k) * w (ix3 0 k j) := by
  pointwise [wideDot]

/-- The projections. -/
theorem projected_at (j : Fin 2048) (x : FVec Ideal S1x1024x1024 .f32) (g : FVec Ideal S1x1024 .f32) (sc sh : FVec Ideal S1x1x1024 .f32) (w : FVec Ideal S1x1024x2048 .bf16) :
    projected x g sc sh w (ix2 r j)
      = ∑ k, modulated (fun j => x (ix3 0 r j)) (fun j => g (ix2 0 j)) (fun j => sc (ix3 0 0 j)) (fun j => sh (ix3 0 0 j)) k * w (ix3 0 k j) := by
  rw [projected, wideDot_at]
  simp only [entering_at]

theorem qDot_at (a : Fin 1024) (w c : FVec Ideal S1024x256 .bf16) : qDot w c (ix2 a r) = ∑ k : Fin 256, w (ix2 a k) * c (ix2 r k) := by
  pointwise [qDot]

theorem stacked_at (h : Fin 4) (d : Fin 128) (u : FVec Ideal S128x1024 .f32) : stacked u (ix2 ⟨h.val * 128 + d.val, by omega⟩ r) = u (ix2 d r) := by
  fin_cases h <;> pointwise [stacked]
  all_goals split_ifs <;> first | (exfalso; omega) | exact congrArg (fun z => u (ix2 z r)) (Fin.ext (by dsimp only; omega))
theorem repeated_at (h : Fin 4) (d : Fin 128) (u : FVec Ideal S1024x128 .f32) : repeated u (ix2 r ⟨h.val * 128 + d.val, by omega⟩) = u (ix2 r d) := by
  fin_cases h <;> pointwise [repeated]
  all_goals split_ifs <;> first | (exfalso; omega) | exact congrArg (fun z => u (ix2 r z)) (Fin.ext (by dsimp only; omega))

theorem qMix_at (m : Fin 512) (d : FVec Ideal S1024x1024 .f32) (a b : FVec Ideal S512x1024 .f32) :
    mulf (addf (mulf (extractStridedSlice S512x1024 ![0, 0] d slices_S1024x1024_o0_0_S512x1024) a) (mulf (extractStridedSlice S512x1024 ![512, 0] d slices_S1024x1024_o512_0_S512x1024) b))
      (broadcast S512x1024 (Scalar.ofBits .f32 0x3E16C740#32)) (ix2 m r)
      = (d (ix2 ⟨m.val, by omega⟩ r) * a (ix2 m r) + d (ix2 ⟨512 + m.val, by omega⟩ r) * b (ix2 m r)) * Ideal.ofBits .f32 0x3E16C740#32 := by
  pointwise
theorem tabRow_low (d : Fin 128) (tab : FVec Ideal S256x1024 .f32) :
    (extractStridedSlice S128x1024 ![0, 0] (shapeCast S256x1024 tab shapeCasts_S256x1024_S256x1024 : FVec Ideal S256x1024 .f32) slices_S256x1024_o0_0_S128x1024) (ix2 d r) = tab (ix2 ⟨d.val, by omega⟩ r) := by
  pointwise
theorem tabRow_high (d : Fin 128) (tab : FVec Ideal S256x1024 .f32) :
    (extractStridedSlice S128x1024 ![128, 0] (shapeCast S256x1024 tab shapeCasts_S256x1024_S256x1024 : FVec Ideal S256x1024 .f32) slices_S256x1024_o128_0_S128x1024) (ix2 d r) = tab (ix2 ⟨128 + d.val, by omega⟩ r) := by
  pointwise
theorem qMixed_at (h : Fin 4) (d : Fin 128) (u : FVec Ideal S1024x1024 .f32) (tab : FVec Ideal S256x1024 .f32) :
    qMixed u tab (ix2 ⟨h.val * 128 + d.val, by omega⟩ r)
      = (u (ix2 ⟨h.val * 128 + d.val, by omega⟩ r) * tab (ix2 ⟨d.val, by omega⟩ r) + u (ix2 ⟨512 + (h.val * 128 + d.val), by omega⟩ r) * tab (ix2 ⟨128 + d.val, by omega⟩ r)) * Ideal.ofBits .f32 0x3E16C740#32 := by
  rw [qMixed, qMix_at, stacked_at, stacked_at, tabRow_low, tabRow_high]

theorem qIn_at (j : Fin 256) (p : FVec Ideal S1024x2048 .f32) :
    extractStridedSlice S1024x256 ![0, 0] p slices_S1024x2048_o0_0_S1024x256 (ix2 r j) = p (ix2 r ⟨j.val, by omega⟩) := by
  pointwise
theorem qOut_at (m : Fin 512) (v : FVec Ideal S512x1024 .f32) :
    shapeCast S1x512x1024 (truncf .bf16 v bitsLt_bf16_f32 : FVec Ideal S512x1024 .bf16) shapeCasts_S512x1024_S1x512x1024 (ix3 0 m r) = v (ix2 m r) := by
  pointwise

/-- The queries. -/
theorem queries_at (h : Fin 4) (d : Fin 128) (p : FVec Ideal S1024x2048 .f32) (g : FVec Ideal S1x256 .f32) (w : FVec Ideal S1024x256 .bf16) (tab : FVec Ideal S256x1024 .f32)
    (c : Fin 256 → EReal) (hc : c = normIn (Ideal.ofBits .f32 0x43800000#32) (fun j => p (ix2 r ⟨j.val, by omega⟩)) (fun j => g (ix2 0 j))) :
    queries p g w tab (ix3 0 ⟨h.val * 128 + d.val, by omega⟩ r)
      = ((∑ k, w (ix2 ⟨h.val * 128 + d.val, by omega⟩ k) * c k) * tab (ix2 ⟨d.val, by omega⟩ r)
        + (∑ k, w (ix2 ⟨512 + (h.val * 128 + d.val), by omega⟩ k) * c k) * tab (ix2 ⟨128 + d.val, by omega⟩ r)) * Ideal.ofBits .f32 0x3E16C740#32 := by
  have e : ∀ k, (truncf .bf16 (qNormed (extractStridedSlice S1024x256 ![0, 0] p slices_S1024x2048_o0_0_S1024x256) g) bitsLt_bf16_f32 : FVec Ideal S1024x256 .bf16) (ix2 r k) = c k := fun k => by
    rw [hc]; refine (qNormed_at r k _ g).trans ?_; simp only [qIn_at]
  rw [queries, qOut_at, qMixed_at, qDot_at, qDot_at]
  simp only [e]

theorem latent_at (j : Fin 256) (p : FVec Ideal S1024x2048 .f32) : latent p (ix2 r j) = p (ix2 r ⟨256 + j.val, by omega⟩) := by pointwise [latent]
theorem latentLow_at (j : Fin 128) (p : FVec Ideal S1024x2048 .f32) : latentLow p (ix2 r j) = p (ix2 r ⟨256 + j.val, by omega⟩) := by pointwise [latentLow, latent]
theorem latentHigh_at (j : Fin 128) (p : FVec Ideal S1024x2048 .f32) :
    extractStridedSlice S1024x128 ![0, 128] (latent p) slices_S1024x256_o0_128_S1024x128 (ix2 r j) = p (ix2 r ⟨384 + j.val, by omega⟩) := by
  pointwise [latent]
  exact congrArg (fun z => p (ix2 r z)) (Fin.ext (by dsimp only; omega))
theorem beside_low (k : Fin 128) (a b : FVec Ideal S1024x128 .f32) : beside a b (ix2 r ⟨k.val, by omega⟩) = a (ix2 r k) := by
  pointwise [beside]
theorem beside_high (k : Fin 128) (a b : FVec Ideal S1024x128 .f32) : beside a b (ix2 r ⟨128 + k.val, by omega⟩) = b (ix2 r k) := by
  pointwise [beside]

theorem kvIn_low (k : Fin 128) (p : FVec Ideal S1024x2048 .f32) (g : FVec Ideal S1x128 .f32) :
    kvIn p g (ix2 r ⟨k.val, by omega⟩) = normIn (Ideal.ofBits .f32 0x43000000#32) (fun j => p (ix2 r ⟨256 + j.val, by omega⟩)) (fun j => g (ix2 0 j)) k := by
  refine (beside_low r k _ _).trans ?_
  rw [kNormed_at]
  simp only [latentLow_at]
theorem kvIn_high (k : Fin 128) (p : FVec Ideal S1024x2048 .f32) (g : FVec Ideal S1x128 .f32) :
    kvIn p g (ix2 r ⟨128 + k.val, by omega⟩) = p (ix2 r ⟨384 + k.val, by omega⟩) :=
  (beside_high r k _ _).trans (latentHigh_at r k p)

theorem kDot_at (j : Fin 1024) (y : FVec Ideal S1024x256 .bf16) (w : FVec Ideal S256x1024 .bf16) : kDot y w (ix2 r j) = ∑ k : Fin 256, y (ix2 r k) * w (ix2 k j) := by
  pointwise [kDot]
theorem kMix_at (m : Fin 512) (d : FVec Ideal S1024x1024 .f32) (a b : FVec Ideal S1024x512 .f32) :
    addf (mulf (extractStridedSlice S1024x512 ![0, 0] d slices_S1024x1024_o0_0_S1024x512) a) (mulf (extractStridedSlice S1024x512 ![0, 512] d slices_S1024x1024_o0_512_S1024x512) b) (ix2 r m)
      = d (ix2 r ⟨m.val, by omega⟩) * a (ix2 r m) + d (ix2 r ⟨512 + m.val, by omega⟩) * b (ix2 r m) := by
  pointwise
theorem tabCol_low (d : Fin 128) (tab : FVec Ideal S1024x256 .f32) :
    (extractStridedSlice S1024x128 ![0, 0] (shapeCast S1024x256 tab shapeCasts_S1024x256_S1024x256 : FVec Ideal S1024x256 .f32) slices_S1024x256_o0_0_S1024x128) (ix2 r d) = tab (ix2 r ⟨d.val, by omega⟩) := by
  pointwise
theorem tabCol_high (d : Fin 128) (tab : FVec Ideal S1024x256 .f32) :
    (extractStridedSlice S1024x128 ![0, 128] (shapeCast S1024x256 tab shapeCasts_S1024x256_S1024x256 : FVec Ideal S1024x256 .f32) slices_S1024x256_o0_128_S1024x128) (ix2 r d) = tab (ix2 r ⟨128 + d.val, by omega⟩) := by
  pointwise
theorem kMixed_at (h : Fin 4) (d : Fin 128) (u : FVec Ideal S1024x1024 .f32) (tab : FVec Ideal S1024x256 .f32) :
    kMixed u tab (ix2 r ⟨h.val * 128 + d.val, by omega⟩)
      = u (ix2 r ⟨h.val * 128 + d.val, by omega⟩) * tab (ix2 r ⟨d.val, by omega⟩) + u (ix2 r ⟨512 + (h.val * 128 + d.val), by omega⟩) * tab (ix2 r ⟨128 + d.val, by omega⟩) := by
  rw [kMixed, kMix_at, repeated_at, repeated_at, tabCol_low, tabCol_high]
theorem kOut_at (m : Fin 512) (v : FVec Ideal S1024x512 .f32) :
    shapeCast S1x1024x512 (truncf .bf16 v bitsLt_bf16_f32 : FVec Ideal S1024x512 .bf16) shapeCasts_S1024x512_S1x1024x512 (ix3 0 r m) = v (ix2 r m) := by
  pointwise

/-- The keys. -/
theorem keys_at (h : Fin 4) (d : Fin 128) (y : FVec Ideal S1024x256 .bf16) (w : FVec Ideal S256x1024 .bf16) (tab : FVec Ideal S1024x256 .f32) :
    keys y w tab (ix3 0 r ⟨h.val * 128 + d.val, by omega⟩)
      = (∑ k, y (ix2 r k) * w (ix2 k ⟨h.val * 128 + d.val, by omega⟩)) * tab (ix2 r ⟨d.val, by omega⟩)
        + (∑ k, y (ix2 r k) * w (ix2 k ⟨512 + (h.val * 128 + d.val), by omega⟩)) * tab (ix2 r ⟨128 + d.val, by omega⟩) := by
  rw [keys, kOut_at, kMixed_at, kDot_at, kDot_at]

/-- The values. -/
theorem values_at (e : Fin 256) (y : FVec Ideal S1024x256 .bf16) (w : FVec Ideal S256x256 .bf16) : values y w (ix3 0 e r) = ∑ k : Fin 256, w (ix2 e k) * y (ix2 r k) := by
  pointwise [values]

theorem nearQ_at (j : Fin 256) (p : FVec Ideal S1024x2048 .f32) : nearQ p (ix3 0 r j) = p (ix2 r ⟨512 + j.val, by omega⟩) * Ideal.ofBits .f32 0x3E38AA3B#32 := by pointwise [nearQ]
theorem nearK_at (j : Fin 256) (p : FVec Ideal S1024x2048 .f32) : nearK p (ix3 0 r j) = p (ix2 r ⟨768 + j.val, by omega⟩) := by pointwise [nearK]
theorem nearV_at (j : Fin 256) (p : FVec Ideal S1024x2048 .f32) : nearV p (ix3 0 r j) = p (ix2 r ⟨1024 + j.val, by omega⟩) := by pointwise [nearV]
theorem spectrum_at (j : Fin 512) (p : FVec Ideal S1024x2048 .f32) (w : FVec Ideal S256x512 .bf16) :
    spectrum p w (ix3 0 r j) = ∑ k : Fin 256, p (ix2 r ⟨1280 + k.val, by omega⟩) * w (ix2 k j) := by
  pointwise [spectrum]
theorem gated_at (j : Fin 256) (p : FVec Ideal S1024x2048 .f32) :
    gated p (ix3 0 r j) = gatedHalf (p (ix2 r ⟨1536 + j.val, by omega⟩)) (p (ix2 r ⟨1792 + j.val, by omega⟩)) := by
  rw [gatedHalf, ← zero_sub]
  pointwise [gated]

/-! ## Whole-array loads and what the step leaves in its result windows -/

section Loads
theorem ld_x (x : FVec Ideal S1x1024x1024 .f32) : View.ld (Val := Elt Ideal) (e' := .f32) x r0_0 = x := View.ld_unit_lit (Val := Elt Ideal) (e := .f32) (S := S1x1024x1024) (off := ![0, 0, 0]) _ x (by decide)
theorem ld_g (x : FVec Ideal S1x1024 .f32) : View.ld (Val := Elt Ideal) (e' := .f32) x r0_1 = x := View.ld_unit_lit (Val := Elt Ideal) (e := .f32) (S := S1x1024) (off := ![0, 0]) _ x (by decide)
theorem ld_s (x : FVec Ideal S1x1x1024 .f32) : View.ld (Val := Elt Ideal) (e' := .f32) x r0_2 = x := View.ld_unit_lit (Val := Elt Ideal) (e := .f32) (S := S1x1x1024) (off := ![0, 0, 0]) _ x (by decide)
theorem ld_w (x : FVec Ideal S1x1024x2048 .bf16) : View.ld (Val := Elt Ideal) (e' := .bf16) x r0_3 = x := View.ld_unit_lit (Val := Elt Ideal) (e := .bf16) (S := S1x1024x2048) (off := ![0, 0, 0]) _ x (by decide)
theorem ld_q (x : FVec Ideal S1024x256 .bf16) : View.ld (Val := Elt Ideal) (e' := .bf16) x r0_4 = x := View.ld_unit_lit (Val := Elt Ideal) (e := .bf16) (S := S1024x256) (off := ![0, 0]) _ x (by decide)
theorem ld_t (x : FVec Ideal S1024x256 .f32) : View.ld (Val := Elt Ideal) (e' := .f32) x r0_4 = x := View.ld_unit_lit (Val := Elt Ideal) (e := .f32) (S := S1024x256) (off := ![0, 0]) _ x (by decide)
theorem ld_qg (x : FVec Ideal S1x256 .f32) : View.ld (Val := Elt Ideal) (e' := .f32) x r0_5 = x := View.ld_unit_lit (Val := Elt Ideal) (e := .f32) (S := S1x256) (off := ![0, 0]) _ x (by decide)
theorem ld_tt (x : FVec Ideal S256x1024 .f32) : View.ld (Val := Elt Ideal) (e' := .f32) x r0_6 = x := View.ld_unit_lit (Val := Elt Ideal) (e := .f32) (S := S256x1024) (off := ![0, 0]) _ x (by decide)
theorem ld_k (x : FVec Ideal S256x1024 .bf16) : View.ld (Val := Elt Ideal) (e' := .bf16) x r0_6 = x := View.ld_unit_lit (Val := Elt Ideal) (e := .bf16) (S := S256x1024) (off := ![0, 0]) _ x (by decide)
theorem ld_kg (x : FVec Ideal S1x128 .f32) : View.ld (Val := Elt Ideal) (e' := .f32) x r0_8 = x := View.ld_unit_lit (Val := Elt Ideal) (e := .f32) (S := S1x128) (off := ![0, 0]) _ x (by decide)
theorem ld_v (x : FVec Ideal S256x256 .bf16) : View.ld (Val := Elt Ideal) (e' := .bf16) x r0_10 = x := View.ld_unit_lit (Val := Elt Ideal) (e := .bf16) (S := S256x256) (off := ![0, 0]) _ x (by decide)
theorem ld_f (x : FVec Ideal S256x512 .bf16) : View.ld (Val := Elt Ideal) (e' := .bf16) x r0_13 = x := View.ld_unit_lit (Val := Elt Ideal) (e := .bf16) (S := S256x512) (off := ![0, 0]) _ x (by decide)
end Loads

variable (x0 : FVec Ideal S1x1024x1024 .f32) (x1 x2 : FVec Ideal S1x1x1024 .f32) (x3 : FVec Ideal S1x1024 .f32) (x4 : FVec Ideal S1x1024x2048 .bf16) (x5 : FVec Ideal S1x256 .f32) (x6 : FVec Ideal S1024x256 .bf16)
  (x7 : FVec Ideal S1x128 .f32) (x8 : FVec Ideal S256x1024 .bf16) (x9 : FVec Ideal S256x256 .bf16) (x10 : FVec Ideal S256x512 .bf16) (x11 : FVec Ideal S1024x256 .f32) (x12 : FVec Ideal S256x1024 .f32)

theorem out_qt : out0_13 (F := Ideal) x0 x1 x2 x3 x4 x5 x6 x7 x8 x9 x10 x11 x12 = queries (projected x0 x3 x2 x1 x4) x5 x6 x12 := by
  frame_out
  rfl
theorem out_key : out0_14 (F := Ideal) x0 x1 x2 x3 x4 x5 x6 x7 x8 x9 x10 x11 x12 = keys (kvIn (projected x0 x3 x2 x1 x4) x7) x8 x11 := by
  frame_out
  unfold k0_pay24 k0_pay23 k0_pay22 k0_pay21 k0_pay20
  rw [ld_x x0, ld_g x3, ld_s x2, ld_s x1, ld_w x4, ld_kg x7]
  rfl
theorem out_vt : out0_15 (F := Ideal) x0 x1 x2 x3 x4 x5 x6 x7 x8 x9 x10 x11 x12 = values (kvIn (projected x0 x3 x2 x1 x4) x7) x9 := by
  frame_out
  unfold k0_pay24 k0_pay23 k0_pay22 k0_pay21 k0_pay20
  rw [ld_x x0, ld_g x3, ld_s x2, ld_s x1, ld_w x4, ld_kg x7]
  rfl
theorem out_nq : out0_16 (F := Ideal) x0 x1 x2 x3 x4 x5 x6 x7 x8 x9 x10 x11 x12 = nearQ (projected x0 x3 x2 x1 x4) := by
  frame_out
  unfold k0_pay20
  rw [ld_x x0, ld_g x3, ld_s x2, ld_s x1, ld_w x4]
  rfl
theorem out_nk : out0_17 (F := Ideal) x0 x1 x2 x3 x4 x5 x6 x7 x8 x9 x10 x11 x12 = nearK (projected x0 x3 x2 x1 x4) := by
  frame_out
  unfold k0_pay20
  rw [ld_x x0, ld_g x3, ld_s x2, ld_s x1, ld_w x4]
  rfl
theorem out_nv : out0_18 (F := Ideal) x0 x1 x2 x3 x4 x5 x6 x7 x8 x9 x10 x11 x12 = nearV (projected x0 x3 x2 x1 x4) := by
  frame_out
  unfold k0_pay20
  rw [ld_x x0, ld_g x3, ld_s x2, ld_s x1, ld_w x4]
  rfl
theorem out_z : out0_19 (F := Ideal) x0 x1 x2 x3 x4 x5 x6 x7 x8 x9 x10 x11 x12 = spectrum (projected x0 x3 x2 x1 x4) x10 := by
  frame_out
  unfold k0_pay20
  rw [ld_x x0, ld_g x3, ld_s x2, ld_s x1, ld_w x4]
  rfl
theorem out_y : out0_20 (F := Ideal) x0 x1 x2 x3 x4 x5 x6 x7 x8 x9 x10 x11 x12 = gated (projected x0 x3 x2 x1 x4) := by
  frame_out
  unfold k0_pay20
  rw [ld_x x0, ld_g x3, ld_s x2, ld_s x1, ld_w x4]
  rfl

end Cert.Kernel3Ideal.Inproj

end
-- ==== Proof.Inproj.Reference.lean ====
/-
  The third reference, element by element.
-/
module

public import proofs.«01_k».proof.Proof.Gen.Reference3Ideal
public import proofs.«01_k».proof.Proof.Inproj.Row

@[expose] public section

set_option maxRecDepth 16384

noncomputable section

namespace Cert.Reference3Ideal.Inproj

open Idealize.ShloMosaic Idealize.ShloMosaic.TcCoe
open Cert.Reference3Ideal.Gen Cert.Token

/-- The last layer's part of each weight. -/
def inW (w : FVec Ideal S2x1024x1952 .f32) : FVec Ideal S1024x1952 .f32 :=
  shapeCast _ (extractStridedSlice S1x1024x1952 ![1, 0, 0] w slices_S2x1024x1952_S1x1024x1952_1_0_0) shapeCasts_S1x1024x1952_S1024x1952
def qW (w : FVec Ideal S2x256x384 .f32) : FVec Ideal S256x384 .f32 :=
  shapeCast _ (extractStridedSlice S1x256x384 ![1, 0, 0] w slices_S2x256x384_S1x256x384_1_0_0) shapeCasts_S1x256x384_S256x384
def kvW (w : FVec Ideal S2x128x512 .f32) : FVec Ideal S128x512 .f32 :=
  shapeCast _ (extractStridedSlice S1x128x512 ![1, 0, 0] w slices_S2x128x512_S1x128x512_1_0_0) shapeCasts_S1x128x512_S128x512
/-- The last layer's gains. -/
def gains (g : FVec Ideal S2x1024 .f32) : FVec Ideal S1024 .f32 := shapeCast _ (extractStridedSlice S1x1024 ![1, 0] g slices_S2x1024_S1x1024_1_0) shapeCasts_S1x1024_S1024
def qGains (g : FVec Ideal S2x256 .f32) : FVec Ideal S256 .f32 := shapeCast _ (extractStridedSlice S1x256 ![1, 0] g slices_S2x256_S1x256_1_0) shapeCasts_S1x256_S256
def kGains (g : FVec Ideal S2x128 .f32) : FVec Ideal S128 .f32 := shapeCast _ (extractStridedSlice S1x128 ![1, 0] g slices_S2x128_S1x128_1_0) shapeCasts_S1x128_S128
/-- The shift and the scale. -/
def shiftOf (p : FVec Ideal S4x6144 .f32) : FVec Ideal S4x1024 .f32 := extractStridedSlice S4x1024 ![0, 0] p slices_S4x6144_S4x1024_0_0
def scaleOf (p : FVec Ideal S4x6144 .f32) : FVec Ideal S4x1024 .f32 := extractStridedSlice S4x1024 ![0, 1024] p slices_S4x6144_S4x1024_0_1024

/-- A row of the modulation, repeated along the tokens. -/
def along (p : FVec Ideal S4x1024 .f32) : FVec Ideal S4x8192x1024 .f32 :=
  broadcastInDim S4x8192x1024 ![0, 1, 2] bcast_S4x1x1024_S4x8192x1024_0_1_2 (broadcastInDim S4x1x1024 ![0, 2] bcast_S4x1024_S4x1x1024_0_2 p)
/-- One more than the scale, repeated along the tokens. -/
def alongOne (p : FVec Ideal S4x1024 .f32) : FVec Ideal S4x8192x1024 .f32 :=
  broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 p))

/-- The norm of the stream. -/
def meanSq (v : FVec Ideal S4x8192x1024 .f32) : FVec Ideal S4x8192x1 .f32 :=
  addf (Host.divf (broadcastInDim S4x8192x1 ![0, 1] bcast_S4x8192_S4x8192x1_0_1 (Host.reduceAdd (mulf v v) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32))
def normed (v : FVec Ideal S4x8192x1024 .f32) (g : FVec Ideal S1024 .f32) : FVec Ideal S4x8192x1024 .f32 :=
  mulf (mulf v (broadcastInDim S4x8192x1024 ![0, 1, 2] bcast_S4x8192x1_S4x8192x1024_0_1_2 (Host.rsqrt (meanSq v))))
    (broadcastInDim S4x8192x1024 ![0, 1, 2] bcast_S1x1x1024_S4x8192x1024_0_1_2 (broadcastInDim S1x1x1024 ![2] bcast_S1024_S1x1x1024_2 g))
/-- The norm of the queries' latent channels. -/
def qMeanSq (v : FVec Ideal S4x8192x256 .f32) : FVec Ideal S4x8192x1 .f32 :=
  addf (Host.divf (broadcastInDim S4x8192x1 ![0, 1] bcast_S4x8192_S4x8192x1_0_1 (Host.reduceAdd (mulf v v) (constant S_ .f32 0x00000000#32) reducesTo_S4x8192x256_S4x8192_d2 h_S_))
    (broadcastInDim S4x8192x1 ![] bcast_S_S4x8192x1 (constant S_ .f32 0x43800000#32))) (broadcastInDim S4x8192x1 ![] bcast_S_S4x8192x1 (constant S_ .f32 0x358637BD#32))
def qNormed (v : FVec Ideal S4x8192x256 .f32) (g : FVec Ideal S256 .f32) : FVec Ideal S4x8192x256 .f32 :=
  mulf (mulf v (broadcastInDim S4x8192x256 ![0, 1, 2] bcast_S4x8192x1_S4x8192x256_0_1_2 (Host.rsqrt (qMeanSq v))))
    (broadcastInDim S4x8192x256 ![0, 1, 2] bcast_S1x1x256_S4x8192x256_0_1_2 (broadcastInDim S1x1x256 ![2] bcast_S256_S1x1x256_2 g))
/-- The norm of the keys' and values' latent channels. -/
def kMeanSq (v : FVec Ideal S4x8192x128 .f32) : FVec Ideal S4x8192x1 .f32 :=
  addf (Host.divf (broadcastInDim S4x8192x1 ![0, 1] bcast_S4x8192_S4x8192x1_0_1 (Host.reduceAdd (mulf v v) (constant S_ .f32 0x00000000#32) reducesTo_S4x8192x128_S4x8192_d2 h_S_))
    (broadcastInDim S4x8192x1 ![] bcast_S_S4x8192x1 (constant S_ .f32 0x43000000#32))) (broadcastInDim S4x8192x1 ![] bcast_S_S4x8192x1 (constant S_ .f32 0x358637BD#32))
def kNormed (v : FVec Ideal S4x8192x128 .f32) (g : FVec Ideal S128 .f32) : FVec Ideal S4x8192x128 .f32 :=
  mulf (mulf v (broadcastInDim S4x8192x128 ![0, 1, 2] bcast_S4x8192x1_S4x8192x128_0_1_2 (Host.rsqrt (kMeanSq v))))
    (broadcastInDim S4x8192x128 ![0, 1, 2] bcast_S1x1x128_S4x8192x128_0_1_2 (broadcastInDim S1x1x128 ![2] bcast_S128_S1x1x128_2 g))

/-- The projections' input. -/
def entering (x : FVec Ideal S4x8192x1024 .f32) (g : FVec Ideal S1024 .f32) (p : FVec Ideal S4x6144 .f32) : FVec Ideal S4x8192x1024 .f32 :=
  addf (mulf (normed x g) (alongOne (scaleOf p))) (along (shiftOf p))
/-- The projections. -/
def wide (h : FVec Ideal S4x8192x1024 .f32) (w : FVec Ideal S1024x1952 .f32) : FVec Ideal S4x8192x1952 .f32 :=
  Host.dotGeneral dot_S4x8192x1024_S1024x1952_S4x8192x1952_2_0_01_1_n_n none h w

/-- Pieces of the projections. -/
def pieceQ (p : FVec Ideal S4x8192x1952 .f32) : FVec Ideal S4x8192x256 .f32 := extractStridedSlice S4x8192x256 ![0, 0, 0] p slices_S4x8192x1952_S4x8192x256_0_0_0
def pieceK (p : FVec Ideal S4x8192x1952 .f32) : FVec Ideal S4x8192x128 .f32 := extractStridedSlice S4x8192x128 ![0, 0, 256] p slices_S4x8192x1952_S4x8192x128_0_0_256
def pieceR (p : FVec Ideal S4x8192x1952 .f32) : FVec Ideal S4x8192x32 .f32 := extractStridedSlice S4x8192x32 ![0, 0, 384] p slices_S4x8192x1952_S4x8192x32_0_0_384
def pieceC (p : FVec Ideal S4x8192x1952 .f32) : FVec Ideal S4x8192x512 .f32 := extractStridedSlice S4x8192x512 ![0, 0, 1440] p slices_S4x8192x1952_S4x8192x512_0_0_1440

/-- The heads' queries before the rotation, and the heads' keys and values. -/
def qHeads (c : FVec Ideal S4x8192x256 .f32) (w : FVec Ideal S256x384 .f32) : FVec Ideal S4x8192x4x96 .f32 :=
  shapeCast _ (Host.dotGeneral dot_S4x8192x256_S256x384_S4x8192x384_2_0_01_1_n_n none c w) shapeCasts_S4x8192x384_S4x8192x4x96
def kvHeads (c : FVec Ideal S4x8192x128 .f32) (w : FVec Ideal S128x512 .f32) : FVec Ideal S4x8192x4x128 .f32 :=
  shapeCast _ (Host.dotGeneral dot_S4x8192x128_S128x512_S4x8192x512_2_0_01_1_n_n none c w) shapeCasts_S4x8192x512_S4x8192x4x128

/-- A table repeated along batch entries and heads. -/
def overHeads (c : FVec Ideal S8192x16 .f32) : FVec Ideal S4x8192x4x16 .f32 :=
  broadcastInDim S4x8192x4x16 ![0, 1, 2, 3] bcast_S1x8192x1x16_S4x8192x4x16_0_1_2_3 (broadcastInDim S1x8192x1x16 ![1, 2, 3] bcast_S8192x1x16_S1x8192x1x16_1_2_3
    (broadcastInDim S8192x1x16 ![0, 2] bcast_S8192x16_S8192x1x16_0_2 c))
/-- A table repeated along batch entries. -/
def overBatch (c : FVec Ideal S8192x16 .f32) : FVec Ideal S4x8192x16 .f32 :=
  broadcastInDim S4x8192x16 ![0, 1, 2] bcast_S1x8192x16_S4x8192x16_0_1_2 (broadcastInDim S1x8192x16 ![1, 2] bcast_S8192x16_S1x8192x16_1_2 c)

/-- The halves of the heads' rotated channels. -/
def qTail (q : FVec Ideal S4x8192x4x96 .f32) : FVec Ideal S4x8192x4x32 .f32 := extractStridedSlice S4x8192x4x32 ![0, 0, 0, 64] q slices_S4x8192x4x96_S4x8192x4x32_0_0_0_64
def qTail1 (q : FVec Ideal S4x8192x4x96 .f32) : FVec Ideal S4x8192x4x16 .f32 := extractStridedSlice S4x8192x4x16 ![0, 0, 0, 0] (qTail q) slices_S4x8192x4x32_S4x8192x4x16_0_0_0_0
def qTail2 (q : FVec Ideal S4x8192x4x96 .f32) : FVec Ideal S4x8192x4x16 .f32 := extractStridedSlice S4x8192x4x16 ![0, 0, 0, 16] (qTail q) slices_S4x8192x4x32_S4x8192x4x16_0_0_0_16
/-- Two halves side by side. -/
def qPair (a b : FVec Ideal S4x8192x4x16 .f32) : FVec Ideal S4x8192x4x32 .f32 :=
  concatenate S4x8192x4x32 3 [⟨S4x8192x4x16, a⟩, ⟨S4x8192x4x16, b⟩] concatenates_S4x8192x4x16_S4x8192x4x16_S4x8192x4x32_d3
/-- Plain and rotated channels side by side. -/
def joined (a : FVec Ideal S4x8192x4x64 .f32) (b : FVec Ideal S4x8192x4x32 .f32) : FVec Ideal S4x8192x4x96 .f32 :=
  concatenate S4x8192x4x96 3 [⟨S4x8192x4x64, a⟩, ⟨S4x8192x4x32, b⟩] concatenates_S4x8192x4x64_S4x8192x4x32_S4x8192x4x96_d3
/-- The turned queries. -/
def qTurned (q : FVec Ideal S4x8192x4x96 .f32) (c s : FVec Ideal S8192x16 .f32) : FVec Ideal S4x8192x4x96 .f32 :=
  joined (extractStridedSlice S4x8192x4x64 ![0, 0, 0, 0] q slices_S4x8192x4x96_S4x8192x4x64_0_0_0_0)
    (qPair (subf (mulf (qTail1 q) (overHeads c)) (mulf (qTail2 q) (overHeads s))) (addf (mulf (qTail1 q) (overHeads s)) (mulf (qTail2 q) (overHeads c))))

/-- The shared rotated channels of the keys. -/
def kTail1 (u : FVec Ideal S4x8192x32 .f32) : FVec Ideal S4x8192x16 .f32 := extractStridedSlice S4x8192x16 ![0, 0, 0] u slices_S4x8192x32_S4x8192x16_0_0_0
def kTail2 (u : FVec Ideal S4x8192x32 .f32) : FVec Ideal S4x8192x16 .f32 := extractStridedSlice S4x8192x16 ![0, 0, 16] u slices_S4x8192x32_S4x8192x16_0_0_16
def kPair (a b : FVec Ideal S4x8192x16 .f32) : FVec Ideal S4x8192x32 .f32 :=
  concatenate S4x8192x32 2 [⟨S4x8192x16, a⟩, ⟨S4x8192x16, b⟩] concatenates_S4x8192x16_S4x8192x16_S4x8192x32_d2
def kRotated (u : FVec Ideal S4x8192x32 .f32) (c s : FVec Ideal S8192x16 .f32) : FVec Ideal S4x8192x32 .f32 :=
  kPair (subf (mulf (kTail1 u) (overBatch c)) (mulf (kTail2 u) (overBatch s))) (addf (mulf (kTail1 u) (overBatch s)) (mulf (kTail2 u) (overBatch c)))
/-- The turned keys. -/
def kTurned (y : FVec Ideal S4x8192x4x128 .f32) (u : FVec Ideal S4x8192x32 .f32) (c s : FVec Ideal S8192x16 .f32) : FVec Ideal S4x8192x4x96 .f32 :=
  joined (extractStridedSlice S4x8192x4x64 ![0, 0, 0, 0] y slices_S4x8192x4x128_S4x8192x4x64_0_0_0_0)
    (broadcastInDim S4x8192x4x32 ![0, 1, 2, 3] bcast_S4x8192x1x32_S4x8192x4x32_0_1_2_3 (broadcastInDim S4x8192x1x32 ![0, 1, 3] bcast_S4x8192x32_S4x8192x1x32_0_1_3 (kRotated u c s)))

/-- The heads' channels with zeros after them, the heads side by side. -/
def padded (v : FVec Ideal S4x8192x4x96 .f32) : FVec Ideal S4x8192x512 .f32 :=
  shapeCast _ (pad S4x8192x4x128 ![0, 0, 0, 0] ![0, 0, 0, 32] ![0, 0, 0, 0] v (sitofp .f32 (constantI S_ 32 0#32) : FVec Ideal S_ .f32) pads_S4x8192x4x96_S4x8192x4x128_000_000_000_0320 h_S_) shapeCasts_S4x8192x4x128_S4x8192x512

/-- The eight results, from the projections. -/
def queriesOf (q : FVec Ideal S4x8192x4x96 .f32) : FVec Ideal S4x512x8192 .bf16 :=
  truncf .bf16 (transpose S4x512x8192 [0, 2, 1] (padded (mulf q (broadcastInDim S4x8192x4x96 ![] bcast_S_S4x8192x4x96 (constant S_ .f32 0x3E16C740#32)))) transposes_S4x8192x512_S4x512x8192_0_2_1) bitsLt_bf16_f32
def keysOf (k : FVec Ideal S4x8192x4x96 .f32) : FVec Ideal S4x8192x512 .bf16 := truncf .bf16 (padded k) bitsLt_bf16_f32
def valuesOf (y : FVec Ideal S4x8192x4x128 .f32) : FVec Ideal S4x256x8192 .bf16 :=
  truncf .bf16 (transpose S4x256x8192 [0, 2, 1] (shapeCast _ (extractStridedSlice S4x8192x4x64 ![0, 0, 0, 64] y slices_S4x8192x4x128_S4x8192x4x64_0_0_0_64) shapeCasts_S4x8192x4x64_S4x8192x256 : FVec Ideal S4x8192x256 .f32) transposes_S4x8192x256_S4x256x8192_0_2_1) bitsLt_bf16_f32
def nearQ (p : FVec Ideal S4x8192x1952 .f32) : FVec Ideal S4x8192x256 .bf16 :=
  truncf .bf16 (mulf (extractStridedSlice S4x8192x256 ![0, 0, 416] p slices_S4x8192x1952_S4x8192x256_0_0_416) (broadcastInDim S4x8192x256 ![] bcast_S_S4x8192x256 (constant S_ .f32 0x3E38AA3B#32))) bitsLt_bf16_f32
def nearK (p : FVec Ideal S4x8192x1952 .f32) : FVec Ideal S4x8192x256 .bf16 := truncf .bf16 (extractStridedSlice S4x8192x256 ![0, 0, 672] p slices_S4x8192x1952_S4x8192x256_0_0_672) bitsLt_bf16_f32
def nearV (p : FVec Ideal S4x8192x1952 .f32) : FVec Ideal S4x8192x256 .bf16 := truncf .bf16 (extractStridedSlice S4x8192x256 ![0, 0, 928] p slices_S4x8192x1952_S4x8192x256_0_0_928) bitsLt_bf16_f32
def spectrum (p : FVec Ideal S4x8192x1952 .f32) (w : FVec Ideal S256x512 .f32) : FVec Ideal S4x8192x512 .bf16 :=
  truncf .bf16 (Host.dotGeneral dot_S4x8192x256_S256x512_S4x8192x512_2_0_01_1_n_n none (extractStridedSlice S4x8192x256 ![0, 0, 1184] p slices_S4x8192x1952_S4x8192x256_0_0_1184) w : FVec Ideal S4x8192x512 .f32) bitsLt_bf16_f32
def gated (c : FVec Ideal S4x8192x512 .f32) : FVec Ideal S4x8192x256 .f32 :=
  mulf (extractStridedSlice S4x8192x256 ![0, 0, 0] c slices_S4x8192x512_S4x8192x256_0_0_0) (Host.divf (broadcastInDim S4x8192x256 ![] bcast_S_S4x8192x256 (constant S_ .f32 0x3F800000#32))
    (addf (broadcastInDim S4x8192x256 ![] bcast_S_S4x8192x256 (constant S_ .f32 0x3F800000#32)) (Host.exp (Host.negf (extractStridedSlice S4x8192x256 ![0, 0, 256] c slices_S4x8192x512_S4x8192x256_0_0_256)))))

variable (b : Fin 4) (r : Fin 8192)

theorem inW_at (w : FVec Ideal S2x1024x1952 .f32) (k : Fin 1024) (j : Fin 1952) : inW w (ix2 k j) = w (ix3 1 k j) := by pointwise [inW]
theorem qW_at (w : FVec Ideal S2x256x384 .f32) (k : Fin 256) (j : Fin 384) : qW w (ix2 k j) = w (ix3 1 k j) := by pointwise [qW]
theorem kvW_at (w : FVec Ideal S2x128x512 .f32) (k : Fin 128) (j : Fin 512) : kvW w (ix2 k j) = w (ix3 1 k j) := by pointwise [kvW]
theorem gains_at (g : FVec Ideal S2x1024 .f32) (j : Fin 1024) : gains g (ix1 j) = g (ix2 1 j) := by pointwise [gains]
theorem qGains_at (g : FVec Ideal S2x256 .f32) (j : Fin 256) : qGains g (ix1 j) = g (ix2 1 j) := by pointwise [qGains]
theorem kGains_at (g : FVec Ideal S2x128 .f32) (j : Fin 128) : kGains g (ix1 j) = g (ix2 1 j) := by pointwise [kGains]
theorem shift_at (p : FVec Ideal S4x6144 .f32) (j : Fin 1024) : shiftOf p (ix2 b j) = p (ix2 b ⟨j.val, by omega⟩) := by pointwise [shiftOf]
theorem scale_at (p : FVec Ideal S4x6144 .f32) (j : Fin 1024) : scaleOf p (ix2 b j) = p (ix2 b ⟨1024 + j.val, by omega⟩) := by pointwise [scaleOf]
theorem along_at (p : FVec Ideal S4x1024 .f32) (j : Fin 1024) : along p (ix3 b r j) = p (ix2 b j) := by pointwise [along]
theorem alongOne_at (p : FVec Ideal S4x1024 .f32) (j : Fin 1024) : alongOne p (ix3 b r j) = Ideal.ofBits .f32 0x3F800000#32 + p (ix2 b j) := by pointwise [alongOne]

theorem meanSq_at (v : FVec Ideal S4x8192x1024 .f32) : meanSq v (ix3 b r 0) = spreadOf fun j => v (ix3 b r j) := by
  unfold spreadOf
  pointwise [meanSq]
theorem scaled_at (v : FVec Ideal S4x8192x1024 .f32) (s : FVec Ideal S4x8192x1 .f32) (g : FVec Ideal S1024 .f32) (j : Fin 1024) :
    mulf (mulf v (broadcastInDim S4x8192x1024 ![0, 1, 2] bcast_S4x8192x1_S4x8192x1024_0_1_2 (Host.rsqrt s)))
      (broadcastInDim S4x8192x1024 ![0, 1, 2] bcast_S1x1x1024_S4x8192x1024_0_1_2 (broadcastInDim S1x1x1024 ![2] bcast_S1024_S1x1x1024_2 g)) (ix3 b r j)
      = v (ix3 b r j) * Ideal.rsqrt (s (ix3 b r 0)) * g (ix1 j) := by
  pointwise
theorem normed_at (v : FVec Ideal S4x8192x1024 .f32) (g : FVec Ideal S1024 .f32) (j : Fin 1024) : normed v g (ix3 b r j) = norm (fun j => v (ix3 b r j)) (fun j => g (ix1 j)) j := by
  rw [normed, scaled_at, meanSq_at]; rfl

theorem qMeanSq_at (v : FVec Ideal S4x8192x256 .f32) : qMeanSq v (ix3 b r 0) = spreadIn (Ideal.ofBits .f32 0x43800000#32) fun j => v (ix3 b r j) := by
  unfold spreadIn
  pointwise [qMeanSq]
theorem qScaled_at (v : FVec Ideal S4x8192x256 .f32) (s : FVec Ideal S4x8192x1 .f32) (g : FVec Ideal S256 .f32) (j : Fin 256) :
    mulf (mulf v (broadcastInDim S4x8192x256 ![0, 1, 2] bcast_S4x8192x1_S4x8192x256_0_1_2 (Host.rsqrt s)))
      (broadcastInDim S4x8192x256 ![0, 1, 2] bcast_S1x1x256_S4x8192x256_0_1_2 (broadcastInDim S1x1x256 ![2] bcast_S256_S1x1x256_2 g)) (ix3 b r j)
      = v (ix3 b r j) * Ideal.rsqrt (s (ix3 b r 0)) * g (ix1 j) := by
  pointwise
theorem qNormed_at (v : FVec Ideal S4x8192x256 .f32) (g : FVec Ideal S256 .f32) (j : Fin 256) :
    qNormed v g (ix3 b r j) = normIn (Ideal.ofBits .f32 0x43800000#32) (fun j => v (ix3 b r j)) (fun j => g (ix1 j)) j := by
  rw [qNormed, qScaled_at, qMeanSq_at]; rfl

theorem kMeanSq_at (v : FVec Ideal S4x8192x128 .f32) : kMeanSq v (ix3 b r 0) = spreadIn (Ideal.ofBits .f32 0x43000000#32) fun j => v (ix3 b r j) := by
  unfold spreadIn
  pointwise [kMeanSq]
theorem kScaled_at (v : FVec Ideal S4x8192x128 .f32) (s : FVec Ideal S4x8192x1 .f32) (g : FVec Ideal S128 .f32) (j : Fin 128) :
    mulf (mulf v (broadcastInDim S4x8192x128 ![0, 1, 2] bcast_S4x8192x1_S4x8192x128_0_1_2 (Host.rsqrt s)))
      (broadcastInDim S4x8192x128 ![0, 1, 2] bcast_S1x1x128_S4x8192x128_0_1_2 (broadcastInDim S1x1x128 ![2] bcast_S128_S1x1x128_2 g)) (ix3 b r j)
      = v (ix3 b r j) * Ideal.rsqrt (s (ix3 b r 0)) * g (ix1 j) := by
  pointwise
theorem kNormed_at (v : FVec Ideal S4x8192x128 .f32) (g : FVec Ideal S128 .f32) (j : Fin 128) :
    kNormed v g (ix3 b r j) = normIn (Ideal.ofBits .f32 0x43000000#32) (fun j => v (ix3 b r j)) (fun j => g (ix1 j)) j := by
  rw [kNormed, kScaled_at, kMeanSq_at]; rfl

theorem entering_at (x : FVec Ideal S4x8192x1024 .f32) (g : FVec Ideal S1024 .f32) (p : FVec Ideal S4x6144 .f32) (j : Fin 1024) :
    entering x g p (ix3 b r j) = modulated (fun j => x (ix3 b r j)) (fun j => g (ix1 j)) (fun j => p (ix2 b ⟨1024 + j.val, by omega⟩)) (fun j => p (ix2 b ⟨j.val, by omega⟩)) j := by
  simp only [← shift_at, ← scale_at]
  rw [modulated, ← normed_at b r x g, ← alongOne_at b r (scaleOf p), ← along_at b r (shiftOf p)]; rfl
theorem wide_at (h : FVec Ideal S4x8192x1024 .f32) (w : FVec Ideal S1024x1952 .f32) (j : Fin 1952) : wide h w (ix3 b r j) = ∑ k : Fin 1024, h (ix3 b r k) * w (ix2 k j) := by
  pointwise [wide]

theorem pieceQ_at (p : FVec Ideal S4x8192x1952 .f32) (j : Fin 256) : pieceQ p (ix3 b r j) = p (ix3 b r ⟨j.val, by omega⟩) := by pointwise [pieceQ]
theorem pieceK_at (p : FVec Ideal S4x8192x1952 .f32) (j : Fin 128) : pieceK p (ix3 b r j) = p (ix3 b r ⟨256 + j.val, by omega⟩) := by pointwise [pieceK]
theorem pieceR_at (p : FVec Ideal S4x8192x1952 .f32) (j : Fin 32) : pieceR p (ix3 b r j) = p (ix3 b r ⟨384 + j.val, by omega⟩) := by pointwise [pieceR]
theorem pieceC_at (p : FVec Ideal S4x8192x1952 .f32) (j : Fin 512) : pieceC p (ix3 b r j) = p (ix3 b r ⟨1440 + j.val, by omega⟩) := by pointwise [pieceC]

theorem qHeads_at (c : FVec Ideal S4x8192x256 .f32) (w : FVec Ideal S256x384 .f32) (h : Fin 4) (e : Fin 96) :
    qHeads c w (ix4 b r h e) = ∑ k : Fin 256, c (ix3 b r k) * w (ix2 k ⟨h.val * 96 + e.val, by omega⟩) := by
  pointwise [qHeads]
theorem kvHeads_at (c : FVec Ideal S4x8192x128 .f32) (w : FVec Ideal S128x512 .f32) (h : Fin 4) (e : Fin 128) :
    kvHeads c w (ix4 b r h e) = ∑ k : Fin 128, c (ix3 b r k) * w (ix2 k ⟨h.val * 128 + e.val, by omega⟩) := by
  pointwise [kvHeads]

theorem overHeads_at (c : FVec Ideal S8192x16 .f32) (h : Fin 4) (i : Fin 16) : overHeads c (ix4 b r h i) = c (ix2 r i) := by pointwise [overHeads]
theorem overBatch_at (c : FVec Ideal S8192x16 .f32) (i : Fin 16) : overBatch c (ix3 b r i) = c (ix2 r i) := by pointwise [overBatch]

theorem qTail1_at (q : FVec Ideal S4x8192x4x96 .f32) (h : Fin 4) (i : Fin 16) : qTail1 q (ix4 b r h i) = q (ix4 b r h ⟨64 + i.val, by omega⟩) := by pointwise [qTail1, qTail]
theorem qTail2_at (q : FVec Ideal S4x8192x4x96 .f32) (h : Fin 4) (i : Fin 16) : qTail2 q (ix4 b r h i) = q (ix4 b r h ⟨64 + (16 + i.val), by omega⟩) := by pointwise [qTail2, qTail]
theorem qPair_at (x y : FVec Ideal S4x8192x4x16 .f32) (h : Fin 4) (i : Fin 32) :
    qPair x y (ix4 b r h i) = if hi : i.val < 16 then x (ix4 b r h ⟨i.val, hi⟩) else y (ix4 b r h ⟨i.val - 16, by omega⟩) := by pointwise [qPair]
theorem joined_at (x : FVec Ideal S4x8192x4x64 .f32) (y : FVec Ideal S4x8192x4x32 .f32) (h : Fin 4) (e : Fin 96) :
    joined x y (ix4 b r h e) = if he : e.val < 64 then x (ix4 b r h ⟨e.val, he⟩) else y (ix4 b r h ⟨e.val - 64, by omega⟩) := by pointwise [joined]
theorem qPlain_at (q : FVec Ideal S4x8192x4x96 .f32) (h : Fin 4) (e : Fin 64) :
    extractStridedSlice S4x8192x4x64 ![0, 0, 0, 0] q slices_S4x8192x4x96_S4x8192x4x64_0_0_0_0 (ix4 b r h e) = q (ix4 b r h ⟨e.val, by omega⟩) := by pointwise
theorem kPlain_at (q : FVec Ideal S4x8192x4x128 .f32) (h : Fin 4) (e : Fin 64) :
    extractStridedSlice S4x8192x4x64 ![0, 0, 0, 0] q slices_S4x8192x4x128_S4x8192x4x64_0_0_0_0 (ix4 b r h e) = q (ix4 b r h ⟨e.val, by omega⟩) := by pointwise
theorem qSub_at (x y c s : FVec Ideal S4x8192x4x16 .f32) (i : S4x8192x4x16.Idx) : subf (mulf x c) (mulf y s) i = x i * c i - y i * s i := rfl
theorem qAdd_at (x y c s : FVec Ideal S4x8192x4x16 .f32) (i : S4x8192x4x16.Idx) : addf (mulf x s) (mulf y c) i = x i * s i + y i * c i := rfl

/-- The turned queries. -/
theorem qTurned_at (q : FVec Ideal S4x8192x4x96 .f32) (c s : FVec Ideal S8192x16 .f32) (h : Fin 4) (e : Fin 96) :
    qTurned q c s (ix4 b r h e) = turned (fun e => q (ix4 b r h e)) (fun i => c (ix2 r i)) (fun i => s (ix2 r i)) e := by
  rw [qTurned, joined_at]
  unfold turned
  by_cases he : e.val < 64
  · rw [dif_pos he, if_pos he, qPlain_at]
  rw [dif_neg he, if_neg he, qPair_at]
  unfold rotated
  by_cases hi : e.val - 64 < 16
  · rw [dif_pos hi, dif_pos hi, qSub_at, qTail1_at, qTail2_at, overHeads_at, overHeads_at]
    exact congrArg (fun z => _ - q (ix4 b r h z) * _) (Fin.ext (by dsimp only; omega))
  · rw [dif_neg hi, dif_neg hi, qAdd_at, qTail1_at, qTail2_at, overHeads_at, overHeads_at]
    exact congrArg (fun z => _ + q (ix4 b r h z) * _) (Fin.ext (by dsimp only; omega))

theorem kTail1_at (u : FVec Ideal S4x8192x32 .f32) (i : Fin 16) : kTail1 u (ix3 b r i) = u (ix3 b r ⟨i.val, by omega⟩) := by pointwise [kTail1]
theorem kTail2_at (u : FVec Ideal S4x8192x32 .f32) (i : Fin 16) : kTail2 u (ix3 b r i) = u (ix3 b r ⟨16 + i.val, by omega⟩) := by pointwise [kTail2]
theorem kPair_at (x y : FVec Ideal S4x8192x16 .f32) (i : Fin 32) :
    kPair x y (ix3 b r i) = if hi : i.val < 16 then x (ix3 b r ⟨i.val, hi⟩) else y (ix3 b r ⟨i.val - 16, by omega⟩) := by pointwise [kPair]
theorem kSub_at (x y c s : FVec Ideal S4x8192x16 .f32) (i : S4x8192x16.Idx) : subf (mulf x c) (mulf y s) i = x i * c i - y i * s i := rfl
theorem kAdd_at (x y c s : FVec Ideal S4x8192x16 .f32) (i : S4x8192x16.Idx) : addf (mulf x s) (mulf y c) i = x i * s i + y i * c i := rfl
theorem kShared_at (x : FVec Ideal S4x8192x32 .f32) (h : Fin 4) (i : Fin 32) :
    broadcastInDim S4x8192x4x32 ![0, 1, 2, 3] bcast_S4x8192x1x32_S4x8192x4x32_0_1_2_3 (broadcastInDim S4x8192x1x32 ![0, 1, 3] bcast_S4x8192x32_S4x8192x1x32_0_1_3 x) (ix4 b r h i) = x (ix3 b r i) := by
  pointwise

/-- The turned keys. -/
theorem kTurned_at (y : FVec Ideal S4x8192x4x128 .f32) (u : FVec Ideal S4x8192x32 .f32) (c s : FVec Ideal S8192x16 .f32) (h : Fin 4) (q : Fin 96 → EReal)
    (h0 : ∀ e : Fin 64, q ⟨e.val, by omega⟩ = y (ix4 b r h ⟨e.val, by omega⟩)) (h1 : ∀ i : Fin 32, q ⟨64 + i.val, by omega⟩ = u (ix3 b r i)) (e : Fin 96) :
    kTurned y u c s (ix4 b r h e) = turned q (fun i => c (ix2 r i)) (fun i => s (ix2 r i)) e := by
  rw [kTurned, joined_at]
  unfold turned
  by_cases he : e.val < 64
  · rw [dif_pos he, if_pos he, kPlain_at]
    exact (h0 ⟨e.val, he⟩).symm
  rw [dif_neg he, if_neg he, kShared_at, kRotated, kPair_at]
  unfold rotated
  by_cases hi : e.val - 64 < 16
  · rw [dif_pos hi, dif_pos hi, kSub_at, kTail1_at, kTail2_at, overBatch_at, overBatch_at, ← h1, ← h1]
    exact congrArg (fun z => _ - q z * _) (Fin.ext (by dsimp only; omega))
  · rw [dif_neg hi, dif_neg hi, kAdd_at, kTail1_at, kTail2_at, overBatch_at, overBatch_at, ← h1, ← h1]
    exact congrArg (fun z => _ + q z * _) (Fin.ext (by dsimp only; omega))

theorem padded_at (v : FVec Ideal S4x8192x4x96 .f32) (h : Fin 4) (d : Fin 128) : padded v (ix3 b r ⟨h.val * 128 + d.val, by omega⟩) = apart (fun e => v (ix4 b r h e)) d := by
  unfold apart
  pointwise [padded]
  rw [int_zero]

theorem queriesOf_at (q : FVec Ideal S4x8192x4x96 .f32) (h : Fin 4) (d : Fin 128) :
    queriesOf q (ix3 b ⟨h.val * 128 + d.val, by omega⟩ r) = apart (fun e => q (ix4 b r h e) * Ideal.ofBits .f32 0x3E16C740#32) d := by
  have e (v : FVec Ideal S4x8192x512 .f32) (m : Fin 512) : (truncf .bf16 (transpose S4x512x8192 [0, 2, 1] v transposes_S4x8192x512_S4x512x8192_0_2_1) bitsLt_bf16_f32 : FVec Ideal S4x512x8192 .bf16) (ix3 b m r) = v (ix3 b r m) := by
    pointwise
  rw [queriesOf, e, padded_at]
  rfl
theorem keysOf_at (k : FVec Ideal S4x8192x4x96 .f32) (h : Fin 4) (d : Fin 128) : keysOf k (ix3 b r ⟨h.val * 128 + d.val, by omega⟩) = apart (fun e => k (ix4 b r h e)) d :=
  padded_at b r k h d
theorem valuesOf_at (y : FVec Ideal S4x8192x4x128 .f32) (h : Fin 4) (e : Fin 64) : valuesOf y (ix3 b ⟨h.val * 64 + e.val, by omega⟩ r) = y (ix4 b r h ⟨64 + e.val, by omega⟩) := by
  pointwise [valuesOf]
theorem nearQ_at (p : FVec Ideal S4x8192x1952 .f32) (j : Fin 256) : nearQ p (ix3 b r j) = p (ix3 b r ⟨416 + j.val, by omega⟩) * Ideal.ofBits .f32 0x3E38AA3B#32 := by pointwise [nearQ]
theorem nearK_at (p : FVec Ideal S4x8192x1952 .f32) (j : Fin 256) : nearK p (ix3 b r j) = p (ix3 b r ⟨672 + j.val, by omega⟩) := by pointwise [nearK]
theorem nearV_at (p : FVec Ideal S4x8192x1952 .f32) (j : Fin 256) : nearV p (ix3 b r j) = p (ix3 b r ⟨928 + j.val, by omega⟩) := by pointwise [nearV]
theorem spectrum_at (p : FVec Ideal S4x8192x1952 .f32) (w : FVec Ideal S256x512 .f32) (j : Fin 512) :
    spectrum p w (ix3 b r j) = ∑ k : Fin 256, p (ix3 b r ⟨1184 + k.val, by omega⟩) * w (ix2 k j) := by
  pointwise [spectrum]
theorem gated_at (c : FVec Ideal S4x8192x512 .f32) (j : Fin 256) : gated c (ix3 b r j) = gatedHalf (c (ix3 b r ⟨j.val, by omega⟩)) (c (ix3 b r ⟨256 + j.val, by omega⟩)) := by
  unfold gatedHalf
  pointwise [gated]

end Cert.Reference3Ideal.Inproj

end
-- ==== Proof.Inproj.Angles.lean ====
/-
  The reference's rotation angles: a token's row and column in the grid of 64 columns, by integer division and
  remainder, times the frequencies. Their cosines and sines are those of the kernel's row and column parts.
-/
module

public import proofs.«01_k».proof.Proof.Inproj.Table
public import proofs.«01_k».proof.Proof.Gen.Reference3Ideal

@[expose] public section

set_option maxRecDepth 16384

noncomputable section

namespace Cert.Reference3Ideal.Inproj

open Idealize.ShloMosaic Idealize.ShloMosaic.TcCoe
open Cert.Reference3Ideal.Gen Cert.Token
open Cert.Kernel3Ideal.Inproj (rowAngles colAngles freqs cosOf sinOf)

/-- The tokens' numbers and the number of columns. -/
def tokens : IVec S8192 32 := iotaInDim S8192 32 0
def columns : IVec S_ 32 := id (constantI S_ 32 64#32)
/-- The quotient rounded toward zero, and the quotient rounded down. -/
def quotients : IVec S8192 32 := Host.divsi tokens (broadcastInDim S8192 ![] bcast_S_S8192 columns)
def rowNum : IVec S8192 32 :=
  select (andi (cmpi .ne (signi tokens) (broadcastInDim S8192 ![] bcast_S_S8192 (signi columns)))
      (cmpi .ne (Host.remsi tokens (broadcastInDim S8192 ![] bcast_S_S8192 columns)) (broadcastInDim S8192 ![] bcast_S_S8192 (constantI S_ 32 0#32))))
    (subi quotients (broadcastInDim S8192 ![] bcast_S_S8192 (constantI S_ 32 1#32))) quotients
/-- The remainder's divisor, the remainder of the dividend's sign, and the one of the divisor's sign. -/
def divisor : IVec S_ 32 := select (cmpi .eq columns (constantI S_ 32 0#32)) (constantI S_ 32 1#32) columns
def remainders : IVec S8192 32 := Host.remsi tokens (broadcastInDim S8192 ![] bcast_S_S8192 divisor)
def colNum : IVec S8192 32 :=
  select (andi (cmpi .ne (cmpi .slt remainders (broadcastInDim S8192 ![] bcast_S_S8192 (constantI S_ 32 0#32))) (broadcastInDim S8192 ![] bcast_S_S8192 (cmpi .slt divisor (constantI S_ 32 0#32))))
      (cmpi .ne remainders (broadcastInDim S8192 ![] bcast_S_S8192 (constantI S_ 32 0#32))))
    (addi remainders (broadcastInDim S8192 ![] bcast_S_S8192 divisor)) remainders

theorem rowNum_at : ∀ n : Fin 8192, rowNum (ix1 n) = BitVec.ofNat 32 (n.val / 64) := by decide +kernel
theorem colNum_at : ∀ n : Fin 8192, colNum (ix1 n) = BitVec.ofNat 32 (n.val % 64) := by decide +kernel

/-- A number per token times the frequencies. -/
def timesFreqs (x : IVec S8192 32) : FVec Ideal S8192x8 .f32 :=
  mulf (broadcastInDim S8192x8 ![0, 1] bcast_S8192x1_S8192x8_0_1 (broadcastInDim S8192x1 ![0] bcast_S8192_S8192x1_0 (sitofp .f32 x)))
    (broadcastInDim S8192x8 ![0, 1] bcast_S1x8_S8192x8_0_1 (broadcastInDim S1x8 ![1] bcast_S8_S1x8_1 freqs))
def angles : FVec Ideal S8192x16 .f32 := concatenate S8192x16 1 [⟨S8192x8, timesFreqs rowNum⟩, ⟨S8192x8, timesFreqs colNum⟩] concatenates_S8192x8_S8192x8_S8192x16_d1

theorem timesFreqs_at (x : IVec S8192 32) (n : Fin 8192) (i : Fin 8) :
    timesFreqs x (ix2 n i) = FloatOps.sitofp (F := Ideal) .f32 (x (ix1 n)) * freqs (ix1 i) := by
  pointwise [timesFreqs]
theorem rowAngles_at (n : Fin 128) (i : Fin 8) : rowAngles (ix2 n i) = FloatOps.sitofp (F := Ideal) .f32 (BitVec.ofNat 32 n.val) * freqs (ix1 i) := by
  pointwise [rowAngles]
theorem colAngles_at (n : Fin 64) (i : Fin 8) : colAngles (ix2 n i) = FloatOps.sitofp (F := Ideal) .f32 (BitVec.ofNat 32 n.val) * freqs (ix1 i) := by
  pointwise [colAngles]
theorem angles_at (n : Fin 8192) (i : Fin 16) :
    angles (ix2 n i) = if h : i.val < 8 then timesFreqs rowNum (ix2 n ⟨i.val, h⟩) else timesFreqs colNum (ix2 n ⟨i.val - 8, by omega⟩) := by
  pointwise [angles]
theorem angles_split (n : Fin 8192) (i : Fin 16) :
    angles (ix2 n i) = if h : i.val < 8 then rowAngles (ix2 ⟨n.val / 64, by omega⟩ ⟨i.val, h⟩) else colAngles (ix2 ⟨n.val % 64, by omega⟩ ⟨i.val - 8, by omega⟩) := by
  rw [angles_at]
  by_cases h : i.val < 8
  · rw [dif_pos h, dif_pos h, timesFreqs_at, rowNum_at, rowAngles_at]
  · rw [dif_neg h, dif_neg h, timesFreqs_at, colNum_at, colAngles_at]

/-- The tables of cosines and sines. -/
def cosGrid : FVec Ideal S8192x16 .f32 := Host.cos angles
def sinGrid : FVec Ideal S8192x16 .f32 := Host.sin angles

theorem cosGrid_at (n : Fin 8192) (i : Fin 16) : cosGrid (ix2 n i) = cosOf n i := by
  show FloatOps.hostUnary (F := Ideal) .cos (angles (ix2 n i)) = _
  rw [angles_split, cosOf]
  split_ifs <;> rfl
theorem sinGrid_at (n : Fin 8192) (i : Fin 16) : sinGrid (ix2 n i) = sinOf n i := by
  show FloatOps.hostUnary (F := Ideal) .sin (angles (ix2 n i)) = _
  rw [angles_split, sinOf]
  split_ifs <;> rfl

end Cert.Reference3Ideal.Inproj

end
-- ==== Proof.Inproj.Value.lean ====
/-
  The claim on the input projections: the kernel leaves the reference's eight results in its output arrays, every block
  of which is written once, and the reference leaves them too.
-/
module

public import proofs.«01_k».proof.Defs
public import proofs.«01_k».proof.Proof.Inproj.Array
public import proofs.«01_k».proof.Proof.Inproj.Block
public import proofs.«01_k».proof.Proof.Inproj.Reference
public import proofs.«01_k».proof.Proof.Inproj.Angles
public import proofs.«01_k».proof.Proof.Gen.Kernel3Ideal.Value
public import proofs.«01_k».proof.Proof.Gen.Reference3Ideal.Run

@[expose] public section

set_option maxRecDepth 16384

noncomputable section

/-! ## The reference's results as functions of its arguments -/

namespace Cert.Reference3Ideal.Inproj

open Idealize.ShloMosaic Idealize.ShloMosaic.TcCoe
open Cert.Reference3Ideal.Gen Cert.Token

variable (a0 : FVec Ideal S4x8192x1024 .f32) (a1 : FVec Ideal S4x6144 .f32) (a2 : FVec Ideal S2x1024 .f32) (a3 : FVec Ideal S2x1024x1952 .f32)
  (a4 : FVec Ideal S2x256 .f32) (a5 : FVec Ideal S2x256x384 .f32) (a6 : FVec Ideal S2x128 .f32) (a7 : FVec Ideal S2x128x512 .f32) (a8 : FVec Ideal S256x512 .f32)

/-- The projections. -/
def projections : FVec Ideal S4x8192x1952 .f32 := wide (entering a0 (gains a2) a1) (inW a3)
/-- The normed latent channels. -/
def qLatent : FVec Ideal S4x8192x256 .f32 := qNormed (pieceQ (projections a0 a1 a2 a3)) (qGains a4)
def kLatent : FVec Ideal S4x8192x128 .f32 := kNormed (pieceK (projections a0 a1 a2 a3)) (kGains a6)
def resQuery : FVec Ideal S4x512x8192 .bf16 := queriesOf (qTurned (qHeads (qLatent a0 a1 a2 a3 a4) (qW a5)) cosGrid sinGrid)
def resKey : FVec Ideal S4x8192x512 .bf16 := keysOf (kTurned (kvHeads (kLatent a0 a1 a2 a3 a6) (kvW a7)) (pieceR (projections a0 a1 a2 a3)) cosGrid sinGrid)
def resValue : FVec Ideal S4x256x8192 .bf16 := valuesOf (kvHeads (kLatent a0 a1 a2 a3 a6) (kvW a7))
def resNearQ : FVec Ideal S4x8192x256 .bf16 := nearQ (projections a0 a1 a2 a3)
def resNearK : FVec Ideal S4x8192x256 .bf16 := nearK (projections a0 a1 a2 a3)
def resNearV : FVec Ideal S4x8192x256 .bf16 := nearV (projections a0 a1 a2 a3)
def resSpectrum : FVec Ideal S4x8192x512 .bf16 := spectrum (projections a0 a1 a2 a3) a8
def resGated : FVec Ideal S4x8192x256 .f32 := gated (pieceC (projections a0 a1 a2 a3))

end Cert.Reference3Ideal.Inproj

namespace Cert.Kernel3Ideal.Inproj

open Idealize.ShloMosaic Idealize.ShloMosaic.TcCoe Idealize.SL.Sem
open Idealize.ShloMosaic.Pipeline (Dat)
open Cert.Kernel3Ideal.Gen Cert.Token

variable (m : (ℓ : Loc nD τ sig) → Buf (Elt Ideal) ℓ) (ρ : Dev nD → PrngReg) (c : Dev nD)

/-- The reference's values of the kernel's arguments. -/
def refP : FVec Ideal Cert.Reference3Ideal.S4x8192x1952 .f32 := Cert.Reference3Ideal.Inproj.projections (m ((c.tc : Thread nD τ).loc main_arg0)) (m ((c.tc : Thread nD τ).loc main_arg1)) (m ((c.tc : Thread nD τ).loc main_arg2)) (m ((c.tc : Thread nD τ).loc main_arg3))
def refQ : FVec Ideal Cert.Reference3Ideal.S4x8192x256 .f32 := Cert.Reference3Ideal.Inproj.qLatent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def refK : FVec Ideal Cert.Reference3Ideal.S4x8192x128 .f32 := Cert.Reference3Ideal.Inproj.kLatent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))

/-- The projections of a step. -/
def stepP (t : Fin cfg0.N) : FVec Ideal S1024x2048 .f32 := projected (iblk m c 0 t) (iblk m c 3 t) (iblk m c 2 t) (iblk m c 1 t) (iblk m c 4 t)

section Step
variable (t : Fin cfg0.N) (ht : t.val < 32) (r : Fin 1024)

/-- They are the reference's. -/
theorem stepP_low (j : Fin 416) : stepP m c t (ix2 r ⟨j.val, by omega⟩) = refP m c (ix3 (batch t ht) (tokenOf t r) ⟨j.val, by omega⟩) := by
  rw [stepP, projected_at, refP, Cert.Reference3Ideal.Inproj.projections, Cert.Reference3Ideal.Inproj.wide_at]
  simp only [read_x m t ht, read_gains, read_scale m t ht, read_shift m t ht, read_in, hostIn_low, Cert.Reference3Ideal.Inproj.entering_at, Cert.Reference3Ideal.Inproj.inW_at, Cert.Reference3Ideal.Inproj.gains_at]
theorem stepP_high (j : Fin 1536) : stepP m c t (ix2 r ⟨512 + j.val, by omega⟩) = refP m c (ix3 (batch t ht) (tokenOf t r) ⟨416 + j.val, by omega⟩) := by
  rw [stepP, projected_at, refP, Cert.Reference3Ideal.Inproj.projections, Cert.Reference3Ideal.Inproj.wide_at]
  simp only [read_x m t ht, read_gains, read_scale m t ht, read_shift m t ht, read_in, hostIn_high, Cert.Reference3Ideal.Inproj.entering_at, Cert.Reference3Ideal.Inproj.inW_at, Cert.Reference3Ideal.Inproj.gains_at]
theorem stepP_of (i : Fin 2048) (k : Fin 1952) (h : (i.val < 416 ∧ k.val = i.val) ∨ (512 ≤ i.val ∧ k.val + 96 = i.val)) :
    stepP m c t (ix2 r i) = refP m c (ix3 (batch t ht) (tokenOf t r) k) := by
  rcases h with ⟨h, e⟩ | ⟨h, e⟩
  · have hk : k = ⟨i.val, by omega⟩ := Fin.ext e
    exact (stepP_low m c t ht r ⟨i.val, h⟩).trans (congrArg (fun z => refP m c (ix3 (batch t ht) (tokenOf t r) z)) hk.symm)
  · have hk : k = ⟨416 + (i.val - 512), by omega⟩ := Fin.ext (by dsimp only; omega)
    have hi : i = ⟨512 + (i.val - 512), by omega⟩ := Fin.ext (by dsimp only; omega)
    exact (congrArg (fun z => stepP m c t (ix2 r z)) hi).trans ((stepP_high m c t ht r ⟨i.val - 512, by omega⟩).trans (congrArg (fun z => refP m c (ix3 (batch t ht) (tokenOf t r) z)) hk.symm))

/-- The queries' normed latent channels are the reference's. -/
theorem latentQ : (fun k => refQ m c (ix3 (batch t ht) (tokenOf t r) k))
    = normIn (Ideal.ofBits .f32 0x43800000#32) (fun j : Fin 256 => stepP m c t (ix2 r ⟨j.val, by omega⟩)) (fun j => iblk m c 5 t (ix2 0 j)) := by
  funext k
  rw [refQ, Cert.Reference3Ideal.Inproj.qLatent, Cert.Reference3Ideal.Inproj.qNormed_at]
  have e : (fun j : Fin 256 => stepP m c t (ix2 r ⟨j.val, by omega⟩)) = fun j : Fin 256 => refP m c (ix3 (batch t ht) (tokenOf t r) ⟨j.val, by omega⟩) :=
    funext fun j => stepP_of m c t ht r _ _ (.inl ⟨by dsimp only; omega, rfl⟩)
  rw [e]
  simp only [Cert.Reference3Ideal.Inproj.pieceQ_at, Cert.Reference3Ideal.Inproj.qGains_at, read_qgains]
  rfl

/-- The keys' and values' input: the reference's normed latent channels, then the channels that are turned. -/
theorem kv_low (k : Fin 128) : kvIn (stepP m c t) (iblk m c 7 t) (ix2 r ⟨k.val, by omega⟩) = refK m c (ix3 (batch t ht) (tokenOf t r) k) := by
  rw [kvIn_low, refK, Cert.Reference3Ideal.Inproj.kLatent, Cert.Reference3Ideal.Inproj.kNormed_at]
  have e : (fun j : Fin 128 => stepP m c t (ix2 r ⟨256 + j.val, by omega⟩)) = fun j : Fin 128 => refP m c (ix3 (batch t ht) (tokenOf t r) ⟨256 + j.val, by omega⟩) :=
    funext fun j => stepP_of m c t ht r _ _ (.inl ⟨by dsimp only; omega, rfl⟩)
  rw [e]
  simp only [Cert.Reference3Ideal.Inproj.pieceK_at, Cert.Reference3Ideal.Inproj.kGains_at, read_kgains]
  rfl

/-! ## What a step writes -/

theorem query_eq (h : Fin 4) (d : Fin 128) : queries (stepP m c t) (iblk m c 5 t) (iblk m c 6 t) (iblk m c 12 t) (ix3 0 ⟨h.val * 128 + d.val, by omega⟩ r)
    = Cert.Reference3Ideal.Inproj.resQuery (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 (batch t ht) ⟨h.val * 128 + d.val, by omega⟩ (tokenOf t r)) := by
  rw [queries_at r h d _ _ _ _ _ (latentQ m c t ht r), Cert.Reference3Ideal.Inproj.resQuery, Cert.Reference3Ideal.Inproj.queriesOf_at]
  simp only [read_q, hostQ_low, hostQ_high, read_tableT, table_cos, table_sin]
  rw [sum_apart (fun k => refQ m c (ix3 (batch t ht) (tokenOf t r) k)) (fun k e => (m ((c.tc : Thread nD τ).loc main_arg5)) (ix3 1 k ⟨h.val * 96 + e.val, by omega⟩)) d,
    sum_swapped (fun k => refQ m c (ix3 (batch t ht) (tokenOf t r) k)) (fun k e => (m ((c.tc : Thread nD τ).loc main_arg5)) (ix3 1 k ⟨h.val * 96 + e.val, by omega⟩)) d, turned_slots, apart_mul]
  simp only [Cert.Reference3Ideal.Inproj.qTurned_at, Cert.Reference3Ideal.Inproj.qHeads_at, Cert.Reference3Ideal.Inproj.qW_at, Cert.Reference3Ideal.Inproj.cosGrid_at, Cert.Reference3Ideal.Inproj.sinGrid_at]
  rfl

/-- A head's key before turning. -/
def keyRow (h : Fin 4) : Fin 96 → EReal :=
  keyOf (fun k => refK m c (ix3 (batch t ht) (tokenOf t r) k)) (fun i => stepP m c t (ix2 r ⟨384 + i.val, by omega⟩)) (fun l e => (m ((c.tc : Thread nD τ).loc main_arg7)) (ix3 1 l ⟨h.val * 128 + e.val, by omega⟩))

theorem key_eq (h : Fin 4) (d : Fin 128) : keys (kvIn (stepP m c t) (iblk m c 7 t)) (iblk m c 8 t) (iblk m c 11 t) (ix3 0 r ⟨h.val * 128 + d.val, by omega⟩)
    = Cert.Reference3Ideal.Inproj.resKey (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (ix3 (batch t ht) (tokenOf t r) ⟨h.val * 128 + d.val, by omega⟩) := by
  have h0 : ∀ e : Fin 64, keyRow m c t ht r h ⟨e.val, by omega⟩
      = Cert.Reference3Ideal.Inproj.kvHeads (refK m c) (Cert.Reference3Ideal.Inproj.kvW (m ((c.tc : Thread nD τ).loc main_arg7))) (ix4 (batch t ht) (tokenOf t r) h ⟨e.val, by omega⟩) := fun e => by
    rw [Cert.Reference3Ideal.Inproj.kvHeads_at, keyRow, keyOf, dif_pos e.isLt]
    simp only [Cert.Reference3Ideal.Inproj.kvW_at]
  have h1 : ∀ i : Fin 32, keyRow m c t ht r h ⟨64 + i.val, by omega⟩ = Cert.Reference3Ideal.Inproj.pieceR (refP m c) (ix3 (batch t ht) (tokenOf t r) i) := fun i => by
    rw [Cert.Reference3Ideal.Inproj.pieceR_at, keyRow, keyOf, dif_neg (by dsimp only; omega)]
    exact stepP_of m c t ht r _ _ (.inl ⟨by dsimp only; omega, by dsimp only; omega⟩)
  have rhs : Cert.Reference3Ideal.Inproj.resKey (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (ix3 (batch t ht) (tokenOf t r) ⟨h.val * 128 + d.val, by omega⟩)
      = apart (turned (keyRow m c t ht r h) (cosOf (tokenOf t r)) (sinOf (tokenOf t r))) d := by
    rw [Cert.Reference3Ideal.Inproj.resKey, Cert.Reference3Ideal.Inproj.keysOf_at]
    refine congrArg (fun q => apart q d) (funext fun e => ?_)
    refine (Cert.Reference3Ideal.Inproj.kTurned_at _ _ _ _ _ _ h _ h0 h1 e).trans ?_
    simp only [Cert.Reference3Ideal.Inproj.cosGrid_at, Cert.Reference3Ideal.Inproj.sinGrid_at]
  rw [rhs, keys_at]
  simp only [read_k, hostK_low, hostK_high, read_table, table_cos, table_sin]
  rw [key_plain (fun k => refK m c (ix3 (batch t ht) (tokenOf t r) k)) (fun k => stepP m c t (ix2 r ⟨384 + k.val, by omega⟩)) (fun l e => (m ((c.tc : Thread nD τ).loc main_arg7)) (ix3 1 l ⟨h.val * 128 + e.val, by omega⟩))
      (fun k => kvIn (stepP m c t) (iblk m c 7 t) (ix2 r k)) (fun k => kv_low m c t ht r k) (fun k => kvIn_high r k _ _) d,
    key_swap (fun k => refK m c (ix3 (batch t ht) (tokenOf t r) k)) (fun k => stepP m c t (ix2 r ⟨384 + k.val, by omega⟩)) (fun l e => (m ((c.tc : Thread nD τ).loc main_arg7)) (ix3 1 l ⟨h.val * 128 + e.val, by omega⟩))
      (fun k => kvIn (stepP m c t) (iblk m c 7 t) (ix2 r k)) (fun k => kv_low m c t ht r k) (fun k => kvIn_high r k _ _) d, turned_slots]
  rfl

theorem value_eq (h : Fin 4) (e : Fin 64) : values (kvIn (stepP m c t) (iblk m c 7 t)) (iblk m c 9 t) (ix3 0 ⟨h.val * 64 + e.val, by omega⟩ r)
    = Cert.Reference3Ideal.Inproj.resValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (ix3 (batch t ht) ⟨h.val * 64 + e.val, by omega⟩ (tokenOf t r)) := by
  rw [values_at, Cert.Reference3Ideal.Inproj.resValue, Cert.Reference3Ideal.Inproj.valuesOf_at, Cert.Reference3Ideal.Inproj.kvHeads_at]
  simp only [read_v, hostV_at, Cert.Reference3Ideal.Inproj.kvW_at]
  exact value_sum (fun k => refK m c (ix3 (batch t ht) (tokenOf t r) k)) _ (fun k => kvIn (stepP m c t) (iblk m c 7 t) (ix2 r k)) (fun k => kv_low m c t ht r k)

theorem nearQ_eq (j : Fin 256) : nearQ (stepP m c t) (ix3 0 r j) = Cert.Reference3Ideal.Inproj.resNearQ (m ((c.tc : Thread nD τ).loc main_arg0)) (m ((c.tc : Thread nD τ).loc main_arg1)) (m ((c.tc : Thread nD τ).loc main_arg2)) (m ((c.tc : Thread nD τ).loc main_arg3)) (ix3 (batch t ht) (tokenOf t r) j) := by
  rw [nearQ_at, Cert.Reference3Ideal.Inproj.resNearQ, Cert.Reference3Ideal.Inproj.nearQ_at]
  exact congrArg (fun z => z * Idealize.ShloMosaic.Ideal.ofBits .f32 0x3E38AA3B#32) (stepP_of m c t ht r _ _ (.inr ⟨by dsimp only; omega, by dsimp only; omega⟩))
theorem nearK_eq (j : Fin 256) : nearK (stepP m c t) (ix3 0 r j) = Cert.Reference3Ideal.Inproj.resNearK (m ((c.tc : Thread nD τ).loc main_arg0)) (m ((c.tc : Thread nD τ).loc main_arg1)) (m ((c.tc : Thread nD τ).loc main_arg2)) (m ((c.tc : Thread nD τ).loc main_arg3)) (ix3 (batch t ht) (tokenOf t r) j) := by
  rw [nearK_at, Cert.Reference3Ideal.Inproj.resNearK, Cert.Reference3Ideal.Inproj.nearK_at]
  exact stepP_of m c t ht r _ _ (.inr ⟨by dsimp only; omega, by dsimp only; omega⟩)
theorem nearV_eq (j : Fin 256) : nearV (stepP m c t) (ix3 0 r j) = Cert.Reference3Ideal.Inproj.resNearV (m ((c.tc : Thread nD τ).loc main_arg0)) (m ((c.tc : Thread nD τ).loc main_arg1)) (m ((c.tc : Thread nD τ).loc main_arg2)) (m ((c.tc : Thread nD τ).loc main_arg3)) (ix3 (batch t ht) (tokenOf t r) j) := by
  rw [nearV_at, Cert.Reference3Ideal.Inproj.resNearV, Cert.Reference3Ideal.Inproj.nearV_at]
  exact stepP_of m c t ht r _ _ (.inr ⟨by dsimp only; omega, by dsimp only; omega⟩)
theorem spectrum_eq (j : Fin 512) : spectrum (stepP m c t) (iblk m c 10 t) (ix3 0 r j) = Cert.Reference3Ideal.Inproj.resSpectrum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (ix3 (batch t ht) (tokenOf t r) j) := by
  rw [spectrum_at, Cert.Reference3Ideal.Inproj.resSpectrum, Cert.Reference3Ideal.Inproj.spectrum_at]
  exact Finset.sum_congr rfl fun k _ => congrArg₂ (· * ·) (stepP_of m c t ht r _ _ (.inr ⟨by dsimp only; omega, by dsimp only; omega⟩)) (read_dft m t c k j)
theorem gated_eq (j : Fin 256) : gated (stepP m c t) (ix3 0 r j) = Cert.Reference3Ideal.Inproj.resGated (m ((c.tc : Thread nD τ).loc main_arg0)) (m ((c.tc : Thread nD τ).loc main_arg1)) (m ((c.tc : Thread nD τ).loc main_arg2)) (m ((c.tc : Thread nD τ).loc main_arg3)) (ix3 (batch t ht) (tokenOf t r) j) := by
  rw [gated_at, Cert.Reference3Ideal.Inproj.resGated, Cert.Reference3Ideal.Inproj.gated_at, Cert.Reference3Ideal.Inproj.pieceC_at, Cert.Reference3Ideal.Inproj.pieceC_at]
  exact congrArg₂ gatedHalf (stepP_of m c t ht r _ _ (.inr ⟨by dsimp only; omega, by dsimp only; omega⟩)) (stepP_of m c t ht r _ _ (.inr ⟨by dsimp only; omega, by dsimp only; omega⟩))

end Step

/-! ## The output arrays at the end -/

theorem query_block (t : Fin cfg0.N) (y : S1x512x1024.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resQuery (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ((win0_13.blk t).view.emb y) := by
  have ht : t.val < 32 := t.isLt
  obtain ⟨z, a, b, rfl⟩ : ∃ (z : Fin 1) (a : Fin 512) (b : Fin 1024), y = ix3 z a b := ⟨y 0, y 1, y 2, by ext i; fin_cases i <;> rfl⟩
  obtain rfl : z = 0 := Subsingleton.elim _ _
  obtain ⟨h, d, rfl⟩ : ∃ (h : Fin 4) (d : Fin 128), a = ⟨h.val * 128 + d.val, by omega⟩ := ⟨⟨a.val / 128, by omega⟩, ⟨a.val % 128, by omega⟩, Fin.ext (by dsimp only; omega)⟩
  rw [out_qt, emb_qt t ht]
  exact query_eq m c t ht b h d
theorem query_array : (dats m 0 c).arrAt 13 cfg0.N = (Cert.Reference3Ideal.Inproj.resQuery (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S4x512x8192 .bf16) := by
  refine (dats m 0 c).arrAt_eq_of_covers 13 (Cert.Reference3Ideal.Inproj.resQuery (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (by decide +kernel) fun t _ y => ?_
  blk_simp
  rw [after0_13]
  exact query_block m c t y

theorem key_block (t : Fin cfg0.N) (y : S1x1024x512.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resKey (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) ((win0_14.blk t).view.emb y) := by
  have ht : t.val < 32 := t.isLt
  obtain ⟨z, a, b, rfl⟩ : ∃ (z : Fin 1) (a : Fin 1024) (b : Fin 512), y = ix3 z a b := ⟨y 0, y 1, y 2, by ext i; fin_cases i <;> rfl⟩
  obtain rfl : z = 0 := Subsingleton.elim _ _
  obtain ⟨h, d, rfl⟩ : ∃ (h : Fin 4) (d : Fin 128), b = ⟨h.val * 128 + d.val, by omega⟩ := ⟨⟨b.val / 128, by omega⟩, ⟨b.val % 128, by omega⟩, Fin.ext (by dsimp only; omega)⟩
  rw [out_key, emb_key t ht]
  exact key_eq m c t ht a h d
theorem key_array : (dats m 0 c).arrAt 14 cfg0.N = (Cert.Reference3Ideal.Inproj.resKey (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) : FVec Ideal S4x8192x512 .bf16) := by
  refine (dats m 0 c).arrAt_eq_of_covers 14 (Cert.Reference3Ideal.Inproj.resKey (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (by decide +kernel) fun t _ y => ?_
  blk_simp
  rw [after0_14]
  exact key_block m c t y

theorem value_block (t : Fin cfg0.N) (y : S1x256x1024.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) ((win0_15.blk t).view.emb y) := by
  have ht : t.val < 32 := t.isLt
  obtain ⟨z, a, b, rfl⟩ : ∃ (z : Fin 1) (a : Fin 256) (b : Fin 1024), y = ix3 z a b := ⟨y 0, y 1, y 2, by ext i; fin_cases i <;> rfl⟩
  obtain rfl : z = 0 := Subsingleton.elim _ _
  obtain ⟨h, d, rfl⟩ : ∃ (h : Fin 4) (d : Fin 64), a = ⟨h.val * 64 + d.val, by omega⟩ := ⟨⟨a.val / 64, by omega⟩, ⟨a.val % 64, by omega⟩, Fin.ext (by dsimp only; omega)⟩
  rw [out_vt, emb_vt t ht]
  exact value_eq m c t ht b h d
theorem value_array : (dats m 0 c).arrAt 15 cfg0.N = (Cert.Reference3Ideal.Inproj.resValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) : FVec Ideal S4x256x8192 .bf16) := by
  refine (dats m 0 c).arrAt_eq_of_covers 15 (Cert.Reference3Ideal.Inproj.resValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (by decide +kernel) fun t _ y => ?_
  blk_simp
  rw [after0_15]
  exact value_block m c t y

theorem nearQ_block (t : Fin cfg0.N) (y : S1x1024x256.Idx) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resNearQ (m ((c.tc : Thread nD τ).loc main_arg0)) (m ((c.tc : Thread nD τ).loc main_arg1)) (m ((c.tc : Thread nD τ).loc main_arg2)) (m ((c.tc : Thread nD τ).loc main_arg3)) ((win0_16.blk t).view.emb y) := by
  have ht : t.val < 32 := t.isLt
  obtain ⟨z, a, b, rfl⟩ : ∃ (z : Fin 1) (a : Fin 1024) (b : Fin 256), y = ix3 z a b := ⟨y 0, y 1, y 2, by ext i; fin_cases i <;> rfl⟩
  obtain rfl : z = 0 := Subsingleton.elim _ _
  rw [out_nq, emb_nq t ht]
  exact nearQ_eq m c t ht a b
theorem nearQ_array : (dats m 0 c).arrAt 16 cfg0.N = (Cert.Reference3Ideal.Inproj.resNearQ (m ((c.tc : Thread nD τ).loc main_arg0)) (m ((c.tc : Thread nD τ).loc main_arg1)) (m ((c.tc : Thread nD τ).loc main_arg2)) (m ((c.tc : Thread nD τ).loc main_arg3)) : FVec Ideal S4x8192x256 .bf16) := by
  refine (dats m 0 c).arrAt_eq_of_covers 16 (Cert.Reference3Ideal.Inproj.resNearQ (m ((c.tc : Thread nD τ).loc main_arg0)) (m ((c.tc : Thread nD τ).loc main_arg1)) (m ((c.tc : Thread nD τ).loc main_arg2)) (m ((c.tc : Thread nD τ).loc main_arg3))) (by decide +kernel) fun t _ y => ?_
  blk_simp
  rw [after0_16]
  exact nearQ_block m c t y

theorem nearK_block (t : Fin cfg0.N) (y : S1x1024x256.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resNearK (m ((c.tc : Thread nD τ).loc main_arg0)) (m ((c.tc : Thread nD τ).loc main_arg1)) (m ((c.tc : Thread nD τ).loc main_arg2)) (m ((c.tc : Thread nD τ).loc main_arg3)) ((win0_17.blk t).view.emb y) := by
  have ht : t.val < 32 := t.isLt
  obtain ⟨z, a, b, rfl⟩ : ∃ (z : Fin 1) (a : Fin 1024) (b : Fin 256), y = ix3 z a b := ⟨y 0, y 1, y 2, by ext i; fin_cases i <;> rfl⟩
  obtain rfl : z = 0 := Subsingleton.elim _ _
  rw [out_nk, emb_nk t ht]
  exact nearK_eq m c t ht a b
theorem nearK_array : (dats m 0 c).arrAt 17 cfg0.N = (Cert.Reference3Ideal.Inproj.resNearK (m ((c.tc : Thread nD τ).loc main_arg0)) (m ((c.tc : Thread nD τ).loc main_arg1)) (m ((c.tc : Thread nD τ).loc main_arg2)) (m ((c.tc : Thread nD τ).loc main_arg3)) : FVec Ideal S4x8192x256 .bf16) := by
  refine (dats m 0 c).arrAt_eq_of_covers 17 (Cert.Reference3Ideal.Inproj.resNearK (m ((c.tc : Thread nD τ).loc main_arg0)) (m ((c.tc : Thread nD τ).loc main_arg1)) (m ((c.tc : Thread nD τ).loc main_arg2)) (m ((c.tc : Thread nD τ).loc main_arg3))) (by decide +kernel) fun t _ y => ?_
  blk_simp
  rw [after0_17]
  exact nearK_block m c t y

theorem nearV_block (t : Fin cfg0.N) (y : S1x1024x256.Idx) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resNearV (m ((c.tc : Thread nD τ).loc main_arg0)) (m ((c.tc : Thread nD τ).loc main_arg1)) (m ((c.tc : Thread nD τ).loc main_arg2)) (m ((c.tc : Thread nD τ).loc main_arg3)) ((win0_18.blk t).view.emb y) := by
  have ht : t.val < 32 := t.isLt
  obtain ⟨z, a, b, rfl⟩ : ∃ (z : Fin 1) (a : Fin 1024) (b : Fin 256), y = ix3 z a b := ⟨y 0, y 1, y 2, by ext i; fin_cases i <;> rfl⟩
  obtain rfl : z = 0 := Subsingleton.elim _ _
  rw [out_nv, emb_nv t ht]
  exact nearV_eq m c t ht a b
theorem nearV_array : (dats m 0 c).arrAt 18 cfg0.N = (Cert.Reference3Ideal.Inproj.resNearV (m ((c.tc : Thread nD τ).loc main_arg0)) (m ((c.tc : Thread nD τ).loc main_arg1)) (m ((c.tc : Thread nD τ).loc main_arg2)) (m ((c.tc : Thread nD τ).loc main_arg3)) : FVec Ideal S4x8192x256 .bf16) := by
  refine (dats m 0 c).arrAt_eq_of_covers 18 (Cert.Reference3Ideal.Inproj.resNearV (m ((c.tc : Thread nD τ).loc main_arg0)) (m ((c.tc : Thread nD τ).loc main_arg1)) (m ((c.tc : Thread nD τ).loc main_arg2)) (m ((c.tc : Thread nD τ).loc main_arg3))) (by decide +kernel) fun t _ y => ?_
  blk_simp
  rw [after0_18]
  exact nearV_block m c t y

theorem spectrum_block (t : Fin cfg0.N) (y : S1x1024x512.Idx) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resSpectrum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) ((win0_19.blk t).view.emb y) := by
  have ht : t.val < 32 := t.isLt
  obtain ⟨z, a, b, rfl⟩ : ∃ (z : Fin 1) (a : Fin 1024) (b : Fin 512), y = ix3 z a b := ⟨y 0, y 1, y 2, by ext i; fin_cases i <;> rfl⟩
  obtain rfl : z = 0 := Subsingleton.elim _ _
  rw [out_z, emb_z t ht]
  exact spectrum_eq m c t ht a b
theorem spectrum_array : (dats m 0 c).arrAt 19 cfg0.N = (Cert.Reference3Ideal.Inproj.resSpectrum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) : FVec Ideal S4x8192x512 .bf16) := by
  refine (dats m 0 c).arrAt_eq_of_covers 19 (Cert.Reference3Ideal.Inproj.resSpectrum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))) (by decide +kernel) fun t _ y => ?_
  blk_simp
  rw [after0_19]
  exact spectrum_block m c t y

theorem gated_block (t : Fin cfg0.N) (y : S1x1024x256.Idx) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference3Ideal.Inproj.resGated (m ((c.tc : Thread nD τ).loc main_arg0)) (m ((c.tc : Thread nD τ).loc main_arg1)) (m ((c.tc : Thread nD τ).loc main_arg2)) (m ((c.tc : Thread nD τ).loc main_arg3)) ((win0_20.blk t).view.emb y) := by
  have ht : t.val < 32 := t.isLt
  obtain ⟨z, a, b, rfl⟩ : ∃ (z : Fin 1) (a : Fin 1024) (b : Fin 256), y = ix3 z a b := ⟨y 0, y 1, y 2, by ext i; fin_cases i <;> rfl⟩
  obtain rfl : z = 0 := Subsingleton.elim _ _
  rw [out_y, emb_y t ht]
  exact gated_eq m c t ht a b
theorem gated_array : (dats m 0 c).arrAt 20 cfg0.N = (Cert.Reference3Ideal.Inproj.resGated (m ((c.tc : Thread nD τ).loc main_arg0)) (m ((c.tc : Thread nD τ).loc main_arg1)) (m ((c.tc : Thread nD τ).loc main_arg2)) (m ((c.tc : Thread nD τ).loc main_arg3)) : FVec Ideal S4x8192x256 .f32) := by
  refine (dats m 0 c).arrAt_eq_of_covers 20 (Cert.Reference3Ideal.Inproj.resGated (m ((c.tc : Thread nD τ).loc main_arg0)) (m ((c.tc : Thread nD τ).loc main_arg1)) (m ((c.tc : Thread nD τ).loc main_arg2)) (m ((c.tc : Thread nD τ).loc main_arg3))) (by decide +kernel) fun t _ y => ?_
  blk_simp
  rw [after0_20]
  exact gated_block m c t y

/-- The claim. -/
theorem claim : Cert.algebraic_Kernel3Ideal_Reference3Ideal := by
  intro m g m' g' _ hagree
  refine ⟨fun c => Cert.Reference3Ideal.Inproj.resQuery (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => Cert.Reference3Ideal.Inproj.resKey (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)), fun c => Cert.Reference3Ideal.Inproj.resValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)), fun c => Cert.Reference3Ideal.Inproj.resNearQ (m ((c.tc : Thread nD τ).loc main_arg0)) (m ((c.tc : Thread nD τ).loc main_arg1)) (m ((c.tc : Thread nD τ).loc main_arg2)) (m ((c.tc : Thread nD τ).loc main_arg3)), fun c => Cert.Reference3Ideal.Inproj.resNearK (m ((c.tc : Thread nD τ).loc main_arg0)) (m ((c.tc : Thread nD τ).loc main_arg1)) (m ((c.tc : Thread nD τ).loc main_arg2)) (m ((c.tc : Thread nD τ).loc main_arg3)), fun c => Cert.Reference3Ideal.Inproj.resNearV (m ((c.tc : Thread nD τ).loc main_arg0)) (m ((c.tc : Thread nD τ).loc main_arg1)) (m ((c.tc : Thread nD τ).loc main_arg2)) (m ((c.tc : Thread nD τ).loc main_arg3)), fun c => Cert.Reference3Ideal.Inproj.resSpectrum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)), fun c => Cert.Reference3Ideal.Inproj.resGated (m ((c.tc : Thread nD τ).loc main_arg0)) (m ((c.tc : Thread nD τ).loc main_arg1)) (m ((c.tc : Thread nD τ).loc main_arg2)) (m ((c.tc : Thread nD τ).loc main_arg3)), ?_, ?_⟩
  · refine (θ_run defs _ _).mono (fun r h c => ?_) (Value.run_blocks m g)
    obtain ⟨e0, e1, e2, e3, e4, e5, e6, e7, rest⟩ := h c
    exact ⟨e0.trans (query_array m c), e1.trans (key_array m c), e2.trans (value_array m c), e3.trans (nearQ_array m c), e4.trans (nearK_array m c), e5.trans (nearV_array m c), e6.trans (spectrum_array m c), e7.trans (gated_array m c), rest⟩
  · refine (θ_run Cert.Reference3Ideal.defs _ _).mono (fun r h c => ?_) (Cert.Reference3Ideal.Value.run (F := Ideal) m' g')
    obtain ⟨h0, h1, h2, h3, h4, h5, h6, h7, h8⟩ := hagree c
    obtain ⟨e0, e1, e2, e3, e4, e5, e6, e7, rest⟩ := h c
    refine ⟨e0.trans ?_, e1.trans ?_, e2.trans ?_, e3.trans ?_, e4.trans ?_, e5.trans ?_, e6.trans ?_, e7.trans ?_, rest⟩
    · beta_reduce; rw [← h0, ← h1, ← h2, ← h3, ← h4, ← h5]; rfl
    · beta_reduce; rw [← h0, ← h1, ← h2, ← h3, ← h6, ← h7]; rfl
    · beta_reduce; rw [← h0, ← h1, ← h2, ← h3, ← h6, ← h7]; rfl
    · beta_reduce; rw [← h0, ← h1, ← h2, ← h3]; rfl
    · beta_reduce; rw [← h0, ← h1, ← h2, ← h3]; rfl
    · beta_reduce; rw [← h0, ← h1, ← h2, ← h3]; rfl
    · beta_reduce; rw [← h0, ← h1, ← h2, ← h3, ← h8]; rfl
    · beta_reduce; rw [← h0, ← h1, ← h2, ← h3]; rfl

end Cert.Kernel3Ideal.Inproj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Pre_finite_scores
public import proofs.«01_k».proof.Proof.Flash.Words
public import proofs.«01_k».proof.Proof.Flash.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Mlp.Value
public import proofs.«01_k».proof.Proof.Inproj.Value
public import proofs.«01_k».proof.Proof.Gen.Reference2Ideal.Run
public import proofs.«01_k».proof.Proof.Gen.Kernel2Ideal.Value
public import Idealize.ShloMosaic.Lib.Claim

@[expose] public section

noncomputable section

namespace Cert.Proof

open Idealize.ShloMosaic Idealize.SL.Sem Cert.Kernel

/-- The attention call's frame at the extended reals. -/
theorem frame1 : Cert.quiescent_KernelIdeal := fun m g _ => Cert.KernelIdeal.Flash.frame m g

/-- The attention reference's frame: host operations only. -/
theorem reference1 : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- The second reference's frame. -/
theorem reference2 : Cert.quiescent_Reference2Ideal := fun m g _ =>
  (θ_run Cert.Reference2Ideal.defs _ _).mono (fun r h => ⟨fun c => (h c).2, sem_eq_zero_of_no_sems (by decide) r.2⟩) (Cert.Reference2Ideal.Value.run (F := Ideal) m g)

/-- The third reference's frame. -/
theorem reference3 : Cert.quiescent_Reference3Ideal := fun m g _ =>
  (θ_run Cert.Reference3Ideal.defs _ _).mono (fun r h => ⟨fun c => (h c).2.2.2.2.2.2.2.2, sem_eq_zero_of_no_sems (by decide) r.2⟩) (Cert.Reference3Ideal.Value.run (F := Ideal) m g)

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_scores.Gen.facts,
    Cert.KernelIdeal.Flash.frame_words,
    frame1, fun m g _ => frame1 m g trivial,
    reference1, fun m g _ => reference1 m g trivial,
    fun m g _ => Cert.Kernel2.Gen.frame m g,
    fun m g _ => Cert.Kernel2Ideal.Gen.frame m g,
    reference2,
    fun m g _ => Cert.Kernel3.Gen.frame m g,
    fun m g _ => Cert.Kernel3Ideal.Gen.frame m g,
    reference3,
    trivial,
    Cert.KernelIdeal.Flash.claim,
    trivial,
    Cert.Kernel2Ideal.Mlp.claim,
    trivial,
    Cert.Kernel3Ideal.Inproj.claim⟩

end Cert.Proof

end
